-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables_of_occurrences [hPre_tables_of_occurrences : Cert.Pre_tables_of_occurrences.Facts] (m : (ℓ : Loc Cert.KernelIdeal.nD Cert.KernelIdeal.τ Cert.KernelIdeal.sig) → Buf (Elt Ideal) ℓ) : Prop :=
  ∀ c : Dev Cert.KernelIdeal.nD,
    (Cert.Pre_tables_of_occurrences.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_tables_of_occurrences.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_tables_of_occurrences.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_of_occurrences [hPre_tables_of_occurrences : Cert.Pre_tables_of_occurrences.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_of_occurrences.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_tables_of_occurrences.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_tables_of_occurrences.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_Gather (m : (ℓ : Loc Cert.Gather.nD Cert.Gather.τ Cert.Gather.sig) → Buf (Elt Bits) ℓ) : Prop :=
  True

def Pre_Gather_rows_sorted [hPre_rows_sorted : Cert.Pre_rows_sorted.Facts] (m : (ℓ : Loc Cert.Gather.nD Cert.Gather.τ Cert.Gather.sig) → Buf (Elt Bits) ℓ) : Prop :=
  ∀ c : Dev Cert.Gather.nD,
    (Cert.Pre_rows_sorted.fn (F := Bits) (m ((c.tc : Thread Cert.Gather.nD Cert.Gather.τ).loc Cert.Gather.main_arg0)) (m ((c.tc : Thread Cert.Gather.nD Cert.Gather.τ).loc Cert.Gather.main_arg1))).1 = (fun _ => 1#1)
    ∧ (Cert.Pre_rows_sorted.fn (F := Bits) (m ((c.tc : Thread Cert.Gather.nD Cert.Gather.τ).loc Cert.Gather.main_arg0)) (m ((c.tc : Thread Cert.Gather.nD Cert.Gather.τ).loc Cert.Gather.main_arg1))).2 = (fun _ => 1#1)

def Pre_GatherReference (m : (ℓ : Loc Cert.GatherReference.nD Cert.GatherReference.τ Cert.GatherReference.sig) → Buf (Elt Bits) ℓ) : Prop :=
  True

def Pre_GatherReference_rows_sorted [hPre_rows_sorted : Cert.Pre_rows_sorted.Facts] (m : (ℓ : Loc Cert.GatherReference.nD Cert.GatherReference.τ Cert.GatherReference.sig) → Buf (Elt Bits) ℓ) : Prop :=
  ∀ c : Dev Cert.GatherReference.nD,
    (Cert.Pre_rows_sorted.fn (F := Bits) (m ((c.tc : Thread Cert.GatherReference.nD Cert.GatherReference.τ).loc Cert.GatherReference.main_arg0)) (m ((c.tc : Thread Cert.GatherReference.nD Cert.GatherReference.τ).loc Cert.GatherReference.main_arg1))).1 = (fun _ => 1#1)
    ∧ (Cert.Pre_rows_sorted.fn (F := Bits) (m ((c.tc : Thread Cert.GatherReference.nD Cert.GatherReference.τ).loc Cert.GatherReference.main_arg0)) (m ((c.tc : Thread Cert.GatherReference.nD Cert.GatherReference.τ).loc Cert.GatherReference.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tables_of_occurrences [hKernelIdeal : Cert.KernelIdeal.Facts] [hPre_tables_of_occurrences : Cert.Pre_tables_of_occurrences.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_of_occurrences m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tables_of_occurrences [hReferenceIdeal : Cert.ReferenceIdeal.Facts] [hPre_tables_of_occurrences : Cert.Pre_tables_of_occurrences.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_of_occurrences m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_Gather_pre_rows_sorted [hGather : Cert.Gather.Facts] [hPre_rows_sorted : Cert.Pre_rows_sorted.Facts] : Prop :=
  ∀ (m : (ℓ : Loc Cert.Gather.nD Cert.Gather.τ Cert.Gather.sig) → Buf (Elt Bits) ℓ) (g : Dev Cert.Gather.nD → PrngReg), Pre_Gather_rows_sorted m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_GatherReference_pre_rows_sorted [hGatherReference : Cert.GatherReference.Facts] [hPre_rows_sorted : Cert.Pre_rows_sorted.Facts] : Prop :=
  ∀ (m : (ℓ : Loc Cert.GatherReference.nD Cert.GatherReference.τ Cert.GatherReference.sig) → Buf (Elt Bits) ℓ) (g : Dev Cert.GatherReference.nD → PrngReg), Pre_GatherReference_rows_sorted m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def preserves_Kernel_KernelIdeal : Prop :=
  True

def algebraic_KernelIdeal_ReferenceIdeal_pre_tables_of_occurrences [hKernelIdeal : Cert.KernelIdeal.Facts] [hReferenceIdeal : Cert.ReferenceIdeal.Facts] [hPre_tables_of_occurrences : Cert.Pre_tables_of_occurrences.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_of_occurrences m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def bitexact_Gather_GatherReference_pre_rows_sorted [hGather : Cert.Gather.Facts] [hGatherReference : Cert.GatherReference.Facts] [hPre_rows_sorted : Cert.Pre_rows_sorted.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather_rows_sorted m →
    (∀ c : Dev Cert.Gather.nD,
      m' ((c.tc : Thread Cert.GatherReference.nD Cert.GatherReference.τ).loc Cert.GatherReference.main_arg0) = m ((c.tc : Thread Cert.Gather.nD Cert.Gather.τ).loc Cert.Gather.main_arg0)
      ∧ m' ((c.tc : Thread Cert.GatherReference.nD Cert.GatherReference.τ).loc Cert.GatherReference.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v2)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v2) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r => ∀ c : Dev Cert.GatherReference.nD,
          r.2.mem ((c.tc : Thread Cert.GatherReference.nD Cert.GatherReference.τ).loc Cert.GatherReference.main_v9) = v0 c
          ∧ r.2.mem ((c.tc : Thread Cert.GatherReference.nD Cert.GatherReference.τ).loc Cert.GatherReference.main_arg0) = m' ((c.tc : Thread Cert.GatherReference.nD Cert.GatherReference.τ).loc Cert.GatherReference.main_arg0)
          ∧ r.2.mem ((c.tc : Thread Cert.GatherReference.nD Cert.GatherReference.τ).loc Cert.GatherReference.main_arg1) = m' ((c.tc : Thread Cert.GatherReference.nD Cert.GatherReference.τ).loc Cert.GatherReference.main_arg1))

def Claim : Prop :=
  ∃ (hKernel : Cert.Kernel.Facts) (hKernelIdeal : Cert.KernelIdeal.Facts) (hReferenceIdeal : Cert.ReferenceIdeal.Facts) (hGather : Cert.Gather.Facts) (hGatherReference : Cert.GatherReference.Facts) (hPre_tables_of_occurrences : Cert.Pre_tables_of_occurrences.Facts) (hPre_rows_sorted : Cert.Pre_rows_sorted.Facts),
    quiescent_Kernel (hKernel := hKernel)
    ∧ quiescent_KernelIdeal (hKernelIdeal := hKernelIdeal)
    ∧ quiescent_KernelIdeal_pre_tables_of_occurrences (hKernelIdeal := hKernelIdeal) (hPre_tables_of_occurrences := hPre_tables_of_occurrences)
    ∧ quiescent_ReferenceIdeal (hReferenceIdeal := hReferenceIdeal)
    ∧ quiescent_ReferenceIdeal_pre_tables_of_occurrences (hReferenceIdeal := hReferenceIdeal) (hPre_tables_of_occurrences := hPre_tables_of_occurrences)
    ∧ quiescent_Gather (hGather := hGather)
    ∧ quiescent_Gather_pre_rows_sorted (hGather := hGather) (hPre_rows_sorted := hPre_rows_sorted)
    ∧ quiescent_GatherReference (hGatherReference := hGatherReference)
    ∧ quiescent_GatherReference_pre_rows_sorted (hGatherReference := hGatherReference) (hPre_rows_sorted := hPre_rows_sorted)
    ∧ preserves_Kernel_KernelIdeal
    ∧ algebraic_KernelIdeal_ReferenceIdeal_pre_tables_of_occurrences (hKernelIdeal := hKernelIdeal) (hReferenceIdeal := hReferenceIdeal) (hPre_tables_of_occurrences := hPre_tables_of_occurrences)
    ∧ bitexact_Gather_GatherReference_pre_rows_sorted (hGather := hGather) (hGatherReference := hGatherReference) (hPre_rows_sorted := hPre_rows_sorted)
-- ==== Pre_rows_sorted.lean ====
abbrev S18432 : Shape := ⟨1, ![18432]⟩
abbrev S1100000x320 : Shape := ⟨2, ![1100000, 320]⟩
abbrev S_ : Shape := ⟨0, ![]⟩
abbrev S18431 : Shape := ⟨1, ![18431]⟩

class Facts : Prop where
  bcast_S_S18432 : S_.BroadcastsInDim S18432 (![] : Fin 0 → Fin S18432.rank)
  slices_S18432_S18431_0 : S18432.Slices ![0] S18431
  slices_S18432_S18431_1 : S18432.Slices ![1] S18431

variable [Facts]

def fn {F : FTy → Type} [FloatOps F] (main_arg0 : IVec S18432 32) (main_arg1 : IVec S1100000x320 8) : IVec S18432 1 × IVec S18431 1 :=
  let main_c : IVec S_ 32 := constantI S_ 32 0#32
  let main_v0 : IVec S18432 32 := broadcastInDim S18432 ![] bcast_S_S18432 main_c
  let main_v1 : IVec S18432 1 := cmpi .sge main_arg0 main_v0
  let main_c_0 : IVec S_ 32 := constantI S_ 32 1100000#32
  let main_v2 : IVec S18432 32 := broadcastInDim S18432 ![] bcast_S_S18432 main_c_0
  let main_v3 : IVec S18432 1 := cmpi .slt main_arg0 main_v2
  let main_v4 : IVec S18432 1 := andi main_v1 main_v3
  let main_v5 : IVec S18431 32 := (extractStridedSlice S18431 ![0] · slices_S18432_S18431_0) main_arg0
  let main_v6 : IVec S18431 32 := (extractStridedSlice S18431 ![1] · slices_S18432_S18431_1) main_arg0
  let main_v7 : IVec S18431 1 := cmpi .sle main_v5 main_v6
  (main_v4, main_v7)
-- ==== Pre_tables_of_occurrences.lean ====
abbrev S3538944 : Shape := ⟨1, ![3538944]⟩
abbrev S147456 : Shape := ⟨1, ![147456]⟩
abbrev S80x18432 : Shape := ⟨2, ![80, 18432]⟩
abbrev S18432 : Shape := ⟨1, ![18432]⟩
abbrev S3x256x320 : Shape := ⟨3, ![3, 256, 320]⟩
abbrev S73728 : Shape := ⟨1, ![73728]⟩
abbrev S_ : Shape := ⟨0, ![]⟩
abbrev S14155776 : Shape := ⟨1, ![14155776]⟩
abbrev S73728x1 : Shape := ⟨2, ![73728, 1]⟩
abbrev S8x3x8x4x4x36x128 : Shape := ⟨7, ![8, 3, 8, 4, 4, 36, 128]⟩
abbrev S8x3x8x1x4x36x128 : Shape := ⟨7, ![8, 3, 8, 1, 4, 36, 128]⟩
abbrev S8x3x8x4x36x128 : Shape := ⟨6, ![8, 3, 8, 4, 36, 128]⟩
abbrev S8x4x3x36x8x128 : Shape := ⟨6, ![8, 4, 3, 36, 8, 128]⟩
abbrev S8x18432 : Shape := ⟨2, ![8, 18432]⟩
abbrev S8x96x18432 : Shape := ⟨3, ![8, 96, 18432]⟩

class Facts : Prop where
  bcast_S_S73728 : S_.BroadcastsInDim S73728 (![] : Fin 0 → Fin S73728.rank)
  bcast_S_S14155776 : S_.BroadcastsInDim S14155776 (![] : Fin 0 → Fin S14155776.rank)
  bcast_S73728_S73728x1_0 : S73728.BroadcastsInDim S73728x1 (![0] : Fin 1 → Fin S73728x1.rank)
  shapeCasts_S14155776_S8x3x8x4x4x36x128 : S14155776.ShapeCasts S8x3x8x4x4x36x128
  slices_S8x3x8x4x4x36x128_S8x3x8x1x4x36x128_0_0_0_0_0_0_0 : S8x3x8x4x4x36x128.Slices ![0, 0, 0, 0, 0, 0, 0] S8x3x8x1x4x36x128
  shapeCasts_S8x3x8x1x4x36x128_S8x3x8x4x36x128 : S8x3x8x1x4x36x128.ShapeCasts S8x3x8x4x36x128
  slices_S8x3x8x4x4x36x128_S8x3x8x1x4x36x128_0_0_0_1_0_0_0 : S8x3x8x4x4x36x128.Slices ![0, 0, 0, 1, 0, 0, 0] S8x3x8x1x4x36x128
  bcast_S_S8x3x8x4x36x128 : S_.BroadcastsInDim S8x3x8x4x36x128 (![] : Fin 0 → Fin S8x3x8x4x36x128.rank)
  slices_S8x3x8x4x4x36x128_S8x3x8x1x4x36x128_0_0_0_2_0_0_0 : S8x3x8x4x4x36x128.Slices ![0, 0, 0, 2, 0, 0, 0] S8x3x8x1x4x36x128
  slices_S8x3x8x4x4x36x128_S8x3x8x1x4x36x128_0_0_0_3_0_0_0 : S8x3x8x4x4x36x128.Slices ![0, 0, 0, 3, 0, 0, 0] S8x3x8x1x4x36x128
  shapeCasts_S3538944_S8x4x3x36x8x128 : S3538944.ShapeCasts S8x4x3x36x8x128
  transposes_S8x3x8x4x36x128_S8x4x3x36x8x128_0_3_1_4_2_5 : S8x3x8x4x36x128.Transposes [0, 3, 1, 4, 2, 5] S8x4x3x36x8x128
  shapeCasts_S147456_S8x18432 : S147456.ShapeCasts S8x18432
  shapeCasts_S14155776_S8x96x18432 : S14155776.ShapeCasts S8x96x18432
  reducesTo_S8x96x18432_S8x18432_d1 : S8x96x18432.ReducesTo [1] S8x18432
  h_S_ : 0 < S_.numel
  scatter_S14155776_S73728x1_S73728_n_0_0_1_wf : ScatterDims.WF S14155776 S73728x1 S73728 [] [0] [0] 1

variable [Facts]

def scatter_S14155776_S73728x1_S73728_n_0_0_1 : ScatterDims S14155776 S73728x1 S73728 where
  updateWindowDims := []
  insertedWindowDims := [0]
  scatterDimsToOperandDims := [0]
  indexVectorDim := 1
  wf := scatter_S14155776_S73728x1_S73728_n_0_0_1_wf
def fn_part2 {F : FTy → Type} [FloatOps F] (main_arg0 : IVec S3538944 32) (main_arg1 : IVec S147456 32) (main_v10 : IVec S73728 1) (main_v22 : IVec S14155776 32) (main_v35 : IVec S8x3x8x4x36x128 32) (main_v36 : IVec S8x3x8x1x4x36x128 32) : IVec S73728 1 × IVec S8x4x3x36x8x128 1 × IVec S8x18432 1 :=
  let main_v37 : IVec S8x3x8x4x36x128 32 := shapeCast S8x3x8x4x36x128 main_v36 shapeCasts_S8x3x8x1x4x36x128_S8x3x8x4x36x128
  let main_c_10 : IVec S_ 32 := constantI S_ 32 16777216#32
  let main_v38 : IVec S8x3x8x4x36x128 32 := broadcastInDim S8x3x8x4x36x128 ![] bcast_S_S8x3x8x4x36x128 main_c_10
  let main_v39 : IVec S8x3x8x4x36x128 32 := muli main_v37 main_v38
  let main_v40 : IVec S8x3x8x4x36x128 32 := addi main_v35 main_v39
  let main_v41 : IVec S8x4x3x36x8x128 32 := shapeCast S8x4x3x36x8x128 main_arg0 shapeCasts_S3538944_S8x4x3x36x8x128
  let main_v42 : IVec S8x4x3x36x8x128 32 := (transpose S8x4x3x36x8x128 [0, 3, 1, 4, 2, 5] · transposes_S8x3x8x4x36x128_S8x4x3x36x8x128_0_3_1_4_2_5) main_v40
  let main_v43 : IVec S8x4x3x36x8x128 1 := cmpi .eq main_v41 main_v42
  let main_v44 : IVec S8x18432 32 := shapeCast S8x18432 main_arg1 shapeCasts_S147456_S8x18432
  let main_v45 : IVec S8x96x18432 32 := shapeCast S8x96x18432 main_v22 shapeCasts_S14155776_S8x96x18432
  let main_c_11 : IVec S_ 32 := constantI S_ 32 0#32
  let main_v46 : IVec S8x18432 32 := (fun x v => Host.reduce IntOp.addi x v reducesTo_S8x96x18432_S8x18432_d1 h_S_) main_v45 main_c_11
  let main_v47 : IVec S8x18432 1 := cmpi .eq main_v44 main_v46
  (main_v10, main_v43, main_v47)

def fn_part1 {F : FTy → Type} [FloatOps F] (main_arg0 : IVec S3538944 32) (main_arg1 : IVec S147456 32) (main_v10 : IVec S73728 1) (main_v11 : IVec S14155776 32) (main_v14 : IVec S73728 32) (main_v16 : IVec S73728 1) : IVec S73728 1 × IVec S8x4x3x36x8x128 1 × IVec S8x18432 1 :=
  let main_c_6 : IVec S_ 32 := constantI S_ 32 14155776#32
  let main_v17 : IVec S73728 32 := broadcastInDim S73728 ![] bcast_S_S73728 main_c_6
  let main_v18 : IVec S73728 32 := addi main_v14 main_v17
  let main_v19 : IVec S73728 32 := select main_v16 main_v18 main_v14
  let main_v20 : IVec S73728x1 32 := broadcastInDim S73728x1 ![0] bcast_S73728_S73728x1_0 main_v19
  let main_c_7 : IVec S_ 32 := constantI S_ 32 1#32
  let main_v21 : IVec S73728 32 := broadcastInDim S73728 ![] bcast_S_S73728 main_c_7
  let main_v22 : IVec S14155776 32 := (fun x i u => Host.scatter scatter_S14155776_S73728x1_S73728_n_0_0_1 IntOp.addi x i u) main_v11 main_v20 main_v21
  let main_v23 : IVec S8x3x8x4x4x36x128 32 := shapeCast S8x3x8x4x4x36x128 main_v22 shapeCasts_S14155776_S8x3x8x4x4x36x128
  let main_v24 : IVec S8x3x8x1x4x36x128 32 := (extractStridedSlice S8x3x8x1x4x36x128 ![0, 0, 0, 0, 0, 0, 0] · slices_S8x3x8x4x4x36x128_S8x3x8x1x4x36x128_0_0_0_0_0_0_0) main_v23
  let main_v25 : IVec S8x3x8x4x36x128 32 := shapeCast S8x3x8x4x36x128 main_v24 shapeCasts_S8x3x8x1x4x36x128_S8x3x8x4x36x128
  let main_v26 : IVec S8x3x8x1x4x36x128 32 := (extractStridedSlice S8x3x8x1x4x36x128 ![0, 0, 0, 1, 0, 0, 0] · slices_S8x3x8x4x4x36x128_S8x3x8x1x4x36x128_0_0_0_1_0_0_0) main_v23
  let main_v27 : IVec S8x3x8x4x36x128 32 := shapeCast S8x3x8x4x36x128 main_v26 shapeCasts_S8x3x8x1x4x36x128_S8x3x8x4x36x128
  let main_c_8 : IVec S_ 32 := constantI S_ 32 256#32
  let main_v28 : IVec S8x3x8x4x36x128 32 := broadcastInDim S8x3x8x4x36x128 ![] bcast_S_S8x3x8x4x36x128 main_c_8
  let main_v29 : IVec S8x3x8x4x36x128 32 := muli main_v27 main_v28
  let main_v30 : IVec S8x3x8x4x36x128 32 := addi main_v25 main_v29
  let main_v31 : IVec S8x3x8x1x4x36x128 32 := (extractStridedSlice S8x3x8x1x4x36x128 ![0, 0, 0, 2, 0, 0, 0] · slices_S8x3x8x4x4x36x128_S8x3x8x1x4x36x128_0_0_0_2_0_0_0) main_v23
  let main_v32 : IVec S8x3x8x4x36x128 32 := shapeCast S8x3x8x4x36x128 main_v31 shapeCasts_S8x3x8x1x4x36x128_S8x3x8x4x36x128
  let main_c_9 : IVec S_ 32 := constantI S_ 32 65536#32
  let main_v33 : IVec S8x3x8x4x36x128 32 := broadcastInDim S8x3x8x4x36x128 ![] bcast_S_S8x3x8x4x36x128 main_c_9
  let main_v34 : IVec S8x3x8x4x36x128 32 := muli main_v32 main_v33
  let main_v35 : IVec S8x3x8x4x36x128 32 := addi main_v30 main_v34
  let main_v36 : IVec S8x3x8x1x4x36x128 32 := (extractStridedSlice S8x3x8x1x4x36x128 ![0, 0, 0, 3, 0, 0, 0] · slices_S8x3x8x4x4x36x128_S8x3x8x1x4x36x128_0_0_0_3_0_0_0) main_v23
  fn_part2 (F := F) main_arg0 main_arg1 main_v10 main_v22 main_v35 main_v36

def fn {F : FTy → Type} [FloatOps F] (main_arg0 : IVec S3538944 32) (main_arg1 : IVec S147456 32) (main_arg2 : IVec S80x18432 32) (main_arg3 : FVec F S18432 .f32) (main_arg4 : FVec F S18432 .f32) (main_arg5 : FVec F S18432 .f32) (main_arg6 : FVec F S3x256x320 .bf16) (main_arg7 : IVec S73728 32) (main_arg8 : IVec S73728 32) : IVec S73728 1 × IVec S8x4x3x36x8x128 1 × IVec S8x18432 1 :=
  let main_c : IVec S_ 32 := constantI S_ 32 0#32
  let main_v0 : IVec S73728 32 := broadcastInDim S73728 ![] bcast_S_S73728 main_c
  let main_v1 : IVec S73728 1 := cmpi .sge main_arg7 main_v0
  let main_c_0 : IVec S_ 32 := constantI S_ 32 768#32
  let main_v2 : IVec S73728 32 := broadcastInDim S73728 ![] bcast_S_S73728 main_c_0
  let main_v3 : IVec S73728 1 := cmpi .slt main_arg7 main_v2
  let main_v4 : IVec S73728 1 := andi main_v1 main_v3
  let main_c_1 : IVec S_ 32 := constantI S_ 32 0#32
  let main_v5 : IVec S73728 32 := broadcastInDim S73728 ![] bcast_S_S73728 main_c_1
  let main_v6 : IVec S73728 1 := cmpi .sge main_arg8 main_v5
  let main_v7 : IVec S73728 1 := andi main_v4 main_v6
  let main_c_2 : IVec S_ 32 := constantI S_ 32 18432#32
  let main_v8 : IVec S73728 32 := broadcastInDim S73728 ![] bcast_S_S73728 main_c_2
  let main_v9 : IVec S73728 1 := cmpi .slt main_arg8 main_v8
  let main_v10 : IVec S73728 1 := andi main_v7 main_v9
  let main_c_3 : IVec S_ 32 := constantI S_ 32 0#32
  let main_v11 : IVec S14155776 32 := broadcastInDim S14155776 ![] bcast_S_S14155776 main_c_3
  let main_c_4 : IVec S_ 32 := constantI S_ 32 18432#32
  let main_v12 : IVec S73728 32 := broadcastInDim S73728 ![] bcast_S_S73728 main_c_4
  let main_v13 : IVec S73728 32 := muli main_arg7 main_v12
  let main_v14 : IVec S73728 32 := addi main_v13 main_arg8
  let main_c_5 : IVec S_ 32 := constantI S_ 32 0#32
  let main_v15 : IVec S73728 32 := broadcastInDim S73728 ![] bcast_S_S73728 main_c_5
  let main_v16 : IVec S73728 1 := cmpi .slt main_v14 main_v15
  fn_part1 (F := F) main_arg0 main_arg1 main_v10 main_v11 main_v14 main_v16
-- ==== Kernel.lean ====
abbrev S3538944 : Shape := ⟨1, ![3538944]⟩
abbrev S147456 : Shape := ⟨1, ![147456]⟩
abbrev S80x18432 : Shape := ⟨2, ![80, 18432]⟩
abbrev S18432 : Shape := ⟨1, ![18432]⟩
abbrev S3x256x320 : Shape := ⟨3, ![3, 256, 320]⟩
abbrev S73728 : Shape := ⟨1, ![73728]⟩
abbrev S8x4x3x36x8x128 : Shape := ⟨6, ![8, 4, 3, 36, 8, 128]⟩
abbrev S8x18432 : Shape := ⟨2, ![8, 18432]⟩
abbrev S144x128 : Shape := ⟨2, ![144, 128]⟩
abbrev S3x320x256 : Shape := ⟨3, ![3, 320, 256]⟩
abbrev S144x512 : Shape := ⟨2, ![144, 512]⟩
abbrev S320x18432 : Shape := ⟨2, ![320, 18432]⟩
abbrev S8x1x3x4x8x128 : Shape := ⟨6, ![8, 1, 3, 4, 8, 128]⟩
abbrev S8x512 : Shape := ⟨2, ![8, 512]⟩
abbrev S80x512 : Shape := ⟨2, ![80, 512]⟩
abbrev S320x512 : Shape := ⟨2, ![320, 512]⟩
abbrev S3x336x256 : Shape := ⟨3, ![3, 336, 256]⟩
abbrev S1x512 : Shape := ⟨2, ![1, 512]⟩
abbrev S_ : Shape := ⟨0, ![]⟩
abbrev S3x16x256 : Shape := ⟨3, ![3, 16, 256]⟩
abbrev S1x1x1x1x8x128 : Shape := ⟨6, ![1, 1, 1, 1, 8, 128]⟩
abbrev S8x128 : Shape := ⟨2, ![8, 128]⟩
abbrev S192x512 : Shape := ⟨2, ![192, 512]⟩
abbrev S768x512 : Shape := ⟨2, ![768, 512]⟩
abbrev S336x512 : Shape := ⟨2, ![336, 512]⟩
abbrev S1x336x256 : Shape := ⟨3, ![1, 336, 256]⟩
abbrev S336x256 : Shape := ⟨2, ![336, 256]⟩
abbrev S256x512 : Shape := ⟨2, ![256, 512]⟩
abbrev S512 : Shape := ⟨1, ![512]⟩
abbrev S1x1x512 : Shape := ⟨3, ![1, 1, 512]⟩
abbrev S1 : Shape := ⟨1, ![1]⟩
abbrev S1x1x1 : Shape := ⟨3, ![1, 1, 1]⟩
abbrev S1x320x256 : Shape := ⟨3, ![1, 320, 256]⟩
abbrev S320x256 : Shape := ⟨2, ![320, 256]⟩
abbrev S512x512 : Shape := ⟨2, ![512, 512]⟩
abbrev S320x128 : Shape := ⟨2, ![320, 128]⟩
abbrev S80x128 : Shape := ⟨2, ![80, 128]⟩
abbrev S1x128 : Shape := ⟨2, ![1, 128]⟩
abbrev S128 : Shape := ⟨1, ![128]⟩

abbrev nBuf : Space → Nat
  | .hbm => 21
  | .vmem => 19
  | .smem => 0
  | _ => 0

abbrev bufTy : (tb : Table) → Fin (tcTables nBuf tb) → BufTy
  | .hbm, ⟨0, _⟩ => ⟨S3538944, .i32⟩
  | .hbm, ⟨1, _⟩ => ⟨S147456, .i32⟩
  | .hbm, ⟨2, _⟩ => ⟨S80x18432, .i32⟩
  | .hbm, ⟨3, _⟩ => ⟨S18432, .f32⟩
  | .hbm, ⟨4, _⟩ => ⟨S18432, .f32⟩
  | .hbm, ⟨5, _⟩ => ⟨S18432, .f32⟩
  | .hbm, ⟨6, _⟩ => ⟨S3x256x320, .bf16⟩
  | .hbm, ⟨7, _⟩ => ⟨S73728, .i32⟩
  | .hbm, ⟨8, _⟩ => ⟨S73728, .i32⟩
  | .hbm, ⟨9, _⟩ => ⟨S8x4x3x36x8x128, .i32⟩
  | .hbm, ⟨10, _⟩ => ⟨S8x18432, .i32⟩
  | .hbm, ⟨11, _⟩ => ⟨S144x128, .f32⟩
  | .hbm, ⟨12, _⟩ => ⟨S144x128, .f32⟩
  | .hbm, ⟨13, _⟩ => ⟨S144x128, .f32⟩
  | .hbm, ⟨14, _⟩ => ⟨S3x320x256, .bf16⟩
  | .hbm, ⟨15, _⟩ => ⟨S144x512, .i32⟩
  | .hbm, ⟨16, _⟩ => ⟨S144x512, .i32⟩
  | .hbm, ⟨17, _⟩ => ⟨S320x18432, .i8⟩
  | .hbm, ⟨18, _⟩ => ⟨S144x128, .f32⟩
  | .hbm, ⟨19, _⟩ => ⟨S144x128, .f32⟩
  | .hbm, ⟨20, _⟩ => ⟨S144x128, .f32⟩
  | .local _ .vmem, ⟨0, _⟩ => ⟨S8x1x3x4x8x128, .i32⟩
  | .local _ .vmem, ⟨1, _⟩ => ⟨S8x1x3x4x8x128, .i32⟩
  | .local _ .vmem, ⟨2, _⟩ => ⟨S8x512, .i32⟩
  | .local _ .vmem, ⟨3, _⟩ => ⟨S8x512, .i32⟩
  | .local _ .vmem, ⟨4, _⟩ => ⟨S80x512, .i32⟩
  | .local _ .vmem, ⟨5, _⟩ => ⟨S80x512, .i32⟩
  | .local _ .vmem, ⟨6, _⟩ => ⟨S144x128, .f32⟩
  | .local _ .vmem, ⟨7, _⟩ => ⟨S144x128, .f32⟩
  | .local _ .vmem, ⟨8, _⟩ => ⟨S144x128, .f32⟩
  | .local _ .vmem, ⟨9, _⟩ => ⟨S3x320x256, .bf16⟩
  | .local _ .vmem, ⟨10, _⟩ => ⟨S320x512, .i8⟩
  | .local _ .vmem, ⟨11, _⟩ => ⟨S320x512, .i8⟩
  | .local _ .vmem, ⟨12, _⟩ => ⟨S144x128, .f32⟩
  | .local _ .vmem, ⟨13, _⟩ => ⟨S144x128, .f32⟩
  | .local _ .vmem, ⟨14, _⟩ => ⟨S144x128, .f32⟩
  | .local _ .vmem, ⟨15, _⟩ => ⟨S3x336x256, .bf16⟩
  | .local _ .vmem, ⟨16, _⟩ => ⟨S320x512, .f32⟩
  | .local _ .vmem, ⟨17, _⟩ => ⟨S1x512, .i32⟩
  | .local _ .vmem, ⟨18, _⟩ => ⟨S1x512, .i32⟩
  | _, _ => ⟨S3538944, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![36], ![false]⟩

@[reducible] def k0_t1_loop : Scf.Loop 32 :=
  let c0_i32_683 : BitVec 32 := 0#32
  let c144_i32 : BitVec 32 := 144#32
  let v511 : BitVec 32 := Scalar.addi c0_i32_683 c144_i32
  let c1_i32_684 : BitVec 32 := 1#32
  ⟨c0_i32_683, v511, c1_i32_684⟩
def k0_off1 (k0_t1 : Fin k0_t1_loop.trips) : Fin 2 → Nat :=
  let c0_i32_687 : BitVec 32 := 0#32
  let c0_i32_683 : BitVec 32 := 0#32
  let c1_i32_684 : BitVec 32 := 1#32
  let arg19 : BitVec 32 := Scf.iv c0_i32_683 c1_i32_684 k0_t1
  let c1_i32_686 : BitVec 32 := 1#32
  let v512 : BitVec 32 := Scalar.muli arg19 c1_i32_686
  let v513 : BitVec 32 := Scalar.addi c0_i32_687 v512
  let c0_i32_688 : BitVec 32 := 0#32
  ![v513.toNat, 0]
def k0_off2 (i : grid0.Coords) (c0_i32_591 : BitVec 32) : Fin 2 → Nat :=
  let arg0 : BitVec 32 := BitVec.ofNat 32 (i 0).val
  let c4_i32 : BitVec 32 := 4#32
  let v259 : BitVec 32 := Scalar.muli arg0 c4_i32
  let v260 : BitVec 32 := Scalar.addi v259 c0_i32_591
  let v266 : Index := Scalar.indexCast v260
  let c0_596 : Index := 0#32
  ![v266.toNat, 0]
def cc0_transform_0 (i : grid0.Coords) : Fin 6 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  let c0_i32_14 : BitVec 32 := 0#32
  ![c0_i32_10.toNat, v16.toNat, c0_i32_11.toNat, v26.toNat, c0_i32_12.toNat, c0_i32_13.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1x3x4x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x320x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S320x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S144x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S144x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S144x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S3538944 : Shape := ⟨1, ![3538944]⟩
abbrev S147456 : Shape := ⟨1, ![147456]⟩
abbrev S80x18432 : Shape := ⟨2, ![80, 18432]⟩
abbrev S18432 : Shape := ⟨1, ![18432]⟩
abbrev S3x256x320 : Shape := ⟨3, ![3, 256, 320]⟩
abbrev S73728 : Shape := ⟨1, ![73728]⟩
abbrev S768x320 : Shape := ⟨2, ![768, 320]⟩
abbrev S_ : Shape := ⟨0, ![]⟩
abbrev S73728x1 : Shape := ⟨2, ![73728, 1]⟩
abbrev S73728x320 : Shape := ⟨2, ![73728, 320]⟩
abbrev S18432x320 : Shape := ⟨2, ![18432, 320]⟩
abbrev S80x1x18432 : Shape := ⟨3, ![80, 1, 18432]⟩
abbrev S80x4x18432 : Shape := ⟨3, ![80, 4, 18432]⟩
abbrev S320x18432 : Shape := ⟨2, ![320, 18432]⟩
abbrev S18432x1 : Shape := ⟨2, ![18432, 1]⟩
abbrev S144x128 : Shape := ⟨2, ![144, 128]⟩

abbrev nBuf : Space → Nat
  | .hbm => 113
  | .vmem => 0
  | .smem => 0
  | _ => 0

abbrev bufTy : (tb : Table) → Fin (tcTables nBuf tb) → BufTy
  | .hbm, ⟨0, _⟩ => ⟨S3538944, .i32⟩
  | .hbm, ⟨1, _⟩ => ⟨S147456, .i32⟩
  | .hbm, ⟨2, _⟩ => ⟨S80x18432, .i32⟩
  | .hbm, ⟨3, _⟩ => ⟨S18432, .f32⟩
  | .hbm, ⟨4, _⟩ => ⟨S18432, .f32⟩
  | .hbm, ⟨5, _⟩ => ⟨S18432, .f32⟩
  | .hbm, ⟨6, _⟩ => ⟨S3x256x320, .bf16⟩
  | .hbm, ⟨7, _⟩ => ⟨S73728, .i32⟩
  | .hbm, ⟨8, _⟩ => ⟨S73728, .i32⟩
  | .hbm, ⟨9, _⟩ => ⟨S768x320, .bf16⟩
  | .hbm, ⟨10, _⟩ => ⟨S_, .i32⟩
  | .hbm, ⟨11, _⟩ => ⟨S73728, .i32⟩
  | .hbm, ⟨12, _⟩ => ⟨S73728, .i1⟩
  | .hbm, ⟨13, _⟩ => ⟨S_, .i32⟩
  | .hbm, ⟨14, _⟩ => ⟨S73728, .i32⟩
  | .hbm, ⟨15, _⟩ => ⟨S73728, .i32⟩
  | .hbm, ⟨16, _⟩ => ⟨S73728, .i32⟩
  | .hbm, ⟨17, _⟩ => ⟨S73728x1, .i32⟩
  | .hbm, ⟨18, _⟩ => ⟨S73728x320, .bf16⟩
  | .hbm, ⟨19, _⟩ => ⟨S73728x320, .f32⟩
  | .hbm, ⟨20, _⟩ => ⟨S_, .f32⟩
  | .hbm, ⟨21, _⟩ => ⟨S18432x320, .f32⟩
  | .hbm, ⟨22, _⟩ => ⟨S73728x1, .i32⟩
  | .hbm, ⟨23, _⟩ => ⟨S18432x320, .f32⟩
  | .hbm, ⟨24, _⟩ => ⟨S_, .i32⟩
  | .hbm, ⟨25, _⟩ => ⟨S80x18432, .i32⟩
  | .hbm, ⟨26, _⟩ => ⟨S80x18432, .i32⟩
  | .hbm, ⟨27, _⟩ => ⟨S_, .i32⟩
  | .hbm, ⟨28, _⟩ => ⟨S80x18432, .i32⟩
  | .hbm, ⟨29, _⟩ => ⟨S80x18432, .i32⟩
  | .hbm, ⟨30, _⟩ => ⟨S_, .i32⟩
  | .hbm, ⟨31, _⟩ => ⟨S80x18432, .i32⟩
  | .hbm, ⟨32, _⟩ => ⟨S80x18432, .i32⟩
  | .hbm, ⟨33, _⟩ => ⟨S_, .i32⟩
  | .hbm, ⟨34, _⟩ => ⟨S80x18432, .i32⟩
  | .hbm, ⟨35, _⟩ => ⟨S80x18432, .i32⟩
  | .hbm, ⟨36, _⟩ => ⟨S_, .i32⟩
  | .hbm, ⟨37, _⟩ => ⟨S80x18432, .i32⟩
  | .hbm, ⟨38, _⟩ => ⟨S80x18432, .i32⟩
  | .hbm, ⟨39, _⟩ => ⟨S_, .i32⟩
  | .hbm, ⟨40, _⟩ => ⟨S80x18432, .i32⟩
  | .hbm, ⟨41, _⟩ => ⟨S80x18432, .i32⟩
  | .hbm, ⟨42, _⟩ => ⟨S_, .i32⟩
  | .hbm, ⟨43, _⟩ => ⟨S80x18432, .i32⟩
  | .hbm, ⟨44, _⟩ => ⟨S80x18432, .i32⟩
  | .hbm, ⟨45, _⟩ => ⟨S_, .i32⟩
  | .hbm, ⟨46, _⟩ => ⟨S80x18432, .i32⟩
  | .hbm, ⟨47, _⟩ => ⟨S80x18432, .i32⟩
  | .hbm, ⟨48, _⟩ => ⟨S80x1x18432, .i32⟩
  | .hbm, ⟨49, _⟩ => ⟨S80x1x18432, .i32⟩
  | .hbm, ⟨50, _⟩ => ⟨S80x1x18432, .i32⟩
  | .hbm, ⟨51, _⟩ => ⟨S80x1x18432, .i32⟩
  | .hbm, ⟨52, _⟩ => ⟨S80x4x18432, .i32⟩
  | .hbm, ⟨53, _⟩ => ⟨S320x18432, .i32⟩
  | .hbm, ⟨54, _⟩ => ⟨S18432x320, .i32⟩
  | .hbm, ⟨55, _⟩ => ⟨S18432x320, .f32⟩
  | .hbm, ⟨56, _⟩ => ⟨S18432x1, .f32⟩
  | .hbm, ⟨57, _⟩ => ⟨S18432x320, .f32⟩
  | .hbm, ⟨58, _⟩ => ⟨S18432x320, .f32⟩
  | .hbm, ⟨59, _⟩ => ⟨S18432x1, .f32⟩
  | .hbm, ⟨60, _⟩ => ⟨S18432x320, .f32⟩
  | .hbm, ⟨61, _⟩ => ⟨S18432x320, .f32⟩
  | .hbm, ⟨62, _⟩ => ⟨S18432x320, .f32⟩
  | .hbm, ⟨63, _⟩ => ⟨S_, .f32⟩
  | .hbm, ⟨64, _⟩ => ⟨S18432, .f32⟩
  | .hbm, ⟨65, _⟩ => ⟨S_, .f32⟩
  | .hbm, ⟨66, _⟩ => ⟨S18432, .f32⟩
  | .hbm, ⟨67, _⟩ => ⟨S18432, .f32⟩
  | .hbm, ⟨68, _⟩ => ⟨S18432, .f32⟩
  | .hbm, ⟨69, _⟩ => ⟨S_, .f32⟩
  | .hbm, ⟨70, _⟩ => ⟨S18432x320, .f32⟩
  | .hbm, ⟨71, _⟩ => ⟨S18432x320, .f32⟩
  | .hbm, ⟨72, _⟩ => ⟨S18432, .f32⟩
  | .hbm, ⟨73, _⟩ => ⟨S_, .f32⟩
  | .hbm, ⟨74, _⟩ => ⟨S18432, .f32⟩
  | .hbm, ⟨75, _⟩ => ⟨S18432, .f32⟩
  | .hbm, ⟨76, _⟩ => ⟨S18432x1, .f32⟩
  | .hbm, ⟨77, _⟩ => ⟨S18432x320, .f32⟩
  | .hbm, ⟨78, _⟩ => ⟨S18432x320, .f32⟩
  | .hbm, ⟨79, _⟩ => ⟨S18432x320, .f32⟩
  | .hbm, ⟨80, _⟩ => ⟨S_, .f32⟩
  | .hbm, ⟨81, _⟩ => ⟨S18432, .f32⟩
  | .hbm, ⟨82, _⟩ => ⟨S_, .f32⟩
  | .hbm, ⟨83, _⟩ => ⟨S18432, .f32⟩
  | .hbm, ⟨84, _⟩ => ⟨S18432, .i1⟩
  | .hbm, ⟨85, _⟩ => ⟨S18432, .f32⟩
  | .hbm, ⟨86, _⟩ => ⟨S_, .f32⟩
  | .hbm, ⟨87, _⟩ => ⟨S18432, .f32⟩
  | .hbm, ⟨88, _⟩ => ⟨S18432, .f32⟩
  | .hbm, ⟨89, _⟩ => ⟨S_, .f32⟩
  | .hbm, ⟨90, _⟩ => ⟨S18432, .f32⟩
  | .hbm, ⟨91, _⟩ => ⟨S18432, .f32⟩
  | .hbm, ⟨92, _⟩ => ⟨S18432x1, .f32⟩
  | .hbm, ⟨93, _⟩ => ⟨S18432x320, .f32⟩
  | .hbm, ⟨94, _⟩ => ⟨S18432x320, .f32⟩
  | .hbm, ⟨95, _⟩ => ⟨S18432x1, .f32⟩
  | .hbm, ⟨96, _⟩ => ⟨S18432x320, .f32⟩
  | .hbm, ⟨97, _⟩ => ⟨S18432x320, .f32⟩
  | .hbm, ⟨98, _⟩ => ⟨S18432x320, .f32⟩
  | .hbm, ⟨99, _⟩ => ⟨S_, .i32⟩
  | .hbm, ⟨100, _⟩ => ⟨S_, .i32⟩
  | .hbm, ⟨101, _⟩ => ⟨S_, .f32⟩
  | .hbm, ⟨102, _⟩ => ⟨S18432x320, .f32⟩
  | .hbm, ⟨103, _⟩ => ⟨S18432x320, .f32⟩
  | .hbm, ⟨104, _⟩ => ⟨S_, .f32⟩
  | .hbm, ⟨105, _⟩ => ⟨S18432x320, .f32⟩
  | .hbm, ⟨106, _⟩ => ⟨S18432x320, .f32⟩
  | .hbm, ⟨107, _⟩ => ⟨S18432x320, .i32⟩
  | .hbm, ⟨108, _⟩ => ⟨S18432x320, .i8⟩
  | .hbm, ⟨109, _⟩ => ⟨S320x18432, .i8⟩
  | .hbm, ⟨110, _⟩ => ⟨S144x128, .f32⟩
  | .hbm, ⟨111, _⟩ => ⟨S144x128, .f32⟩
  | .hbm, ⟨112, _⟩ => ⟨S144x128, .f32⟩
  | _, _ => ⟨S3538944, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_c_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_cst_14 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_15 : Ref sig .tc := ⟨.hbm, 86, rfl⟩
abbrev main_v60 : Ref sig .tc := ⟨.hbm, 87, rfl⟩
abbrev main_v61 : Ref sig .tc := ⟨.hbm, 88, rfl⟩
abbrev main_cst_16 : Ref sig .tc := ⟨.hbm, 89, rfl⟩
abbrev main_call0_v0 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_17 : Ref sig .tc := ⟨.hbm, 99, rfl⟩
abbrev main_c_18 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩

abbrev nD : Nat := 1
abbrev τ : Topo := Topo.v7x

variable {F : FTy → Type} [FloatOps F]
-- ==== Gather.lean ====
abbrev S18432 : Shape := ⟨1, ![18432]⟩
abbrev S1100000x320 : Shape := ⟨2, ![1100000, 320]⟩
abbrev S144x128 : Shape := ⟨2, ![144, 128]⟩
abbrev S320x1100000 : Shape := ⟨2, ![320, 1100000]⟩
abbrev S80x18432 : Shape := ⟨2, ![80, 18432]⟩
abbrev S320x8192 : Shape := ⟨2, ![320, 8192]⟩
abbrev S1 : Shape := ⟨1, ![1]⟩
abbrev S1x128 : Shape := ⟨2, ![1, 128]⟩
abbrev S8x128 : Shape := ⟨2, ![8, 128]⟩
abbrev S32x128 : Shape := ⟨2, ![32, 128]⟩
abbrev S8x128x1 : Shape := ⟨3, ![8, 128, 1]⟩

abbrev nBuf : Space → Nat
  | .hbm => 5
  | .vmem => 4
  | .smem => 2
  | _ => 0

abbrev bufTy : (tb : Table) → Fin (tcTables nBuf tb) → BufTy
  | .hbm, ⟨0, _⟩ => ⟨S18432, .i32⟩
  | .hbm, ⟨1, _⟩ => ⟨S1100000x320, .i8⟩
  | .hbm, ⟨2, _⟩ => ⟨S144x128, .i32⟩
  | .hbm, ⟨3, _⟩ => ⟨S320x1100000, .i8⟩
  | .hbm, ⟨4, _⟩ => ⟨S80x18432, .i32⟩
  | .local _ .vmem, ⟨0, _⟩ => ⟨S144x128, .i32⟩
  | .local _ .vmem, ⟨1, _⟩ => ⟨S320x8192, .i8⟩
  | .local _ .vmem, ⟨2, _⟩ => ⟨S320x8192, .i8⟩
  | .local _ .vmem, ⟨3, _⟩ => ⟨S80x18432, .i32⟩
  | .local _ .smem, ⟨0, _⟩ => ⟨S18432, .i32⟩
  | .local _ .smem, ⟨1, _⟩ => ⟨S1, .i32⟩
  | _, _ => ⟨S18432, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg0_0 : Ref sig .tc := ⟨.smem, 0, rfl⟩
abbrev cc0_scratch0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![135], ![false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_off1 (arg7 : BitVec 32) : Fin 1 → Nat :=
  let c143_i32 : BitVec 32 := 143#32
  let v11 : BitVec 32 := Scalar.minsi arg7 c143_i32
  let c128_i32 : BitVec 32 := 128#32
  let v13 : BitVec 32 := Scalar.muli v11 c128_i32
  let v14 : Index := Scalar.indexCast v13
  ![v14.toNat]

def k0_chk1 (arg7 : BitVec 32) : Prop :=
  (∀ a, (k0_off1 arg7) a + S1.size a ≤ S18432.size a)
theorem k0_off1_inb : ∀ (arg7 : BitVec 32) (k0_hw1 : k0_chk1 arg7), ∀ a, (k0_off1 arg7) a + S1.size a ≤ S18432.size a := fun arg7 k0_hw1 => k0_hw1

def k0_off2 (arg8 : BitVec 32) : Fin 2 → Nat :=
  let v19 : Index := Scalar.indexCast arg8
  let c0_5 : Index := 0#32
  ![v19.toNat, 0]

def k0_off3 (k0_t1 : Fin k0_t1_loop.trips) (c0_i32_19 : BitVec 32) : Fin 2 → Nat :=
  let c0_20 : Index := 0#32
  let c0_i32_1 : BitVec 32 := 0#32
  let c1_i32 : BitVec 32 := 1#32
  let arg6 : BitVec 32 := Scf.iv c0_i32_1 c1_i32 k0_t1
  let c1024_i32_18 : BitVec 32 := 1024#32
  let v43 : BitVec 32 := Scalar.muli arg6 c1024_i32_18
  let v44 : BitVec 32 := Scalar.addi v43 c0_i32_19
  let v45 : Index := Scalar.indexCast v44
  ![0, v45.toNat]
def k0_off4 (k0_t1 : Fin k0_t1_loop.trips) (c0_i32_24 : BitVec 32) : Fin 2 → Nat :=
  let c32 : Index := 32#32
  let c0_i32_1 : BitVec 32 := 0#32
  let c1_i32 : BitVec 32 := 1#32
  let arg6 : BitVec 32 := Scf.iv c0_i32_1 c1_i32 k0_t1
  let c1024_i32_23 : BitVec 32 := 1024#32
  let v58 : BitVec 32 := Scalar.muli arg6 c1024_i32_23
  let v59 : BitVec 32 := Scalar.addi v58 c0_i32_24
  let v60 : Index := Scalar.indexCast v59
  ![32, v60.toNat]
def k0_off5 (k0_t1 : Fin k0_t1_loop.trips) (c0_i32_28 : BitVec 32) : Fin 2 → Nat :=
  let c64 : Index := 64#32
  let c0_i32_1 : BitVec 32 := 0#32
  let c1_i32 : BitVec 32 := 1#32
  let arg6 : BitVec 32 := Scf.iv c0_i32_1 c1_i32 k0_t1
  let c1024_i32_27 : BitVec 32 := 1024#32
  let v73 : BitVec 32 := Scalar.muli arg6 c1024_i32_27
  let v74 : BitVec 32 := Scalar.addi v73 c0_i32_28
  let v75 : Index := Scalar.indexCast v74
  ![64, v75.toNat]
def k0_off6 (k0_t1 : Fin k0_t1_loop.trips) (c0_i32_32 : BitVec 32) : Fin 2 → Nat :=
  let c96 : Index := 96#32
  let c0_i32_1 : BitVec 32 := 0#32
  let c1_i32 : BitVec 32 := 1#32
  let arg6 : BitVec 32 := Scf.iv c0_i32_1 c1_i32 k0_t1
  let c1024_i32_31 : BitVec 32 := 1024#32
  let v88 : BitVec 32 := Scalar.muli arg6 c1024_i32_31
  let v89 : BitVec 32 := Scalar.addi v88 c0_i32_32
  let v90 : Index := Scalar.indexCast v89
  ![96, v90.toNat]
def k0_off7 (k0_t1 : Fin k0_t1_loop.trips) (c0_i32_36 : BitVec 32) : Fin 2 → Nat :=
  let c128 : Index := 128#32
  let c0_i32_1 : BitVec 32 := 0#32
  let c1_i32 : BitVec 32 := 1#32
  let arg6 : BitVec 32 := Scf.iv c0_i32_1 c1_i32 k0_t1
  let c1024_i32_35 : BitVec 32 := 1024#32
  let v103 : BitVec 32 := Scalar.muli arg6 c1024_i32_35
  let v104 : BitVec 32 := Scalar.addi v103 c0_i32_36
  let v105 : Index := Scalar.indexCast v104
  ![128, v105.toNat]
def k0_off8 (k0_t1 : Fin k0_t1_loop.trips) (c0_i32_40 : BitVec 32) : Fin 2 → Nat :=
  let c160 : Index := 160#32
  let c0_i32_1 : BitVec 32 := 0#32
  let c1_i32 : BitVec 32 := 1#32
  let arg6 : BitVec 32 := Scf.iv c0_i32_1 c1_i32 k0_t1
  let c1024_i32_39 : BitVec 32 := 1024#32
  let v118 : BitVec 32 := Scalar.muli arg6 c1024_i32_39
  let v119 : BitVec 32 := Scalar.addi v118 c0_i32_40
  let v120 : Index := Scalar.indexCast v119
  ![160, v120.toNat]
def k0_off9 (k0_t1 : Fin k0_t1_loop.trips) (c0_i32_44 : BitVec 32) : Fin 2 → Nat :=
  let c192 : Index := 192#32
  let c0_i32_1 : BitVec 32 := 0#32
  let c1_i32 : BitVec 32 := 1#32
  let arg6 : BitVec 32 := Scf.iv c0_i32_1 c1_i32 k0_t1
  let c1024_i32_43 : BitVec 32 := 1024#32
  let v133 : BitVec 32 := Scalar.muli arg6 c1024_i32_43
  let v134 : BitVec 32 := Scalar.addi v133 c0_i32_44
  let v135 : Index := Scalar.indexCast v134
  ![192, v135.toNat]
def k0_off10 (k0_t1 : Fin k0_t1_loop.trips) (c0_i32_48 : BitVec 32) : Fin 2 → Nat :=
  let c224 : Index := 224#32
  let c0_i32_1 : BitVec 32 := 0#32
  let c1_i32 : BitVec 32 := 1#32
  let arg6 : BitVec 32 := Scf.iv c0_i32_1 c1_i32 k0_t1
  let c1024_i32_47 : BitVec 32 := 1024#32
  let v148 : BitVec 32 := Scalar.muli arg6 c1024_i32_47
  let v149 : BitVec 32 := Scalar.addi v148 c0_i32_48
  let v150 : Index := Scalar.indexCast v149
  ![224, v150.toNat]
def k0_off11 (k0_t1 : Fin k0_t1_loop.trips) (c0_i32_52 : BitVec 32) : Fin 2 → Nat :=
  let c256 : Index := 256#32
  let c0_i32_1 : BitVec 32 := 0#32
  let c1_i32 : BitVec 32 := 1#32
  let arg6 : BitVec 32 := Scf.iv c0_i32_1 c1_i32 k0_t1
  let c1024_i32_51 : BitVec 32 := 1024#32
  let v163 : BitVec 32 := Scalar.muli arg6 c1024_i32_51
  let v164 : BitVec 32 := Scalar.addi v163 c0_i32_52
  let v165 : Index := Scalar.indexCast v164
  ![256, v165.toNat]
def k0_off12 (k0_t1 : Fin k0_t1_loop.trips) (c0_i32_56 : BitVec 32) : Fin 2 → Nat :=
  let c288 : Index := 288#32
  let c0_i32_1 : BitVec 32 := 0#32
  let c1_i32 : BitVec 32 := 1#32
  let arg6 : BitVec 32 := Scf.iv c0_i32_1 c1_i32 k0_t1
  let c1024_i32_55 : BitVec 32 := 1024#32
  let v178 : BitVec 32 := Scalar.muli arg6 c1024_i32_55
  let v179 : BitVec 32 := Scalar.addi v178 c0_i32_56
  let v180 : Index := Scalar.indexCast v179
  ![288, v180.toNat]
def k0_mult1 (arg8 : BitVec 32) : BitVec 32 :=
  let c128_i32_405 : BitVec 32 := 128#32
  let v1257 : BitVec 32 := Scalar.muli arg8 c128_i32_405
  v1257
def k0_off13 (arg8 : BitVec 32) : Fin 2 → Nat :=
  let c0_406 : Index := 0#32
  let c128_i32_405 : BitVec 32 := 128#32
  let v1257 : BitVec 32 := Scalar.muli arg8 c128_i32_405
  let v1258 : BitVec 32 := v1257
  let v1259 : Index := Scalar.indexCast v1258
  ![0, v1259.toNat]
def k0_off14 (arg8 : BitVec 32) : Fin 2 → Nat :=
  let c8 : Index := 8#32
  let c128_i32_405 : BitVec 32 := 128#32
  let v1257 : BitVec 32 := Scalar.muli arg8 c128_i32_405
  let v1258 : BitVec 32 := v1257
  let v1265 : Index := Scalar.indexCast v1258
  ![8, v1265.toNat]
def k0_off15 (arg8 : BitVec 32) : Fin 2 → Nat :=
  let c16 : Index := 16#32
  let c128_i32_405 : BitVec 32 := 128#32
  let v1257 : BitVec 32 := Scalar.muli arg8 c128_i32_405
  let v1258 : BitVec 32 := v1257
  let v1271 : Index := Scalar.indexCast v1258
  ![16, v1271.toNat]
def k0_off16 (arg8 : BitVec 32) : Fin 2 → Nat :=
  let c24 : Index := 24#32
  let c128_i32_405 : BitVec 32 := 128#32
  let v1257 : BitVec 32 := Scalar.muli arg8 c128_i32_405
  let v1258 : BitVec 32 := v1257
  let v1277 : Index := Scalar.indexCast v1258
  ![24, v1277.toNat]
def k0_off17 (arg8 : BitVec 32) : Fin 2 → Nat :=
  let c32_411 : Index := 32#32
  let c128_i32_405 : BitVec 32 := 128#32
  let v1257 : BitVec 32 := Scalar.muli arg8 c128_i32_405
  let v1258 : BitVec 32 := v1257
  let v1283 : Index := Scalar.indexCast v1258
  ![32, v1283.toNat]
def k0_off18 (arg8 : BitVec 32) : Fin 2 → Nat :=
  let c40 : Index := 40#32
  let c128_i32_405 : BitVec 32 := 128#32
  let v1257 : BitVec 32 := Scalar.muli arg8 c128_i32_405
  let v1258 : BitVec 32 := v1257
  let v1289 : Index := Scalar.indexCast v1258
  ![40, v1289.toNat]
def k0_off19 (arg8 : BitVec 32) : Fin 2 → Nat :=
  let c48 : Index := 48#32
  let c128_i32_405 : BitVec 32 := 128#32
  let v1257 : BitVec 32 := Scalar.muli arg8 c128_i32_405
  let v1258 : BitVec 32 := v1257
  let v1295 : Index := Scalar.indexCast v1258
  ![48, v1295.toNat]
def k0_off20 (arg8 : BitVec 32) : Fin 2 → Nat :=
  let c56 : Index := 56#32
  let c128_i32_405 : BitVec 32 := 128#32
  let v1257 : BitVec 32 := Scalar.muli arg8 c128_i32_405
  let v1258 : BitVec 32 := v1257
  let v1301 : Index := Scalar.indexCast v1258
  ![56, v1301.toNat]
def k0_off21 (arg8 : BitVec 32) : Fin 2 → Nat :=
  let c64_416 : Index := 64#32
  let c128_i32_405 : BitVec 32 := 128#32
  let v1257 : BitVec 32 := Scalar.muli arg8 c128_i32_405
  let v1258 : BitVec 32 := v1257
  let v1307 : Index := Scalar.indexCast v1258
  ![64, v1307.toNat]
def k0_off22 (arg8 : BitVec 32) : Fin 2 → Nat :=
  let c72 : Index := 72#32
  let c128_i32_405 : BitVec 32 := 128#32
  let v1257 : BitVec 32 := Scalar.muli arg8 c128_i32_405
  let v1258 : BitVec 32 := v1257
  let v1313 : Index := Scalar.indexCast v1258
  ![72, v1313.toNat]
def k0_off23 (arg8 : BitVec 32) : Fin 1 → Nat :=
  let c128_i32_419 : BitVec 32 := 128#32
  let v1319 : BitVec 32 := Scalar.muli arg8 c128_i32_419
  let c128_i32_420 : BitVec 32 := 128#32
  let v1320 : BitVec 32 := Scalar.addi v1319 c128_i32_420
  let c1_i32_421 : BitVec 32 := 1#32
  let v1321 : BitVec 32 := Scalar.subi v1320 c1_i32_421
  let v1322 : Index := Scalar.indexCast v1321
  ![v1322.toNat]

def k0_chk2 (arg8 : BitVec 32) : Prop :=
  (∀ a, (k0_off2 arg8) a + S1x128.size a ≤ S144x128.size a) ∧
  (128 ∣ (k0_mult1 arg8).toNat) ∧
  (∀ a, (k0_off13 arg8) a + S8x128.size a ≤ S80x18432.size a) ∧
  (∀ a, (k0_off14 arg8) a + S8x128.size a ≤ S80x18432.size a) ∧
  (∀ a, (k0_off15 arg8) a + S8x128.size a ≤ S80x18432.size a) ∧
  (∀ a, (k0_off16 arg8) a + S8x128.size a ≤ S80x18432.size a) ∧
  (∀ a, (k0_off17 arg8) a + S8x128.size a ≤ S80x18432.size a) ∧
  (∀ a, (k0_off18 arg8) a + S8x128.size a ≤ S80x18432.size a) ∧
  (∀ a, (k0_off19 arg8) a + S8x128.size a ≤ S80x18432.size a) ∧
  (∀ a, (k0_off20 arg8) a + S8x128.size a ≤ S80x18432.size a) ∧
  (∀ a, (k0_off21 arg8) a + S8x128.size a ≤ S80x18432.size a) ∧
  (∀ a, (k0_off22 arg8) a + S8x128.size a ≤ S80x18432.size a) ∧
  (∀ a, (k0_off23 arg8) a + S1.size a ≤ S18432.size a)
theorem k0_off2_inb : ∀ (arg8 : BitVec 32) (k0_hw2 : k0_chk2 arg8), ∀ a, (k0_off2 arg8) a + S1x128.size a ≤ S144x128.size a := fun arg8 k0_hw2 => k0_hw2.1
theorem k0_mult1_dvd : ∀ (arg8 : BitVec 32) (k0_hw2 : k0_chk2 arg8), 128 ∣ (k0_mult1 arg8).toNat := fun arg8 k0_hw2 => k0_hw2.2.1
theorem k0_off13_inb : ∀ (arg8 : BitVec 32) (k0_hw2 : k0_chk2 arg8), ∀ a, (k0_off13 arg8) a + S8x128.size a ≤ S80x18432.size a := fun arg8 k0_hw2 => k0_hw2.2.2.1
theorem k0_off14_inb : ∀ (arg8 : BitVec 32) (k0_hw2 : k0_chk2 arg8), ∀ a, (k0_off14 arg8) a + S8x128.size a ≤ S80x18432.size a := fun arg8 k0_hw2 => k0_hw2.2.2.2.1
theorem k0_off15_inb : ∀ (arg8 : BitVec 32) (k0_hw2 : k0_chk2 arg8), ∀ a, (k0_off15 arg8) a + S8x128.size a ≤ S80x18432.size a := fun arg8 k0_hw2 => k0_hw2.2.2.2.2.1
theorem k0_off16_inb : ∀ (arg8 : BitVec 32) (k0_hw2 : k0_chk2 arg8), ∀ a, (k0_off16 arg8) a + S8x128.size a ≤ S80x18432.size a := fun arg8 k0_hw2 => k0_hw2.2.2.2.2.2.1
theorem k0_off17_inb : ∀ (arg8 : BitVec 32) (k0_hw2 : k0_chk2 arg8), ∀ a, (k0_off17 arg8) a + S8x128.size a ≤ S80x18432.size a := fun arg8 k0_hw2 => k0_hw2.2.2.2.2.2.2.1
theorem k0_off18_inb : ∀ (arg8 : BitVec 32) (k0_hw2 : k0_chk2 arg8), ∀ a, (k0_off18 arg8) a + S8x128.size a ≤ S80x18432.size a := fun arg8 k0_hw2 => k0_hw2.2.2.2.2.2.2.2.1
theorem k0_off19_inb : ∀ (arg8 : BitVec 32) (k0_hw2 : k0_chk2 arg8), ∀ a, (k0_off19 arg8) a + S8x128.size a ≤ S80x18432.size a := fun arg8 k0_hw2 => k0_hw2.2.2.2.2.2.2.2.2.1
theorem k0_off20_inb : ∀ (arg8 : BitVec 32) (k0_hw2 : k0_chk2 arg8), ∀ a, (k0_off20 arg8) a + S8x128.size a ≤ S80x18432.size a := fun arg8 k0_hw2 => k0_hw2.2.2.2.2.2.2.2.2.2.1
theorem k0_off21_inb : ∀ (arg8 : BitVec 32) (k0_hw2 : k0_chk2 arg8), ∀ a, (k0_off21 arg8) a + S8x128.size a ≤ S80x18432.size a := fun arg8 k0_hw2 => k0_hw2.2.2.2.2.2.2.2.2.2.2.1
theorem k0_off22_inb : ∀ (arg8 : BitVec 32) (k0_hw2 : k0_chk2 arg8), ∀ a, (k0_off22 arg8) a + S8x128.size a ≤ S80x18432.size a := fun arg8 k0_hw2 => k0_hw2.2.2.2.2.2.2.2.2.2.2.2.1
theorem k0_off23_inb : ∀ (arg8 : BitVec 32) (k0_hw2 : k0_chk2 arg8), ∀ a, (k0_off23 arg8) a + S1.size a ≤ S18432.size a := fun arg8 k0_hw2 => k0_hw2.2.2.2.2.2.2.2.2.2.2.2.2

def k0_off24 (i : grid0.Coords) (k0_t1 : Fin k0_t1_loop.trips) (arg8 : BitVec 32) (v1323 : BitVec 32) : Fin 1 → Nat :=
  let arg0 : BitVec 32 := BitVec.ofNat 32 (i 0).val
  let c8192_i32 : BitVec 32 := 8192#32
  let v7 : BitVec 32 := Scalar.muli arg0 c8192_i32
  let c0_i32_1 : BitVec 32 := 0#32
  let c1_i32 : BitVec 32 := 1#32
  let arg6 : BitVec 32 := Scf.iv c0_i32_1 c1_i32 k0_t1
  let c1024_i32 : BitVec 32 := 1024#32
  let v8 : BitVec 32 := Scalar.muli arg6 c1024_i32
  let v9 : BitVec 32 := Scalar.addi v7 v8
  let c1024_i32_4 : BitVec 32 := 1024#32
  let v10 : BitVec 32 := Scalar.addi v9 c1024_i32_4
  let v1324 : BitVec 1 := Scalar.cmpi .slt v1323 v10
  let c1_i32_422 : BitVec 32 := 1#32
  let v1325 : BitVec 32 := Scalar.addi arg8 c1_i32_422
  let v1326 : BitVec 32 := Scalar.select v1324 v1325 arg8
  let c143_i32_423 : BitVec 32 := 143#32
  let v1327 : BitVec 32 := Scalar.minsi v1326 c143_i32_423
  let c128_i32_425 : BitVec 32 := 128#32
  let v1329 : BitVec 32 := Scalar.muli v1327 c128_i32_425
  let v1330 : Index := Scalar.indexCast v1329
  ![v1330.toNat]

def k0_chk3 (i : grid0.Coords) (k0_t1 : Fin k0_t1_loop.trips) (arg8 : BitVec 32) (v1323 : BitVec 32) : Prop :=
  (∀ a, (k0_off24 i k0_t1 arg8 v1323) a + S1.size a ≤ S18432.size a)
theorem k0_off24_inb : ∀ (i : grid0.Coords) (k0_t1 : Fin k0_t1_loop.trips) (arg8 : BitVec 32) (v1323 : BitVec 32) (k0_hw3 : k0_chk3 i k0_t1 arg8 v1323), ∀ a, (k0_off24 i k0_t1 arg8 v1323) a + S1.size a ≤ S18432.size a := fun i k0_t1 arg8 v1323 k0_hw3 => k0_hw3

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S18432 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S144x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x8192 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S80x18432 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== GatherReference.lean ====
abbrev S18432 : Shape := ⟨1, ![18432]⟩
abbrev S1100000x320 : Shape := ⟨2, ![1100000, 320]⟩
abbrev S_ : Shape := ⟨0, ![]⟩
abbrev S18432x1 : Shape := ⟨2, ![18432, 1]⟩
abbrev S18432x320 : Shape := ⟨2, ![18432, 320]⟩
abbrev S18432x80x4 : Shape := ⟨3, ![18432, 80, 4]⟩
abbrev S18432x80 : Shape := ⟨2, ![18432, 80]⟩
abbrev S80x18432 : Shape := ⟨2, ![80, 18432]⟩

abbrev nBuf : Space → Nat
  | .hbm => 14
  | .vmem => 0
  | .smem => 0
  | _ => 0

abbrev bufTy : (tb : Table) → Fin (tcTables nBuf tb) → BufTy
  | .hbm, ⟨0, _⟩ => ⟨S18432, .i32⟩
  | .hbm, ⟨1, _⟩ => ⟨S1100000x320, .i8⟩
  | .hbm, ⟨2, _⟩ => ⟨S_, .i32⟩
  | .hbm, ⟨3, _⟩ => ⟨S18432, .i32⟩
  | .hbm, ⟨4, _⟩ => ⟨S18432, .i1⟩
  | .hbm, ⟨5, _⟩ => ⟨S_, .i32⟩
  | .hbm, ⟨6, _⟩ => ⟨S18432, .i32⟩
  | .hbm, ⟨7, _⟩ => ⟨S18432, .i32⟩
  | .hbm, ⟨8, _⟩ => ⟨S18432, .i32⟩
  | .hbm, ⟨9, _⟩ => ⟨S18432x1, .i32⟩
  | .hbm, ⟨10, _⟩ => ⟨S18432x320, .i8⟩
  | .hbm, ⟨11, _⟩ => ⟨S18432x80x4, .i8⟩
  | .hbm, ⟨12, _⟩ => ⟨S18432x80, .i32⟩
  | .hbm, ⟨13, _⟩ => ⟨S80x18432, .i32⟩
  | _, _ => ⟨S18432, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Vals.lean ====
/-
  The values the finish kernel's body computes at one grid point, as functions of the contents of the buffers it reads. The
  24 packed words of a histogram block, the product with the carried left operand, the fallback's sum over the 144 chunks of
  occurrences, and the four columns of 128 that the tail of the body quantizes. Nothing is proved here about their meaning.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Transfers
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The kernel's scratch buffers, and the two occurrence lists left in high-bandwidth memory, whole. -/
abbrev sc0 : Memref sig .tc .vmem S3x336x256 .bf16 := Memref.whole cc0_scratch0
abbrev sc1 : Memref sig .tc .vmem S320x512 .f32 := Memref.whole cc0_scratch1
abbrev sc2 : Memref sig .tc .vmem S1x512 .i32 := Memref.whole cc0_scratch2
abbrev sc3 : Memref sig .tc .vmem S1x512 .i32 := Memref.whole cc0_scratch3
abbrev hb8 : Memref sig .tc .hbm S144x512 .i32 := Memref.whole main_v6
abbrev hb9 : Memref sig .tc .hbm S144x512 .i32 := Memref.whole main_v7

/-- One piece of the histogram block: eighth `b`, tile `k` of bags, tile `u` of columns. -/
def hp (d1 : Vec F S8x1x3x4x8x128 .i32) (b : Fin 8) (k : Fin 3) (u : Fin 4) : Vec F S1x1x1x1x8x128 .i32 :=
  View.ld (Val := Elt F) (e' := .i32) d1 (Rect.unit (s := S8x1x3x4x8x128) ![b.val, 0, k.val, u.val, 0, 0] S1x1x1x1x8x128.size (by
    intro a; have := b.isLt; have := k.isLt; have := u.isLt; fin_cases a <;> simp <;> omega))

/-- The four pieces of one tile of bags, side by side. -/
def hw (d1 : Vec F S8x1x3x4x8x128 .i32) (b : Fin 8) (k : Fin 3) : IVec S8x512 32 :=
  k0_pay9 (hp d1 b k 0) (hp d1 b k 1) (hp d1 b k 2) (hp d1 b k 3)

/-- A slab of the carried left operand: all 336 rows, or the 320 rows that hold the gradient. -/
def slab (L : Vec F S3x336x256 .bf16) (p : Fin 3) : Vec F S1x336x256 .bf16 :=
  View.ld (Val := Elt F) (e' := .bf16) L (Rect.unit (s := S3x336x256) ![p.val, 0, 0] S1x336x256.size (by
    intro a; have := p.isLt; fin_cases a <;> simp <;> omega))
def gslab (L : Vec F S3x336x256 .bf16) (p : Fin 3) : Vec F S1x320x256 .bf16 :=
  View.ld (Val := Elt F) (e' := .bf16) L (Rect.unit (s := S3x336x256) ![p.val, 0, 0] S1x320x256.size (by
    intro a; have := p.isLt; fin_cases a <;> simp <;> omega))

/-- The left operand as the first point writes it: the gradient in rows 0 to 319, ones in rows 320 to 335 (over `L`). -/
def lhsV (d7 : Vec F S3x320x256 .bf16) (L : Vec F S3x336x256 .bf16) : Vec F S3x336x256 .bf16 :=
  VecWindow.put (VecWindow.put L ![0, 0, 0] S3x320x256.size (k0_pay3 d7)) ![0, 320, 0] S3x16x256.size (k0_pay4 (F := F))

/-- The product of the left operand with the bytes of the histogram block. -/
def accV (d1 : Vec F S8x1x3x4x8x128 .i32) (L : Vec F S3x336x256 .bf16) : FVec F S336x512 .f32 :=
  k0_pay50 (hw d1 0 0) (hw d1 0 1) (hw d1 0 2) (hw d1 1 0) (hw d1 1 1) (hw d1 1 2) (hw d1 2 0) (hw d1 2 1) (hw d1 2 2)
    (hw d1 3 0) (hw d1 3 1) (hw d1 3 2) (hw d1 4 0) (hw d1 4 1) (hw d1 4 2) (hw d1 5 0) (hw d1 5 1) (hw d1 5 2)
    (hw d1 6 0) (hw d1 6 1) (hw d1 6 2) (hw d1 7 0) (hw d1 7 1) (k0_pay10 (hp d1 7 2 0)) (hp d1 7 2 1) (hp d1 7 2 2) (hp d1 7 2 3)
    (slab L 0) (slab L 1) (slab L 2)
/-- Its first 320 rows. -/
def accG (d1 : Vec F S8x1x3x4x8x128 .i32) (L : Vec F S3x336x256 .bf16) : FVec F S320x512 .f32 :=
  shapeCast S320x512 (extractStridedSlice S320x512 ![0, 0] (accV d1 L) slices_S336x512_o0_0_S320x512) shapeCasts_S320x512_S320x512

/-- Some byte of the block does not hold its count: the block's column sums differ from the counts' sums. -/
def bad (d1 : Vec F S8x1x3x4x8x128 .i32) (L : Vec F S3x336x256 .bf16) (d2 : Vec F S8x512 .i32) : Prop :=
  Scalar.cmpi .ne (Scalar.extui (Scalar.cmpf .ogt (k0_pay52 (accV d1 L) d2) (Scalar.ofBits .f32 0x00000000#32) : BitVec 1) : BitVec 32) 0#32 = 1#1

/-- Chunk `t` of an occurrence list. -/
def chunk (d : Vec F S144x512 .i32) (t : Fin k0_t1_loop.trips) : Vec F S1x512 .i32 :=
  View.ld (Val := Elt F) (e' := .i32) d (Rect.unit (s := S144x512) (k0_off1 t) S1x512.size (k0_off1_inb t))

/-- One trip of the fallback: chunk `t` of the occurrences added to `G`. -/
def tripV (a0 : BitVec 32) (L : Vec F S3x336x256 .bf16) (d8 d9 : Vec F S144x512 .i32) (t : Fin k0_t1_loop.trips)
    (G : Vec F S320x512 .f32) : Vec F S320x512 .f32 :=
  k0_pay54 a0 (k0_pay2 (chunk d8 t) (gslab L 0) (chunk d8 t) (gslab L 1)) (iota .tc S256x512 32 [0] iota_S256x512_d0_w32)
    (chunk d8 t) (gslab L 2) (chunk d9 t) G

/-- The fallback's sum after the first `k` chunks. -/
def gBad (a0 : BitVec 32) (L : Vec F S3x336x256 .bf16) (d8 d9 : Vec F S144x512 .i32) : ℕ → Vec F S320x512 .f32
  | 0 => k0_pay53
  | k + 1 => if h : k < k0_t1_loop.trips then tripV a0 L d8 d9 ⟨k, h⟩ (gBad a0 L d8 d9 k) else gBad a0 L d8 d9 k

open Classical in
/-- The gradient of the point's 512 columns: the product where every byte holds its count, the fallback's sum otherwise. -/
def gV (a0 : BitVec 32) (d1 : Vec F S8x1x3x4x8x128 .i32) (L : Vec F S3x336x256 .bf16) (d2 : Vec F S8x512 .i32)
    (d8 d9 : Vec F S144x512 .i32) : Vec F S320x512 .f32 :=
  if bad d1 L d2 then gBad a0 L d8 d9 k0_t1_loop.trips else accG d1 L

/-- Column block `j` of 128 columns, of the gradient and of the packed codes; row `4 i + j` of a table. -/
def gcol (g : Vec F S320x512 .f32) (j : Fin 4) : Vec F S320x128 .f32 :=
  View.ld (Val := Elt F) (e' := .f32) g (Rect.unit (s := S320x512) ![0, 128 * j.val] S320x128.size (by
    intro a; have := j.isLt; fin_cases a <;> simp <;> omega))
def wcol (d3 : Vec F S80x512 .i32) (j : Fin 4) : Vec F S80x128 .i32 :=
  View.ld (Val := Elt F) (e' := .i32) d3 (Rect.unit (s := S80x512) ![0, 128 * j.val] S80x128.size (by
    intro a; have := j.isLt; fin_cases a <;> simp <;> omega))
/-- The column block's index as the kernel's word. -/
abbrev jw (j : Fin 4) : BitVec 32 := BitVec.ofNat 32 j.val
def trow (i : grid0.Coords) (d : Vec F S144x128 .f32) (j : Fin 4) : Vec F S1x128 .f32 :=
  View.ld (Val := Elt F) (e' := .f32) d (Rect.unit (s := S144x128) (k0_off2 i (jw j)) S1x128.size (k0_off2_inb i j))

/-- The new momentum, bias, scale and codes of a column block. -/
def cMom (i : grid0.Coords) (g : Vec F S320x512 .f32) (d6 : Vec F S144x128 .f32) (j : Fin 4) : FVec F S1x128 .f32 :=
  k0_pay63 (gcol g j) (trow i d6 j)
def cW (i : grid0.Coords) (g : Vec F S320x512 .f32) (d3 : Vec F S80x512 .i32) (d4 d5 d6 : Vec F S144x128 .f32) (j : Fin 4) : FVec F S320x128 .f32 :=
  k0_pay64 (gcol g j) (wcol d3 j) (trow i d4 j) (trow i d5 j) (trow i d6 j)
def cMin (i : grid0.Coords) (g : Vec F S320x512 .f32) (d3 : Vec F S80x512 .i32) (d4 d5 d6 : Vec F S144x128 .f32) (j : Fin 4) : FVec F S1x128 .f32 :=
  k0_pay65 (gcol g j) (wcol d3 j) (trow i d4 j) (trow i d5 j) (trow i d6 j)
def cScale (i : grid0.Coords) (g : Vec F S320x512 .f32) (d3 : Vec F S80x512 .i32) (d4 d5 d6 : Vec F S144x128 .f32) (j : Fin 4) : FVec F S1x128 .f32 :=
  k0_pay66 (gcol g j) (wcol d3 j) (trow i d4 j) (trow i d5 j) (trow i d6 j)
def cCodes (i : grid0.Coords) (g : Vec F S320x512 .f32) (d3 : Vec F S80x512 .i32) (d4 d5 d6 : Vec F S144x128 .f32) (j : Fin 4) : IVec S320x128 8 :=
  k0_pay67 (cW i g d3 d4 d5 d6 j) (cMin i g d3 d4 d5 d6 j) (cScale i g d3 d4 d5 d6 j)

/-- The four rows `4 i`, …, `4 i + 3` of a table replaced, and the four column blocks of the codes written. -/
def putRows (i : grid0.Coords) (d : Vec F S144x128 .f32) (x : Fin 4 → FVec F S1x128 .f32) : Vec F S144x128 .f32 :=
  VecWindow.put (VecWindow.put (VecWindow.put (VecWindow.put d (k0_off2 i (jw 0)) S1x128.size (x 0)) (k0_off2 i (jw 1)) S1x128.size (x 1))
    (k0_off2 i (jw 2)) S1x128.size (x 2)) (k0_off2 i (jw 3)) S1x128.size (x 3)
def putCols (d : Vec F S320x512 .i8) (x : Fin 4 → IVec S320x128 8) : Vec F S320x512 .i8 :=
  VecWindow.put (α := Elt F .i8) (VecWindow.put (α := Elt F .i8) (VecWindow.put (α := Elt F .i8) (VecWindow.put (α := Elt F .i8) d
    ![0, 0] S320x128.size (x 0)) ![0, 128] S320x128.size (x 1)) ![0, 256] S320x128.size (x 2)) ![0, 384] S320x128.size (x 3)

end Cert.KernelIdeal.Hand

end
-- ==== Proof.Trip.lean ====
/-
  One trip of the fallback's loop: the chunk of the two occurrence lists fetched, multiplied and added to the gradient; and the
  loop's invariant.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Transfers
public import Idealize.ShloMosaic.Lib.VecWindow
public import proofs.«01_k».proof.Proof.Vals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A memref's buffer on core `c` held whole at `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

variable [∀ e, Nonempty (Elt F e)]

/-- What a trip works on: the left operand, the running sum, the two chunk buffers, the cell, the two lists, the wait record. -/
def loopCtx (c : Dev nD) (L : Vec F S3x336x256 .bf16) (f8 : Buf (Elt F) (hb8.view.loc (c : Thread nD τ)))
    (f9 : Buf (Elt F) (hb9.view.loc (c : Thread nD τ))) (G : Vec F S320x512 .f32) : sProp 𝕄 :=
  iprop(owns (c : Thread nD τ) sc0 fullShare L ∗ owns (c : Thread nD τ) sc1 fullShare G
    ∗ (∃ d, owns (c : Thread nD τ) sc2 fullShare d) ∗ (∃ d, owns (c : Thread nD τ) sc3 fullShare d)
    ∗ semVal ((c : Thread nD τ), SemLoc.dma 15) 0 ∗ hbPt c hb8 f8 ∗ hbPt c hb9 f9 ∗ ∃ W, owes (c : Thread nD τ) 0 W)

theorem trip (c : Dev nD) (i : grid0.Coords) (arg1 : Memref sig .tc .vmem S8x1x3x4x8x128 .i32) (harg1 : arg1.IsWhole) (arg2 : Memref sig .tc .vmem S8x512 .i32) (harg2 : arg2.IsWhole) (arg3 : Memref sig .tc .vmem S80x512 .i32) (harg3 : arg3.IsWhole) (arg4 : Memref sig .tc .vmem S144x128 .f32) (harg4 : arg4.IsWhole) (arg5 : Memref sig .tc .vmem S144x128 .f32) (harg5 : arg5.IsWhole) (arg6 : Memref sig .tc .vmem S144x128 .f32) (harg6 : arg6.IsWhole) (arg7 : Memref sig .tc .vmem S3x320x256 .bf16) (harg7 : arg7.IsWhole) (arg10 : Memref sig .tc .vmem S320x512 .i8) (harg10 : arg10.IsWhole) (arg11 : Memref sig .tc .vmem S144x128 .f32) (harg11 : arg11.IsWhole) (arg12 : Memref sig .tc .vmem S144x128 .f32) (harg12 : arg12.IsWhole) (arg13 : Memref sig .tc .vmem S144x128 .f32) (harg13 : arg13.IsWhole) (a0 : BitVec 32) (v237 : FVec F S336x512 .f32) (t : Fin k0_t1_loop.trips)
    (L : Vec F S3x336x256 .bf16) (G : Vec F S320x512 .f32) (f8 : Buf (Elt F) (hb8.view.loc (c : Thread nD τ)))
    (f9 : Buf (Elt F) (hb9.view.loc (c : Thread nD τ))) :
    loopCtx c L f8 f9 G
      ⊢ wp frame (wpE (defs₀ (F := F)) Variants.none c none) Set.univ
          (k0_t1_body i arg1 harg1 arg2 harg2 arg3 harg3 arg4 harg4 arg5 harg5 arg6 harg6 arg7 harg7 hb8 (Memref.isWhole_whole _) hb9 (Memref.isWhole_whole _) arg10 harg10 arg11 harg11 arg12 harg12 arg13 harg13 sc0 (Memref.isWhole_whole _) sc1 (Memref.isWhole_whole _) sc2 (Memref.isWhole_whole _) sc3 (Memref.isWhole_whole _) cc0_scratch4 a0 v237 t ())
          (fun _ => loopCtx c L f8 f9 (tripV a0 L (hb8.view.read (Elt F) f8) (hb9.view.read (Elt F) f9) t G)) := by
  have plan : Transfers.BatchOf (c : Thread nD τ) (SemLoc.dma (sig := sig) 15) 2 := Transfers.BatchOf.intro _ _ _
  simp only [loopCtx]
  unfold k0_t1_body
  simp only [k0_part1_eq_skeleton]; unfold k0_part1_skel
  unfold owns
  iintro ⟨⟨%g14, %h14, H14⟩, ⟨%g15, %h15, H15⟩, ⟨%d2, %g16, -, H16⟩, ⟨%d3, %g17, -, H17⟩, Hq, H8, H9, ⟨%W, HW⟩⟩
  sl_exec
  sl_step
  have e0 : trip.sl.dma0 c t f8 = chunk (hb8.view.read (Elt F) f8) t := rfl
  have e1 : trip.sl.dma1 c t f9 = chunk (hb9.view.read (Elt F) f9) t := rfl
  have e2 : trip.sl.v522 c t f8 = chunk (hb8.view.read (Elt F) f8) t := by
    unfold trip.sl.v522; rw [← e0]; exact View.readCov_full _ _ _ _ _
  have e3 : trip.sl.v548 c t f8 = chunk (hb8.view.read (Elt F) f8) t := by
    unfold trip.sl.v548; rw [← e0]; exact View.readCov_full _ _ _ _ _
  have e4 : trip.sl.v562 c t f9 = chunk (hb9.view.read (Elt F) f9) t := by
    unfold trip.sl.v562; rw [← e1]; exact View.readCov_full _ _ _ _ _
  rw [e2, e3, e4]
  subst h14 h15
  isplitl [H14]
  · iexists _; isplitr; swap; · iexact H14
    ipureintro; rfl
  isplitl [H15]
  · iexists _; isplitr; swap; · iexact H15
    ipureintro; rw [View.read_writes_full]; rw [View.readAt_full]; rfl
  isplitl [H16]
  · iexists _, _; isplitr; swap; · iexact H16
    ipureintro; rfl
  isplitl [H17]
  · iexists _, _; isplitr; swap; · iexact H17
    ipureintro; rfl
  isplitl [Hq]; · iexact Hq
  isplitl [H8]; · iexact H8
  isplitl [H9]; · iexact H9
  iexists _; iexact HW

@[sl_loop, instance_reducible] def loopInv (c : Dev nD) (i : grid0.Coords) (arg1 : Memref sig .tc .vmem S8x1x3x4x8x128 .i32) (harg1 : arg1.IsWhole) (arg2 : Memref sig .tc .vmem S8x512 .i32) (harg2 : arg2.IsWhole) (arg3 : Memref sig .tc .vmem S80x512 .i32) (harg3 : arg3.IsWhole) (arg4 : Memref sig .tc .vmem S144x128 .f32) (harg4 : arg4.IsWhole) (arg5 : Memref sig .tc .vmem S144x128 .f32) (harg5 : arg5.IsWhole) (arg6 : Memref sig .tc .vmem S144x128 .f32) (harg6 : arg6.IsWhole) (arg7 : Memref sig .tc .vmem S3x320x256 .bf16) (harg7 : arg7.IsWhole) (arg10 : Memref sig .tc .vmem S320x512 .i8) (harg10 : arg10.IsWhole) (arg11 : Memref sig .tc .vmem S144x128 .f32) (harg11 : arg11.IsWhole) (arg12 : Memref sig .tc .vmem S144x128 .f32) (harg12 : arg12.IsWhole) (arg13 : Memref sig .tc .vmem S144x128 .f32) (harg13 : arg13.IsWhole) (a0 : BitVec 32) (v237 : FVec F S336x512 .f32)
    (L : Vec F S3x336x256 .bf16) (f8 : Buf (Elt F) (hb8.view.loc (c : Thread nD τ)))
    (f9 : Buf (Elt F) (hb9.view.loc (c : Thread nD τ))) :
    Gen.LoopInvTy_k0_t1 (F := F) Unit ℕ (Pipeline.UD sig nD τ) ℕ Variants.none c none Set.univ i arg1 harg1 arg2 harg2 arg3 harg3 arg4 harg4 arg5 harg5 arg6 harg6 arg7 harg7 hb8 (Memref.isWhole_whole _) hb9 (Memref.isWhole_whole _) arg10 harg10 arg11 harg11 arg12 harg12 arg13 harg13 sc0 (Memref.isWhole_whole _) sc1 (Memref.isWhole_whole _) sc2 (Memref.isWhole_whole _) sc3 (Memref.isWhole_whole _) cc0_scratch4 a0 v237 where
  inv := fun k _ => loopCtx c L f8 f9 (gBad a0 L (hb8.view.read (Elt F) f8) (hb9.view.read (Elt F) f9) k)
  step := fun k _ => by
    have e : gBad a0 L (hb8.view.read (Elt F) f8) (hb9.view.read (Elt F) f9) (k.val + 1) = _ := dif_pos k.isLt
    simp only [e]
    exact trip c i arg1 harg1 arg2 harg2 arg3 harg3 arg4 harg4 arg5 harg5 arg6 harg6 arg7 harg7 arg10 harg10 arg11 harg11 arg12 harg12 arg13 harg13 a0 v237 k L _ f8 f9

end Cert.KernelIdeal.Hand

end
-- ==== Proof.PartA.lean ====
/-
  The body's triple at one grid point, by its parts: from the buffers at given contents to the same buffers with the outputs'
  contents given as functions of what was read (Vals).
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Transfers
public import Idealize.ShloMosaic.Lib.VecWindow
public import proofs.«01_k».proof.Proof.Vals
public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable [∀ e, Nonempty (Elt F e)]

/-- The guard of the left operand's initialization: the grid index is zero. -/
abbrev first (i : grid0.Coords) : Prop :=
  Scalar.cmpi .ne (Scalar.extui (Scalar.cmpi .eq (BitVec.ofNat 32 (i 0).val) 0#32) : BitVec 32) 0#32 = 1#1

/-- A buffer held at contents that read as `d`. -/
theorem owns_of (c : Dev nD) {sp : Space} {S : Shape} {e : EltTy} (M : Memref sig .tc sp S e) (q : PosShare TreeShare)
    (f : M.view.ty.Contents (Elt F)) (d : Vec F S e) (h : M.view.read (Elt F) f = d) :
    (M.view.loc (c : Thread nD τ) ↦[M.view.set]{q} f : sProp 𝕄) ⊢ owns (c : Thread nD τ) M q d := by
  unfold owns; iintro H; iexists f
  isplitr; swap; · iexact H
  ipureintro; exact h

open Classical in
/-- The left operand after the initialization. -/
def lhsAt (i : grid0.Coords) (d7 : Vec F S3x320x256 .bf16) (L : Vec F S3x336x256 .bf16) : Vec F S3x336x256 .bf16 :=
  if first i then lhsV d7 L else L

theorem part2_run (c : Dev nD) (i : grid0.Coords) (arg1 : Memref sig .tc .vmem S8x1x3x4x8x128 .i32) (harg1 : arg1.IsWhole) (arg2 : Memref sig .tc .vmem S8x512 .i32) (harg2 : arg2.IsWhole) (arg3 : Memref sig .tc .vmem S80x512 .i32) (harg3 : arg3.IsWhole) (arg4 : Memref sig .tc .vmem S144x128 .f32) (harg4 : arg4.IsWhole) (arg5 : Memref sig .tc .vmem S144x128 .f32) (harg5 : arg5.IsWhole) (arg6 : Memref sig .tc .vmem S144x128 .f32) (harg6 : arg6.IsWhole) (arg7 : Memref sig .tc .vmem S3x320x256 .bf16) (harg7 : arg7.IsWhole) (arg10 : Memref sig .tc .vmem S320x512 .i8) (harg10 : arg10.IsWhole) (arg11 : Memref sig .tc .vmem S144x128 .f32) (harg11 : arg11.IsWhole) (arg12 : Memref sig .tc .vmem S144x128 .f32) (harg12 : arg12.IsWhole) (arg13 : Memref sig .tc .vmem S144x128 .f32) (harg13 : arg13.IsWhole) (q1 q7 : PosShare TreeShare) (d1 : Vec F S8x1x3x4x8x128 .i32) (d7 : Vec F S3x320x256 .bf16) (L : Vec F S3x336x256 .bf16)
    (K : _ → sProp 𝕄) :
    iprop(owns (c : Thread nD τ) arg1 q1 d1 ∗ owns (c : Thread nD τ) arg7 q7 d7 ∗ owns (c : Thread nD τ) sc0 fullShare L
      ∗ (∀ r, ⌜r = ⟨BitVec.ofNat 32 (i 0).val, hw d1 0 0, k0_pay6 (hp d1 0 1 0), k0_pay7 (hp d1 0 1 1)⟩⌝ -∗ owns (c : Thread nD τ) arg1 q1 d1 -∗ owns (c : Thread nD τ) arg7 q7 d7 -∗ owns (c : Thread nD τ) sc0 fullShare (lhsAt i d7 L)
          -∗ K r))
      ⊢ wp frame (wpE (defs₀ (F := F)) Variants.none c none) Set.univ (k0_part2 i arg1 harg1 arg2 harg2 arg3 harg3 arg4 harg4 arg5 harg5 arg6 harg6 arg7 harg7 hb8 (Memref.isWhole_whole _) hb9 (Memref.isWhole_whole _) arg10 harg10 arg11 harg11 arg12 harg12 arg13 harg13 sc0 (Memref.isWhole_whole _) sc1 (Memref.isWhole_whole _) sc2 (Memref.isWhole_whole _) sc3 (Memref.isWhole_whole _) cc0_scratch4) K := by
  simp only [k0_part2_eq_skeleton]; unfold k0_part2_skel
  have o1 := @owns_of F _ _ c _ _ _ arg1 q1
  have o7 := @owns_of F _ _ c _ _ _ arg7 q7
  have o14 := @owns_of F _ _ c _ _ _ sc0 fullShare
  iintro ⟨H1, H7, H14, Hk⟩
  unfold owns at *
  icases H1 with ⟨%f1, %h1, H1⟩
  icases H7 with ⟨%f7, %h7, H7⟩
  icases H14 with ⟨%g14, %h14, H14⟩
  subst h1 h7 h14
  by_cases hf : first i
  · sl_exec
    sl_step
    iapply Hk $$ %_ [] [H1] [H7]
    · ipureintro; rfl
    · iapply (o1 _ _ rfl) $$ H1
    · iapply (o7 _ _ rfl) $$ H7
    iapply (o14 _ _ ?_) $$ H14
    unfold lhsAt; rw [if_pos hf]; unfold lhsV
    rw [View.read_writes_cons_put _ _ _ _ _ rfl, View.read_writes_cons_put _ _ _ _ _ rfl, View.writes_nil]
    rw [View.readAt_full]
  · sl_exec
    sl_step
    iapply Hk $$ %_ [] [H1] [H7]
    · ipureintro; rfl
    · iapply (o1 _ _ rfl) $$ H1
    · iapply (o7 _ _ rfl) $$ H7
    iapply (o14 _ _ ?_) $$ H14
    unfold lhsAt; rw [if_neg hf]

end Cert.KernelIdeal.Hand

end
-- ==== Proof.PartB.lean ====
/-
  The middle part of the body: the check of the histogram's bytes, the fallback's loop where it fails, and the first column
  block's loads.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Transfers
public import Idealize.ShloMosaic.Lib.VecWindow
public import proofs.«01_k».proof.Proof.Vals
public import proofs.«01_k».proof.Proof.Trip
public import proofs.«01_k».proof.Proof.PartA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable [∀ e, Nonempty (Elt F e)]

theorem part16_run (c : Dev nD) (i : grid0.Coords) (arg1 : Memref sig .tc .vmem S8x1x3x4x8x128 .i32) (harg1 : arg1.IsWhole) (arg2 : Memref sig .tc .vmem S8x512 .i32) (harg2 : arg2.IsWhole) (arg3 : Memref sig .tc .vmem S80x512 .i32) (harg3 : arg3.IsWhole) (arg4 : Memref sig .tc .vmem S144x128 .f32) (harg4 : arg4.IsWhole) (arg5 : Memref sig .tc .vmem S144x128 .f32) (harg5 : arg5.IsWhole) (arg6 : Memref sig .tc .vmem S144x128 .f32) (harg6 : arg6.IsWhole) (arg7 : Memref sig .tc .vmem S3x320x256 .bf16) (harg7 : arg7.IsWhole) (arg10 : Memref sig .tc .vmem S320x512 .i8) (harg10 : arg10.IsWhole) (arg11 : Memref sig .tc .vmem S144x128 .f32) (harg11 : arg11.IsWhole) (arg12 : Memref sig .tc .vmem S144x128 .f32) (harg12 : arg12.IsWhole) (arg13 : Memref sig .tc .vmem S144x128 .f32) (harg13 : arg13.IsWhole) (q2 q3 q4 q5 q6 : PosShare TreeShare) (a0 : BitVec 32)
    (d1 : Vec F S8x1x3x4x8x128 .i32) (d2 : Vec F S8x512 .i32) (d3 : Vec F S80x512 .i32) (d4 d5 d6 : Vec F S144x128 .f32) (L : Vec F S3x336x256 .bf16)
    (f8 : Buf (Elt F) (hb8.view.loc (c : Thread nD τ))) (f9 : Buf (Elt F) (hb9.view.loc (c : Thread nD τ)))
    (K : _ → sProp 𝕄) :
    iprop(owns (c : Thread nD τ) arg2 q2 d2 ∗ owns (c : Thread nD τ) arg3 q3 d3 ∗ owns (c : Thread nD τ) arg4 q4 d4
      ∗ owns (c : Thread nD τ) arg5 q5 d5 ∗ owns (c : Thread nD τ) arg6 q6 d6 ∗ loopCtx c L f8 f9 (accG d1 L)
      ∗ (∀ g r, ⌜r = ⟨Scalar.addi (Scalar.muli a0 4#32) 0#32, gcol g 0, k0_pay55 (wcol d3 0) (trow i d4 0) (trow i d5 0), k0_pay56 (trow i d6 0), k0_pay57 (gcol g 0)⟩⌝ -∗ ⌜g = gV a0 d1 L d2 (hb8.view.read (Elt F) f8) (hb9.view.read (Elt F) f9)⌝ -∗ owns (c : Thread nD τ) arg2 q2 d2 -∗ owns (c : Thread nD τ) arg3 q3 d3 -∗ owns (c : Thread nD τ) arg4 q4 d4
          -∗ owns (c : Thread nD τ) arg5 q5 d5 -∗ owns (c : Thread nD τ) arg6 q6 d6 -∗ loopCtx c L f8 f9 g
          -∗ K r))
      ⊢ wp frame (wpE (defs₀ (F := F)) Variants.none c none) Set.univ (k0_part16 i arg1 harg1 arg2 harg2 arg3 harg3 arg4 harg4 arg5 harg5 arg6 harg6 arg7 harg7 hb8 (Memref.isWhole_whole _) hb9 (Memref.isWhole_whole _) arg10 harg10 arg11 harg11 arg12 harg12 arg13 harg13 sc0 (Memref.isWhole_whole _) sc1 (Memref.isWhole_whole _) sc2 (Memref.isWhole_whole _) sc3 (Memref.isWhole_whole _) cc0_scratch4 a0 (accV d1 L)) K := by
  simp only [k0_part16_eq_skeleton]; unfold k0_part16_skel
  have o2 := @owns_of F _ _ c _ _ _ arg2 q2
  have o3 := @owns_of F _ _ c _ _ _ arg3 q3
  have o4 := @owns_of F _ _ c _ _ _ arg4 q4
  have o5 := @owns_of F _ _ c _ _ _ arg5 q5
  have o6 := @owns_of F _ _ c _ _ _ arg6 q6
  have o14 := @owns_of F _ _ c _ _ _ sc0 fullShare
  have o15 := @owns_of F _ _ c _ _ _ sc1 fullShare
  unfold loopCtx
  unfold owns at *
  iintro ⟨⟨%f2, %h2, H2⟩, ⟨%f3, %h3, H3⟩, ⟨%f4, %h4, H4⟩, ⟨%f5, %h5, H5⟩, ⟨%f6, %h6, H6⟩, ⟨⟨%g14, %h14, H14⟩, ⟨%g15, %h15, H15⟩, H16, H17, Hq, H8, H9, HW⟩, Hk⟩
  subst h2 h3 h4 h5 h6
  sl_exec
  have e : part16_run.sl.v258 c arg2 d1 L f2 = 1#1 ↔ bad d1 L (arg2.view.read (Elt F) f2) := by
    unfold part16_run.sl.v258 part16_run.sl.v257 part16_run.sl.v256 bad; rw [View.readAt_full]; exact Iff.rfl
  by_cases hb : bad d1 L (arg2.view.read (Elt F) f2)
  · rw [if_pos (e.mpr hb)]
    sl_exec
    sl_for (fun k _ => loopCtx c L f8 f9 (gBad a0 L (hb8.view.read (Elt F) f8) (hb9.view.read (Elt F) f9) k)) $$ [H14 H15 H16 H17 Hq H8 H9 HW]
    · exact fun k _ => (loopInv c i arg1 harg1 arg2 harg2 arg3 harg3 arg4 harg4 arg5 harg5 arg6 harg6 arg7 harg7 arg10 harg10 arg11 harg11 arg12 harg12 arg13 harg13 a0 (accV d1 L) L f8 f9).step k ()
    · have w15 : sc1.view.read (Elt F) (sc1.view.writes (Elt F) sc1.view.junk (part16_run.sl.H15_1 (F := F))) = gBad a0 L (hb8.view.read (Elt F) f8) (hb9.view.read (Elt F) f9) 0 := by
        unfold part16_run.sl.H15_1; exact View.read_writes_full _ _ _ _ _
      unfold loopCtx owns
      isplitl [H14]; · iapply (o14 _ _ h14) $$ H14
      isplitl [H15]; · iapply (o15 _ _ w15) $$ H15
      isplitl [H16]; · iexact H16
      isplitl [H17]; · iexact H17
      isplitl [Hq]; · iexact Hq
      isplitl [H8]; · iexact H8
      isplitl [H9]; · iexact H9
      iexact HW
    iintro %acc HL
    unfold loopCtx owns
    icases HL with ⟨⟨%g14, %h14, H14⟩, ⟨%g15, %h15, H15⟩, H16, H17, Hq, H8, H9, HW⟩
    unfold part16_run.sl.prog.cont_1
    sl_exec
    sl_step
    have eg : sc1.view.read (Elt F) g15 = gV a0 d1 (sc0.view.read (Elt F) g14) (arg2.view.read (Elt F) f2) (hb8.view.read (Elt F) f8) (hb9.view.read (Elt F) f9) := by
      rw [h14, h15]; unfold gV; rw [if_pos hb]
    subst h14
    iapply Hk $$ %_ %_ [] [] [H2] [H3] [H4] [H5] [H6]
    · ipureintro; rfl
    · ipureintro; exact eg
    · iapply (o2 _ _ rfl) $$ H2
    · iapply (o3 _ _ rfl) $$ H3
    · iapply (o4 _ _ rfl) $$ H4
    · iapply (o5 _ _ rfl) $$ H5
    · iapply (o6 _ _ rfl) $$ H6
    isplitl [H14]; · iapply (o14 _ _ rfl) $$ H14
    isplitl [H15]; · iapply (o15 _ _ rfl) $$ H15
    isplitl [H16]; · iexact H16
    isplitl [H17]; · iexact H17
    isplitl [Hq]; · iexact Hq
    isplitl [H8]; · iexact H8
    isplitl [H9]; · iexact H9
    iexact HW
  · rw [if_neg (fun h => hb (e.mp h))]
    sl_exec
    sl_step
    have eg : sc1.view.read (Elt F) g15 = gV a0 d1 L (arg2.view.read (Elt F) f2) (hb8.view.read (Elt F) f8) (hb9.view.read (Elt F) f9) := by
      rw [h15]; unfold gV; rw [if_neg hb]
    subst h14
    iapply Hk $$ %_ %_ [] [] [H2] [H3] [H4] [H5] [H6]
    · ipureintro; rfl
    · ipureintro; exact eg
    · iapply (o2 _ _ rfl) $$ H2
    · iapply (o3 _ _ rfl) $$ H3
    · iapply (o4 _ _ rfl) $$ H4
    · iapply (o5 _ _ rfl) $$ H5
    · iapply (o6 _ _ rfl) $$ H6
    isplitl [H14]; · iapply (o14 _ _ rfl) $$ H14
    isplitl [H15]; · iapply (o15 _ _ rfl) $$ H15
    isplitl [H16]; · iexact H16
    isplitl [H17]; · iexact H17
    isplitl [Hq]; · iexact Hq
    isplitl [H8]; · iexact H8
    isplitl [H9]; · iexact H9
    iexact HW

end Cert.KernelIdeal.Hand

end
-- ==== Proof.Body.lean ====
/-
  The body's triple at one grid point: from the buffers at given contents to the same buffers with the outputs' contents given
  as functions of what was read (Vals).
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Transfers
public import Idealize.ShloMosaic.Lib.VecWindow
public import proofs.«01_k».proof.Proof.Vals
public import proofs.«01_k».proof.Proof.Trip
public import proofs.«01_k».proof.Proof.PartA
public import proofs.«01_k».proof.Proof.PartB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable [∀ e, Nonempty (Elt F e)]

/-- The gradient block of point `i`. -/
abbrev gAt (i : grid0.Coords) (d1 : Vec F S8x1x3x4x8x128 .i32) (d2 : Vec F S8x512 .i32) (d7 : Vec F S3x320x256 .bf16) (L : Vec F S3x336x256 .bf16)
    (d8 d9 : Vec F S144x512 .i32) : Vec F S320x512 .f32 :=
  gV (BitVec.ofNat 32 (i 0).val) d1 (lhsAt i d7 L) d2 d8 d9

theorem body_run (c : Dev nD) (i : grid0.Coords) (arg1 : Memref sig .tc .vmem S8x1x3x4x8x128 .i32) (harg1 : arg1.IsWhole) (arg2 : Memref sig .tc .vmem S8x512 .i32) (harg2 : arg2.IsWhole) (arg3 : Memref sig .tc .vmem S80x512 .i32) (harg3 : arg3.IsWhole) (arg4 : Memref sig .tc .vmem S144x128 .f32) (harg4 : arg4.IsWhole) (arg5 : Memref sig .tc .vmem S144x128 .f32) (harg5 : arg5.IsWhole) (arg6 : Memref sig .tc .vmem S144x128 .f32) (harg6 : arg6.IsWhole) (arg7 : Memref sig .tc .vmem S3x320x256 .bf16) (harg7 : arg7.IsWhole) (arg10 : Memref sig .tc .vmem S320x512 .i8) (harg10 : arg10.IsWhole) (arg11 : Memref sig .tc .vmem S144x128 .f32) (harg11 : arg11.IsWhole) (arg12 : Memref sig .tc .vmem S144x128 .f32) (harg12 : arg12.IsWhole) (arg13 : Memref sig .tc .vmem S144x128 .f32) (harg13 : arg13.IsWhole) (q1 q2 q3 q4 q5 q6 q7 : PosShare TreeShare)
    (d1 : Vec F S8x1x3x4x8x128 .i32) (d2 : Vec F S8x512 .i32) (d3 : Vec F S80x512 .i32) (d4 d5 d6 : Vec F S144x128 .f32)
    (d7 : Vec F S3x320x256 .bf16) (d10 : Vec F S320x512 .i8) (d11 d12 d13 : Vec F S144x128 .f32) (L : Vec F S3x336x256 .bf16)
    (f8 : Buf (Elt F) (hb8.view.loc (c : Thread nD τ))) (f9 : Buf (Elt F) (hb9.view.loc (c : Thread nD τ)))
    (K : _ → sProp 𝕄) :
    iprop(owns (c : Thread nD τ) arg1 q1 d1 ∗ owns (c : Thread nD τ) arg2 q2 d2 ∗ owns (c : Thread nD τ) arg3 q3 d3 ∗ owns (c : Thread nD τ) arg4 q4 d4
      ∗ owns (c : Thread nD τ) arg5 q5 d5 ∗ owns (c : Thread nD τ) arg6 q6 d6 ∗ owns (c : Thread nD τ) arg7 q7 d7
      ∗ owns (c : Thread nD τ) arg10 fullShare d10 ∗ owns (c : Thread nD τ) arg11 fullShare d11 ∗ owns (c : Thread nD τ) arg12 fullShare d12
      ∗ owns (c : Thread nD τ) arg13 fullShare d13 ∗ (∃ g, loopCtx c L f8 f9 g)
      ∗ (∀ r, owns (c : Thread nD τ) arg1 q1 d1 -∗ owns (c : Thread nD τ) arg2 q2 d2 -∗ owns (c : Thread nD τ) arg3 q3 d3 -∗ owns (c : Thread nD τ) arg4 q4 d4
        -∗ owns (c : Thread nD τ) arg5 q5 d5 -∗ owns (c : Thread nD τ) arg6 q6 d6 -∗ owns (c : Thread nD τ) arg7 q7 d7
        -∗ owns (c : Thread nD τ) arg10 fullShare (putCols d10 (cCodes i (gAt i d1 d2 d7 L (hb8.view.read (Elt F) f8) (hb9.view.read (Elt F) f9)) d3 d4 d5 d6))
        -∗ owns (c : Thread nD τ) arg11 fullShare (putRows i d11 (cScale i (gAt i d1 d2 d7 L (hb8.view.read (Elt F) f8) (hb9.view.read (Elt F) f9)) d3 d4 d5 d6))
        -∗ owns (c : Thread nD τ) arg12 fullShare (putRows i d12 (cMin i (gAt i d1 d2 d7 L (hb8.view.read (Elt F) f8) (hb9.view.read (Elt F) f9)) d3 d4 d5 d6))
        -∗ owns (c : Thread nD τ) arg13 fullShare (putRows i d13 (cMom i (gAt i d1 d2 d7 L (hb8.view.read (Elt F) f8) (hb9.view.read (Elt F) f9)) d6))
        -∗ (∃ g, loopCtx c (lhsAt i d7 L) f8 f9 g) -∗ K r))
      ⊢ wp frame (wpE (defs₀ (F := F)) Variants.none c none) Set.univ (cc0_tc_finish i arg1 harg1 arg2 harg2 arg3 harg3 arg4 harg4 arg5 harg5 arg6 harg6 arg7 harg7 hb8 (Memref.isWhole_whole _) hb9 (Memref.isWhole_whole _) arg10 harg10 arg11 harg11 arg12 harg12 arg13 harg13 sc0 (Memref.isWhole_whole _) sc1 (Memref.isWhole_whole _) sc2 (Memref.isWhole_whole _) sc3 (Memref.isWhole_whole _) cc0_scratch4) K := by
  simp only [cc0_tc_finish_eq_skeleton]; unfold cc0_tc_finish_skel
  have o1 := @owns_of F _ _ c _ _ _ arg1 q1
  have o2 := @owns_of F _ _ c _ _ _ arg2 q2
  have o3 := @owns_of F _ _ c _ _ _ arg3 q3
  have o4 := @owns_of F _ _ c _ _ _ arg4 q4
  have o5 := @owns_of F _ _ c _ _ _ arg5 q5
  have o6 := @owns_of F _ _ c _ _ _ arg6 q6
  have o7 := @owns_of F _ _ c _ _ _ arg7 q7
  have o10 := @owns_of F _ _ c _ _ _ arg10 fullShare
  have o11 := @owns_of F _ _ c _ _ _ arg11 fullShare
  have o12 := @owns_of F _ _ c _ _ _ arg12 fullShare
  have o13 := @owns_of F _ _ c _ _ _ arg13 fullShare
  have o14 := @owns_of F _ _ c _ _ _ sc0 fullShare
  have o15 := @owns_of F _ _ c _ _ _ sc1 fullShare
  iintro ⟨H1, H2, H3, H4, H5, H6, H7, H10, H11, H12, H13, ⟨%g0, HL⟩, Hk⟩
  unfold loopCtx
  icases HL with ⟨H14, H15, HL⟩
  rw [wp_bind]
  iapply (part2_run c i arg1 harg1 arg2 harg2 arg3 harg3 arg4 harg4 arg5 harg5 arg6 harg6 arg7 harg7 arg10 harg10 arg11 harg11 arg12 harg12 arg13 harg13 q1 q7 d1 d7 L)
  isplitl [H1]; · iexact H1
  isplitl [H7]; · iexact H7
  isplitl [H14]; · iexact H14
  iintro %r %er H1 H7 H14
  subst er
  unfold owns at *
  icases H1 with ⟨%f1, %h1, H1⟩
  icases H14 with ⟨%g14, %h14, H14⟩
  icases H15 with ⟨%g15, %h15, H15⟩
  subst h1
  set_option sl_exec.stopBefore "k0_part16" in sl_exec
  have e : body_run.sl.r_1 c arg1 f1 g14 = accV (arg1.view.read (Elt F) f1) (sc0.view.read (Elt F) g14) := rfl
  rw [h14] at e
  rw [e, wp_bind]
  iapply (part16_run c i arg1 harg1 arg2 harg2 arg3 harg3 arg4 harg4 arg5 harg5 arg6 harg6 arg7 harg7 arg10 harg10 arg11 harg11 arg12 harg12 arg13 harg13 q2 q3 q4 q5 q6 (BitVec.ofNat 32 (i 0).val) (arg1.view.read (Elt F) f1) d2 d3 d4 d5 d6 (lhsAt i d7 L) f8 f9)
  unfold loopCtx
  unfold owns
  isplitl [H2]; · iexact H2
  isplitl [H3]; · iexact H3
  isplitl [H4]; · iexact H4
  isplitl [H5]; · iexact H5
  isplitl [H6]; · iexact H6
  isplitl [H14 H15 HL]
  · isplitl [H14]; · iapply (o14 _ _ h14) $$ H14
    isplitl [H15]
    · iapply (o15 _ _ ?_) $$ H15
      rw [View.read_writes_full]
      rw [← h14]; rfl
    iexact HL
  iintro %g %r %er %eg H2 H3 H4 H5 H6 HL
  subst er
  icases H2 with ⟨%f2, %h2, H2⟩
  icases H3 with ⟨%f3, %h3, H3⟩
  icases H4 with ⟨%f4, %h4, H4⟩
  icases H5 with ⟨%f5, %h5, H5⟩
  icases H6 with ⟨%f6, %h6, H6⟩
  icases H10 with ⟨%f10, %h10, H10⟩
  icases H11 with ⟨%f11, %h11, H11⟩
  icases H12 with ⟨%f12, %h12, H12⟩
  icases H13 with ⟨%f13, %h13, H13⟩
  icases HL with ⟨H14, ⟨%g15', %h15', H15⟩, HL⟩
  subst h2 h3 h4 h5 h6 h10 h11 h12 h13
  have eg' : gAt i (arg1.view.read (Elt F) f1) (arg2.view.read (Elt F) f2) d7 L (hb8.view.read (Elt F) f8) (hb9.view.read (Elt F) f9) = sc1.view.read (Elt F) g15' := eg.symm.trans h15'.symm
  subst h15'
  sl_exec
  sl_step
  iapply Hk $$ %_ [H1] [H2] [H3] [H4] [H5] [H6] [H7] [H10] [H11] [H12] [H13]
  · iapply (o1 _ _ rfl) $$ H1
  · iapply (o2 _ _ rfl) $$ H2
  · iapply (o3 _ _ rfl) $$ H3
  · iapply (o4 _ _ rfl) $$ H4
  · iapply (o5 _ _ rfl) $$ H5
  · iapply (o6 _ _ rfl) $$ H6
  · iexact H7
  · iapply (o10 _ _ ?_) $$ H10
    rw [eg']; unfold putCols
    rw [View.read_writes_cons_put _ _ _ _ _ rfl, View.read_writes_cons_put _ _ _ _ _ rfl, View.read_writes_cons_put _ _ _ _ _ rfl, View.read_writes_cons_put _ _ _ _ _ rfl, View.writes_nil]
    rfl
  · iapply (o11 _ _ ?_) $$ H11
    rw [eg']; unfold putRows
    rw [View.read_writes_cons_put _ _ _ _ _ rfl, View.read_writes_cons_put _ _ _ _ _ rfl, View.read_writes_cons_put _ _ _ _ _ rfl, View.read_writes_cons_put _ _ _ _ _ rfl, View.writes_nil]
    rfl
  · iapply (o12 _ _ ?_) $$ H12
    rw [eg']; unfold putRows
    rw [View.read_writes_cons_put _ _ _ _ _ rfl, View.read_writes_cons_put _ _ _ _ _ rfl, View.read_writes_cons_put _ _ _ _ _ rfl, View.read_writes_cons_put _ _ _ _ _ rfl, View.writes_nil]
    rfl
  · iapply (o13 _ _ ?_) $$ H13
    rw [eg']; unfold putRows
    rw [View.read_writes_cons_put _ _ _ _ _ rfl, View.read_writes_cons_put _ _ _ _ _ rfl, View.read_writes_cons_put _ _ _ _ _ rfl, View.read_writes_cons_put _ _ _ _ _ rfl, View.writes_nil]
    rfl
  · iexists _
    isplitl [H14]; · iexact H14
    isplitl [H15]; · iapply (o15 _ _ rfl) $$ H15
    iexact HL

end Cert.KernelIdeal.Hand

end
-- ==== Proof.Run.lean ====
/-
  The run of the whole program: the proof data (what each point leaves in each window, the scratch between points), the body
  obligation from the body's triple (Body), the launch, and the arguments unchanged.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Transfers
public import Idealize.ShloMosaic.Lib.VecWindow
public import proofs.«01_k».proof.Proof.Vals
public import proofs.«01_k».proof.Proof.Trip
public import proofs.«01_k».proof.Proof.PartA
public import proofs.«01_k».proof.Proof.PartB
public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable [∀ e, Nonempty (Elt F e)]
variable (m : (ℓ : Loc nD τ sig) → Buf (Elt F) ℓ) (ρ : Dev nD → PrngReg)

/-! ## The inputs' blocks, the left operand, the gradient of a point -/

def I0 (c : Dev nD) (t : Fin cfg0.N) : Vec F S8x1x3x4x8x128 .i32 := iblk m c 0 t
def I1 (c : Dev nD) (t : Fin cfg0.N) : Vec F S8x512 .i32 := iblk m c 1 t
def I2 (c : Dev nD) (t : Fin cfg0.N) : Vec F S80x512 .i32 := iblk m c 2 t
def I3 (c : Dev nD) (t : Fin cfg0.N) : Vec F S144x128 .f32 := iblk m c 3 t
def I4 (c : Dev nD) (t : Fin cfg0.N) : Vec F S144x128 .f32 := iblk m c 4 t
def I5 (c : Dev nD) (t : Fin cfg0.N) : Vec F S144x128 .f32 := iblk m c 5 t
def I6 (c : Dev nD) (t : Fin cfg0.N) : Vec F S3x320x256 .bf16 := iblk m c 6 t
/-- The two occurrence lists. -/
def I8 (c : Dev nD) : Vec F S144x512 .i32 := hb8.view.read (Elt F) (V m c main_v6)
def I9 (c : Dev nD) : Vec F S144x512 .i32 := hb9.view.read (Elt F) (V m c main_v7)

/-- The left operand once the first point has written it. -/
def lhsF (c : Dev nD) : Vec F S3x336x256 .bf16 := lhsV (I6 m c ⟨0, by decide⟩) (fun _ => Classical.arbitrary _)

/-- The gradient of point `t`'s columns. -/
def gPt (c : Dev nD) (t : Fin cfg0.N) : Vec F S320x512 .f32 :=
  gV (BitVec.ofNat 32 (grid0.coords t 0).val) (I0 m c t) (lhsF m c) (I1 m c t) (I8 m c) (I9 m c)

/-- The two pieces cover the left operand: nothing of what it held is left. -/
theorem lhsV_indep (d7 : Vec F S3x320x256 .bf16) (L L' : Vec F S3x336x256 .bf16) : lhsV d7 L = lhsV d7 L' := by
  funext y
  unfold lhsV VecWindow.put
  split
  · rfl
  · next h2 =>
    have h1 : ∀ a, (![0, 0, 0] : Fin 3 → ℕ) a ≤ (y a).val ∧ (y a).val < (![0, 0, 0] : Fin 3 → ℕ) a + S3x320x256.size a := by
      by_contra hc
      apply h2
      have b0 : (y 0).val < 3 := (y 0).isLt
      have b1 : (y 1).val < 336 := (y 1).isLt
      have b2 : (y 2).val < 256 := (y 2).isLt
      have h320 : 320 ≤ (y 1).val := by
        by_contra hlt
        apply hc
        intro a
        match a with
        | 0 => exact ⟨Nat.zero_le _, by show (y 0).val < 0 + 3; omega⟩
        | 1 => exact ⟨Nat.zero_le _, by show (y 1).val < 0 + 320; omega⟩
        | 2 => exact ⟨Nat.zero_le _, by show (y 2).val < 0 + 256; omega⟩
      intro a
      match a with
      | 0 => exact ⟨Nat.zero_le _, by show (y 0).val < 0 + 3; omega⟩
      | 1 => exact ⟨h320, by show (y 1).val < 320 + 16; omega⟩
      | 2 => exact ⟨Nat.zero_le _, by show (y 2).val < 0 + 256; omega⟩
    rw [dif_pos h1, dif_pos h1]

theorem first_iff (t : Fin cfg0.N) : first (grid0.coords t) ↔ t.val = 0 := by
  revert t; decide +kernel

/-- At every point the left operand after the point's start is `lhsF`. -/
theorem lhsAt_eq (c : Dev nD) (t : Fin cfg0.N) (L : Vec F S3x336x256 .bf16) (h : t.val ≠ 0 → L = lhsF m c) :
    lhsAt (grid0.coords t) (I6 m c t) L = lhsF m c := by
  unfold lhsAt
  by_cases ht : t.val = 0
  · rw [if_pos ((first_iff t).mpr ht)]
    obtain rfl : t = ⟨0, by decide⟩ := Fin.ext ht
    exact lhsV_indep _ _ _
  · rw [if_neg fun h' => ht ((first_iff t).mp h')]; exact h ht

/-! ## The proof data -/

abbrev osem0 : Fin 1 → SemLoc sig := fun j => (![SemLoc.dma 15] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0) := by
  rw [Pipeline.ownSems0_eq_of_list c osem0 [0] (by decide) (by decide)]; rfl

/-- The occurrence lists, left in HBM. -/
def H0 : Finset (Ref sig .tc) := {main_v6, main_v7}
theorem H0_sub : H0 ⊆ Pipeline.restRefs sig spec0 := by decide
theorem hbmPts0_eq (c : Dev nD) :
    (bigSep H0 (fun b => ((c : Thread nD τ).loc b) ↦{fullShare} V m c b) : sProp 𝕄)
      = iprop(hbPt c hb8 (V m c main_v6) ∗ hbPt c hb9 (V m c main_v7)) := by
  rw [BI.bigSep_eq_bigSepL_of_eq [main_v6, main_v7] (by decide) (by decide)]; rfl

theorem PhiD0_eq (c : Dev nD) :
    (Pipeline.ΦD osem0 spec0 H0 (V m) c : sProp 𝕄)
      = iprop(iprop((∃ d, owns (c : Thread nD τ) sc0 fullShare d) ∗ (∃ d, owns (c : Thread nD τ) sc1 fullShare d)
            ∗ (∃ d, owns (c : Thread nD τ) sc2 fullShare d) ∗ (∃ d, owns (c : Thread nD τ) sc3 fullShare d)) ∗ (∃ r, prngReg c r)
          ∗ iprop(semVal ((c : Thread nD τ), SemLoc.dma 15) 0)
          ∗ iprop(hbPt c hb8 (V m c main_v6) ∗ hbPt c hb9 (V m c main_v7))) := by
  rw [Pipeline.ΦD_eq, scopedRest0_eq, ownSems00_eq, hbmPts0_eq]; simp only [owns_whole]; try rfl

/-- Between points: the left operand written once the first point has run, the rest of the scratch at anything. -/
def PhiT (c : Dev nD) (n : ℕ) : sProp 𝕄 :=
  iprop(iprop((∃ d, ⌜n ≠ 0 → d = lhsF m c⌝ ∗ owns (c : Thread nD τ) sc0 fullShare d) ∗ (∃ d, owns (c : Thread nD τ) sc1 fullShare d)
            ∗ (∃ d, owns (c : Thread nD τ) sc2 fullShare d) ∗ (∃ d, owns (c : Thread nD τ) sc3 fullShare d)) ∗ (∃ r, prngReg c r)
          ∗ iprop(semVal ((c : Thread nD τ), SemLoc.dma 15) 0)
          ∗ iprop(hbPt c hb8 (V m c main_v6) ∗ hbPt c hb9 (V m c main_v7)))

/-- What point `t` leaves in each window: an input as it was, the codes' four column blocks, four rows of each table. -/
def aft (c : Dev nD) : (w : Fin 11) → Fin cfg0.N → (Y X : (cfg0.win w).block.Idx → Elt F (cfg0.win w).elt) → Prop
  | 0 => fun _ Y X => X = Y | 1 => fun _ Y X => X = Y | 2 => fun _ Y X => X = Y | 3 => fun _ Y X => X = Y
  | 4 => fun _ Y X => X = Y | 5 => fun _ Y X => X = Y | 6 => fun _ Y X => X = Y
  | 7 => fun t Y X => X = putCols Y (cCodes (grid0.coords t) (gPt m c t) (I2 m c t) (I3 m c t) (I4 m c t) (I5 m c t))
  | 8 => fun t Y X => X = putRows (grid0.coords t) Y (cScale (grid0.coords t) (gPt m c t) (I2 m c t) (I3 m c t) (I4 m c t) (I5 m c t))
  | 9 => fun t Y X => X = putRows (grid0.coords t) Y (cMin (grid0.coords t) (gPt m c t) (I2 m c t) (I3 m c t) (I4 m c t) (I5 m c t))
  | 10 => fun t Y X => X = putRows (grid0.coords t) Y (cMom (grid0.coords t) (gPt m c t) (I5 m c t))

def rdat (c : Dev nD) : Pipeline.RDat τ (Elt F) Unit ℕ (Pipeline.UD sig nD τ) ℕ cfg0 c where
  A w := V m c (Pipeline.arrRef spec0 w)
  after := aft m c
  Φ t := PhiT m c t.val
  q _ := fullShare
  owed _ := 0

/-! ## What the body finds in an input window -/

theorem finds_in (c : Dev nD) (w : Fin 11) (hw : (cfg0.win w).isOut = false) (hc : ∀ t a, (cfg0.win w).clip (cfg0.grid.coords t) a = none)
    (hk : ∀ t Y X, (rdat m c).after w t Y X → X = Y) (t : Fin cfg0.N) (Y) (h : (rdat m c).Finds w t Y) :
    ∃ d, Y = (cfg0.win w).fill (cfg0.grid.coords t) d (iblk m c w t) :=
  Pipeline.RDat.finds_in_eq_fetched (rdat m c) w hw (fun t t' _ => funext fun a => (hc t a).trans (hc t' a).symm) hk t Y h

theorem finds0 (c : Dev nD) (t : Fin cfg0.N) (Y) (h : (rdat m c).Finds 0 t Y) : Y = I0 m c t := by
  obtain ⟨d, hd⟩ := finds_in m c 0 rfl (fun _ _ => rfl) (fun _ _ _ h => h) t Y h; exact hd.trans (by unfold I0; rfl)
theorem finds1 (c : Dev nD) (t : Fin cfg0.N) (Y) (h : (rdat m c).Finds 1 t Y) : Y = I1 m c t := by
  obtain ⟨d, hd⟩ := finds_in m c 1 rfl (fun _ _ => rfl) (fun _ _ _ h => h) t Y h; exact hd.trans (by unfold I1; rfl)
theorem finds2 (c : Dev nD) (t : Fin cfg0.N) (Y) (h : (rdat m c).Finds 2 t Y) : Y = I2 m c t := by
  obtain ⟨d, hd⟩ := finds_in m c 2 rfl (fun _ _ => rfl) (fun _ _ _ h => h) t Y h; exact hd.trans (by unfold I2; rfl)
theorem finds3 (c : Dev nD) (t : Fin cfg0.N) (Y) (h : (rdat m c).Finds 3 t Y) : Y = I3 m c t := by
  obtain ⟨d, hd⟩ := finds_in m c 3 rfl (fun _ _ => rfl) (fun _ _ _ h => h) t Y h; exact hd.trans (by unfold I3; rfl)
theorem finds4 (c : Dev nD) (t : Fin cfg0.N) (Y) (h : (rdat m c).Finds 4 t Y) : Y = I4 m c t := by
  obtain ⟨d, hd⟩ := finds_in m c 4 rfl (fun _ _ => rfl) (fun _ _ _ h => h) t Y h; exact hd.trans (by unfold I4; rfl)
theorem finds5 (c : Dev nD) (t : Fin cfg0.N) (Y) (h : (rdat m c).Finds 5 t Y) : Y = I5 m c t := by
  obtain ⟨d, hd⟩ := finds_in m c 5 rfl (fun _ _ => rfl) (fun _ _ _ h => h) t Y h; exact hd.trans (by unfold I5; rfl)
theorem finds6 (c : Dev nD) (t : Fin cfg0.N) (Y) (h : (rdat m c).Finds 6 t Y) : Y = I6 m c t := by
  obtain ⟨d, hd⟩ := finds_in m c 6 rfl (fun _ _ => rfl) (fun _ _ _ h => h) t Y h; exact hd.trans (by unfold I6; rfl)

/-! ## The body obligation -/

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y hY => by
  rw [bigSep_W0, bigSep_W0, defs₀_row]
  unfold bodyAt0
  rw [show (rdat m c).Φ t.succ = PhiT m c (t.val + 1) from rfl, show (rdat m c).Φ t.castSucc = PhiT m c t.val from rfl]
  unfold PhiT
  unfold Pipeline.RDat.owesAt Pipeline.owesWithin
  rw [show (rdat m c).owed t.castSucc = 0 from rfl, show (rdat m c).owed t.succ = 0 from rfl]
  iintro ⟨⟨⟨⟨%L, %hL, HS0⟩, ⟨%G, HS1⟩, HS2, HS3⟩, Hg, Hq, H8, H9⟩, ⟨%W, %hW, HO⟩, H0, H1, H2, H3, H4, H5, H6, H7, HA, HB, HC⟩
  iapply (body_run c (grid0.coords t) _ (hstage0_0 _) _ (hstage0_1 _) _ (hstage0_2 _) _ (hstage0_3 _) _ (hstage0_4 _) _ (hstage0_5 _)
    _ (hstage0_6 _) _ (hstage0_7 _) _ (hstage0_8 _) _ (hstage0_9 _) _ (hstage0_10 _) fullShare fullShare fullShare fullShare fullShare fullShare fullShare
    (Y 0) (Y 1) (Y 2) (Y 3) (Y 4) (Y 5) (Y 6) (Y 7) (Y 8) (Y 9) (Y 10) L (V m c main_v6) (V m c main_v7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexact HA
  isplitl [HB]; · iexact HB
  isplitl [HC]; · iexact HC
  isplitl [HS0 HS1 HS2 HS3 Hq H8 H9 HO]
  · iexists G; unfold loopCtx
    isplitl [HS0]; · iexact HS0
    isplitl [HS1]; · iexact HS1
    isplitl [HS2]; · iexact HS2
    isplitl [HS3]; · iexact HS3
    isplitl [Hq]; · iexact Hq
    isplitl [H8]; · iexact H8
    isplitl [H9]; · iexact H9
    iexists W; iexact HO
  iintro %r H0 H1 H2 H3 H4 H5 H6 H7 HA HB HC ⟨%G', HL⟩
  unfold loopCtx
  icases HL with ⟨HS0, HS1, HS2, HS3, Hq, H8, H9, ⟨%W', HO⟩⟩
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have e6 := finds6 m c t _ (hY 6)
  have eL : lhsAt (grid0.coords t) (Y 6) L = lhsF m c := by rw [e6]; exact lhsAt_eq m c t L hL
  have eg : gAt (grid0.coords t) (Y 0) (Y 1) (Y 6) L (hb8.view.read (Elt F) (V m c main_v6)) (hb9.view.read (Elt F) (V m c main_v7)) = gPt m c t := by
    unfold gAt; rw [eL, e0, e1]; rfl
  isplitl [HS0 HS1 HS2 HS3 Hg Hq H8 H9]
  · isplitl [HS0 HS1 HS2 HS3]
    · isplitl [HS0]
      · iexists _; isplitr; swap; · iexact HS0
        ipureintro; exact fun _ => eL
      isplitl [HS1]; · iexists _; iexact HS1
      isplitl [HS2]; · iexact HS2
      iexact HS3
    isplitl [Hg]; · iexact Hg
    isplitl [Hq]; · iexact Hq
    isplitl [H8]; · iexact H8
    iexact H9
  isplitl [HO]
  · iexists W'; isplitr; · ipureintro; exact fun _ _ => Or.inl trivial
    iexact HO
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]
  · iexists _; isplitr; swap; · iexact H7
    ipureintro; rw [eg, e2, e3, e4, e5]; rfl
  isplitl [HA]
  · iexists _; isplitr; swap; · iexact HA
    ipureintro; rw [eg, e2, e3, e4, e5]; rfl
  isplitl [HB]
  · iexists _; isplitr; swap; · iexact HB
    ipureintro; rw [eg, e2, e3, e4, e5]; rfl
  · iexists _; isplitr; swap; · iexact HC
    ipureintro; rw [eg, e5]; rfl

/-! ## The launch -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem hin (c : Dev nD) : (Pipeline.ΦD osem0 spec0 H0 (V m) c : sProp 𝕄) ⊢ (rdat m c).Φ 0 := by
  rw [PhiD0_eq, show (rdat m c).Φ 0 = PhiT m c 0 from rfl]; unfold PhiT
  iintro ⟨⟨⟨%d, HS0⟩, HS⟩, HR⟩
  isplitl [HS0 HS]
  · isplitl [HS0]
    · iexists d; isplitr; swap; · iexact HS0
      ipureintro; exact fun h => absurd rfl h
    iexact HS
  iexact HR

theorem hout (c : Dev nD) : (rdat m c).Φ (Fin.last cfg0.N) ⊢ (Pipeline.ΦD osem0 spec0 H0 (V m) c : sProp 𝕄) := by
  rw [PhiD0_eq, show (rdat m c).Φ (Fin.last cfg0.N) = PhiT m c cfg0.N from rfl]; unfold PhiT
  iintro ⟨⟨⟨%d, %h, HS0⟩, HS⟩, HR⟩
  isplitl [HS0 HS]
  · isplitl [HS0]
    · iexists d; iexact HS0
    iexact HS
  iexact HR

set_option backward.isDefEq.respectTransparency.types false in
/-- From any memory with zero counters every weakly fair execution terminates; the arrays end as the proof data allow, every other
    unscoped buffer as the region found it, every counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_dma (Q' := _) cfgs (0 : Fin 1) launch0 osem0 defs₀ Variants.none (rdat m) ownSemFacts0 H0 H0_sub m ρ main
    (hbody := body_obligation m) (hshare := fun c w => by unfold Pipeline.RDat.share; split <;> rfl)
    (howed := fun _ _ => rfl) (V := V m) (hmain := hmainD m Variants.none) (hA := fun _ _ => rfl)
    (hin := hin m) (hout := hout m)

variable {m ρ}

theorem final_args {r : PUnit × MemSt nD τ sig (Elt F)} (h : Pipeline.RDat.FramePost (cfgs 0) (rdat (F := F) m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((Pipeline.RDat.ArrAt_in (rdat m c) 2 rfl _ ▸ (h c).1 2 :)).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c)⟩

end Cert.KernelIdeal.Hand

end
-- ==== Proof.ValsBits.lean ====
/-
  The values the finish kernel's body computes at one grid point, as functions of the contents of the buffers it reads. The
  24 packed words of a histogram block, the product with the carried left operand, the fallback's sum over the 144 chunks of
  occurrences, and the four columns of 128 that the tail of the body quantizes. Nothing is proved here about their meaning.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic
public import Idealize.ShloMosaic.Lib.Transfers
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The kernel's scratch buffers, and the two occurrence lists left in high-bandwidth memory, whole. -/
abbrev sc0 : Memref sig .tc .vmem S3x336x256 .bf16 := Memref.whole cc0_scratch0
abbrev sc1 : Memref sig .tc .vmem S320x512 .f32 := Memref.whole cc0_scratch1
abbrev sc2 : Memref sig .tc .vmem S1x512 .i32 := Memref.whole cc0_scratch2
abbrev sc3 : Memref sig .tc .vmem S1x512 .i32 := Memref.whole cc0_scratch3
abbrev hb8 : Memref sig .tc .hbm S144x512 .i32 := Memref.whole main_v6
abbrev hb9 : Memref sig .tc .hbm S144x512 .i32 := Memref.whole main_v7

/-- One piece of the histogram block: eighth `b`, tile `k` of bags, tile `u` of columns. -/
def hp (d1 : Vec F S8x1x3x4x8x128 .i32) (b : Fin 8) (k : Fin 3) (u : Fin 4) : Vec F S1x1x1x1x8x128 .i32 :=
  View.ld (Val := Elt F) (e' := .i32) d1 (Rect.unit (s := S8x1x3x4x8x128) ![b.val, 0, k.val, u.val, 0, 0] S1x1x1x1x8x128.size (by
    intro a; have := b.isLt; have := k.isLt; have := u.isLt; fin_cases a <;> simp <;> omega))

/-- The four pieces of one tile of bags, side by side. -/
def hw (d1 : Vec F S8x1x3x4x8x128 .i32) (b : Fin 8) (k : Fin 3) : IVec S8x512 32 :=
  k0_pay9 (hp d1 b k 0) (hp d1 b k 1) (hp d1 b k 2) (hp d1 b k 3)

/-- A slab of the carried left operand: all 336 rows, or the 320 rows that hold the gradient. -/
def slab (L : Vec F S3x336x256 .bf16) (p : Fin 3) : Vec F S1x336x256 .bf16 :=
  View.ld (Val := Elt F) (e' := .bf16) L (Rect.unit (s := S3x336x256) ![p.val, 0, 0] S1x336x256.size (by
    intro a; have := p.isLt; fin_cases a <;> simp <;> omega))
def gslab (L : Vec F S3x336x256 .bf16) (p : Fin 3) : Vec F S1x320x256 .bf16 :=
  View.ld (Val := Elt F) (e' := .bf16) L (Rect.unit (s := S3x336x256) ![p.val, 0, 0] S1x320x256.size (by
    intro a; have := p.isLt; fin_cases a <;> simp <;> omega))

/-- The left operand as the first point writes it: the gradient in rows 0 to 319, ones in rows 320 to 335 (over `L`). -/
def lhsV (d7 : Vec F S3x320x256 .bf16) (L : Vec F S3x336x256 .bf16) : Vec F S3x336x256 .bf16 :=
  VecWindow.put (VecWindow.put L ![0, 0, 0] S3x320x256.size (k0_pay3 d7)) ![0, 320, 0] S3x16x256.size (k0_pay4 (F := F))

/-- The product of the left operand with the bytes of the histogram block. -/
def accV (d1 : Vec F S8x1x3x4x8x128 .i32) (L : Vec F S3x336x256 .bf16) : FVec F S336x512 .f32 :=
  k0_pay50 (hw d1 0 0) (hw d1 0 1) (hw d1 0 2) (hw d1 1 0) (hw d1 1 1) (hw d1 1 2) (hw d1 2 0) (hw d1 2 1) (hw d1 2 2)
    (hw d1 3 0) (hw d1 3 1) (hw d1 3 2) (hw d1 4 0) (hw d1 4 1) (hw d1 4 2) (hw d1 5 0) (hw d1 5 1) (hw d1 5 2)
    (hw d1 6 0) (hw d1 6 1) (hw d1 6 2) (hw d1 7 0) (hw d1 7 1) (k0_pay10 (hp d1 7 2 0)) (hp d1 7 2 1) (hp d1 7 2 2) (hp d1 7 2 3)
    (slab L 0) (slab L 1) (slab L 2)
/-- Its first 320 rows. -/
def accG (d1 : Vec F S8x1x3x4x8x128 .i32) (L : Vec F S3x336x256 .bf16) : FVec F S320x512 .f32 :=
  shapeCast S320x512 (extractStridedSlice S320x512 ![0, 0] (accV d1 L) slices_S336x512_o0_0_S320x512) shapeCasts_S320x512_S320x512

/-- Some byte of the block does not hold its count: the block's column sums differ from the counts' sums. -/
def bad (d1 : Vec F S8x1x3x4x8x128 .i32) (L : Vec F S3x336x256 .bf16) (d2 : Vec F S8x512 .i32) : Prop :=
  Scalar.cmpi .ne (Scalar.extui (Scalar.cmpf .ogt (k0_pay52 (accV d1 L) d2) (Scalar.ofBits .f32 0x00000000#32) : BitVec 1) : BitVec 32) 0#32 = 1#1

/-- Chunk `t` of an occurrence list. -/
def chunk (d : Vec F S144x512 .i32) (t : Fin k0_t1_loop.trips) : Vec F S1x512 .i32 :=
  View.ld (Val := Elt F) (e' := .i32) d (Rect.unit (s := S144x512) (k0_off1 t) S1x512.size (k0_off1_inb t))

/-- One trip of the fallback: chunk `t` of the occurrences added to `G`. -/
def tripV (a0 : BitVec 32) (L : Vec F S3x336x256 .bf16) (d8 d9 : Vec F S144x512 .i32) (t : Fin k0_t1_loop.trips)
    (G : Vec F S320x512 .f32) : Vec F S320x512 .f32 :=
  k0_pay54 a0 (k0_pay2 (chunk d8 t) (gslab L 0) (chunk d8 t) (gslab L 1)) (iota .tc S256x512 32 [0] iota_S256x512_d0_w32)
    (chunk d8 t) (gslab L 2) (chunk d9 t) G

/-- The fallback's sum after the first `k` chunks. -/
def gBad (a0 : BitVec 32) (L : Vec F S3x336x256 .bf16) (d8 d9 : Vec F S144x512 .i32) : ℕ → Vec F S320x512 .f32
  | 0 => k0_pay53
  | k + 1 => if h : k < k0_t1_loop.trips then tripV a0 L d8 d9 ⟨k, h⟩ (gBad a0 L d8 d9 k) else gBad a0 L d8 d9 k

open Classical in
/-- The gradient of the point's 512 columns: the product where every byte holds its count, the fallback's sum otherwise. -/
def gV (a0 : BitVec 32) (d1 : Vec F S8x1x3x4x8x128 .i32) (L : Vec F S3x336x256 .bf16) (d2 : Vec F S8x512 .i32)
    (d8 d9 : Vec F S144x512 .i32) : Vec F S320x512 .f32 :=
  if bad d1 L d2 then gBad a0 L d8 d9 k0_t1_loop.trips else accG d1 L

/-- Column block `j` of 128 columns, of the gradient and of the packed codes; row `4 i + j` of a table. -/
def gcol (g : Vec F S320x512 .f32) (j : Fin 4) : Vec F S320x128 .f32 :=
  View.ld (Val := Elt F) (e' := .f32) g (Rect.unit (s := S320x512) ![0, 128 * j.val] S320x128.size (by
    intro a; have := j.isLt; fin_cases a <;> simp <;> omega))
def wcol (d3 : Vec F S80x512 .i32) (j : Fin 4) : Vec F S80x128 .i32 :=
  View.ld (Val := Elt F) (e' := .i32) d3 (Rect.unit (s := S80x512) ![0, 128 * j.val] S80x128.size (by
    intro a; have := j.isLt; fin_cases a <;> simp <;> omega))
/-- The column block's index as the kernel's word. -/
abbrev jw (j : Fin 4) : BitVec 32 := BitVec.ofNat 32 j.val
def trow (i : grid0.Coords) (d : Vec F S144x128 .f32) (j : Fin 4) : Vec F S1x128 .f32 :=
  View.ld (Val := Elt F) (e' := .f32) d (Rect.unit (s := S144x128) (k0_off2 i (jw j)) S1x128.size (k0_off2_inb i j))

/-- The new momentum, bias, scale and codes of a column block. -/
def cMom (i : grid0.Coords) (g : Vec F S320x512 .f32) (d6 : Vec F S144x128 .f32) (j : Fin 4) : FVec F S1x128 .f32 :=
  k0_pay63 (gcol g j) (trow i d6 j)
def cW (i : grid0.Coords) (g : Vec F S320x512 .f32) (d3 : Vec F S80x512 .i32) (d4 d5 d6 : Vec F S144x128 .f32) (j : Fin 4) : FVec F S320x128 .f32 :=
  k0_pay64 (gcol g j) (wcol d3 j) (trow i d4 j) (trow i d5 j) (trow i d6 j)
def cMin (i : grid0.Coords) (g : Vec F S320x512 .f32) (d3 : Vec F S80x512 .i32) (d4 d5 d6 : Vec F S144x128 .f32) (j : Fin 4) : FVec F S1x128 .f32 :=
  k0_pay65 (gcol g j) (wcol d3 j) (trow i d4 j) (trow i d5 j) (trow i d6 j)
def cScale (i : grid0.Coords) (g : Vec F S320x512 .f32) (d3 : Vec F S80x512 .i32) (d4 d5 d6 : Vec F S144x128 .f32) (j : Fin 4) : FVec F S1x128 .f32 :=
  k0_pay66 (gcol g j) (wcol d3 j) (trow i d4 j) (trow i d5 j) (trow i d6 j)
def cCodes (i : grid0.Coords) (g : Vec F S320x512 .f32) (d3 : Vec F S80x512 .i32) (d4 d5 d6 : Vec F S144x128 .f32) (j : Fin 4) : IVec S320x128 8 :=
  k0_pay67 (cW i g d3 d4 d5 d6 j) (cMin i g d3 d4 d5 d6 j) (cScale i g d3 d4 d5 d6 j)

/-- The four rows `4 i`, …, `4 i + 3` of a table replaced, and the four column blocks of the codes written. -/
def putRows (i : grid0.Coords) (d : Vec F S144x128 .f32) (x : Fin 4 → FVec F S1x128 .f32) : Vec F S144x128 .f32 :=
  VecWindow.put (VecWindow.put (VecWindow.put (VecWindow.put d (k0_off2 i (jw 0)) S1x128.size (x 0)) (k0_off2 i (jw 1)) S1x128.size (x 1))
    (k0_off2 i (jw 2)) S1x128.size (x 2)) (k0_off2 i (jw 3)) S1x128.size (x 3)
def putCols (d : Vec F S320x512 .i8) (x : Fin 4 → IVec S320x128 8) : Vec F S320x512 .i8 :=
  VecWindow.put (α := Elt F .i8) (VecWindow.put (α := Elt F .i8) (VecWindow.put (α := Elt F .i8) (VecWindow.put (α := Elt F .i8) d
    ![0, 0] S320x128.size (x 0)) ![0, 128] S320x128.size (x 1)) ![0, 256] S320x128.size (x 2)) ![0, 384] S320x128.size (x 3)

end Cert.Kernel.Hand

end
-- ==== Proof.TripBits.lean ====
/-
  One trip of the fallback's loop: the chunk of the two occurrence lists fetched, multiplied and added to the gradient; and the
  loop's invariant.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic
public import Idealize.ShloMosaic.Lib.Transfers
public import Idealize.ShloMosaic.Lib.VecWindow
public import proofs.«01_k».proof.Proof.ValsBits

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A memref's buffer on core `c` held whole at `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

variable [∀ e, Nonempty (Elt F e)]

/-- What a trip works on: the left operand, the running sum, the two chunk buffers, the cell, the two lists, the wait record. -/
def loopCtx (c : Dev nD) (L : Vec F S3x336x256 .bf16) (f8 : Buf (Elt F) (hb8.view.loc (c : Thread nD τ)))
    (f9 : Buf (Elt F) (hb9.view.loc (c : Thread nD τ))) (G : Vec F S320x512 .f32) : sProp 𝕄 :=
  iprop(owns (c : Thread nD τ) sc0 fullShare L ∗ owns (c : Thread nD τ) sc1 fullShare G
    ∗ (∃ d, owns (c : Thread nD τ) sc2 fullShare d) ∗ (∃ d, owns (c : Thread nD τ) sc3 fullShare d)
    ∗ semVal ((c : Thread nD τ), SemLoc.dma 15) 0 ∗ hbPt c hb8 f8 ∗ hbPt c hb9 f9 ∗ ∃ W, owes (c : Thread nD τ) 0 W)

theorem trip (c : Dev nD) (i : grid0.Coords) (arg1 : Memref sig .tc .vmem S8x1x3x4x8x128 .i32) (harg1 : arg1.IsWhole) (arg2 : Memref sig .tc .vmem S8x512 .i32) (harg2 : arg2.IsWhole) (arg3 : Memref sig .tc .vmem S80x512 .i32) (harg3 : arg3.IsWhole) (arg4 : Memref sig .tc .vmem S144x128 .f32) (harg4 : arg4.IsWhole) (arg5 : Memref sig .tc .vmem S144x128 .f32) (harg5 : arg5.IsWhole) (arg6 : Memref sig .tc .vmem S144x128 .f32) (harg6 : arg6.IsWhole) (arg7 : Memref sig .tc .vmem S3x320x256 .bf16) (harg7 : arg7.IsWhole) (arg10 : Memref sig .tc .vmem S320x512 .i8) (harg10 : arg10.IsWhole) (arg11 : Memref sig .tc .vmem S144x128 .f32) (harg11 : arg11.IsWhole) (arg12 : Memref sig .tc .vmem S144x128 .f32) (harg12 : arg12.IsWhole) (arg13 : Memref sig .tc .vmem S144x128 .f32) (harg13 : arg13.IsWhole) (a0 : BitVec 32) (v237 : FVec F S336x512 .f32) (t : Fin k0_t1_loop.trips)
    (L : Vec F S3x336x256 .bf16) (G : Vec F S320x512 .f32) (f8 : Buf (Elt F) (hb8.view.loc (c : Thread nD τ)))
    (f9 : Buf (Elt F) (hb9.view.loc (c : Thread nD τ))) :
    loopCtx c L f8 f9 G
      ⊢ wp frame (wpE (defs₀ (F := F)) Variants.none c none) Set.univ
          (k0_t1_body i arg1 harg1 arg2 harg2 arg3 harg3 arg4 harg4 arg5 harg5 arg6 harg6 arg7 harg7 hb8 (Memref.isWhole_whole _) hb9 (Memref.isWhole_whole _) arg10 harg10 arg11 harg11 arg12 harg12 arg13 harg13 sc0 (Memref.isWhole_whole _) sc1 (Memref.isWhole_whole _) sc2 (Memref.isWhole_whole _) sc3 (Memref.isWhole_whole _) cc0_scratch4 a0 v237 t ())
          (fun _ => loopCtx c L f8 f9 (tripV a0 L (hb8.view.read (Elt F) f8) (hb9.view.read (Elt F) f9) t G)) := by
  have plan : Transfers.BatchOf (c : Thread nD τ) (SemLoc.dma (sig := sig) 15) 2 := Transfers.BatchOf.intro _ _ _
  simp only [loopCtx]
  unfold k0_t1_body
  simp only [k0_part1_eq_skeleton]; unfold k0_part1_skel
  unfold owns
  iintro ⟨⟨%g14, %h14, H14⟩, ⟨%g15, %h15, H15⟩, ⟨%d2, %g16, -, H16⟩, ⟨%d3, %g17, -, H17⟩, Hq, H8, H9, ⟨%W, HW⟩⟩
  sl_exec
  sl_step
  have e0 : trip.sl.dma0 c t f8 = chunk (hb8.view.read (Elt F) f8) t := rfl
  have e1 : trip.sl.dma1 c t f9 = chunk (hb9.view.read (Elt F) f9) t := rfl
  have e2 : trip.sl.v522 c t f8 = chunk (hb8.view.read (Elt F) f8) t := by
    unfold trip.sl.v522; rw [← e0]; exact View.readCov_full _ _ _ _ _
  have e3 : trip.sl.v548 c t f8 = chunk (hb8.view.read (Elt F) f8) t := by
    unfold trip.sl.v548; rw [← e0]; exact View.readCov_full _ _ _ _ _
  have e4 : trip.sl.v562 c t f9 = chunk (hb9.view.read (Elt F) f9) t := by
    unfold trip.sl.v562; rw [← e1]; exact View.readCov_full _ _ _ _ _
  rw [e2, e3, e4]
  subst h14 h15
  isplitl [H14]
  · iexists _; isplitr; swap; · iexact H14
    ipureintro; rfl
  isplitl [H15]
  · iexists _; isplitr; swap; · iexact H15
    ipureintro; rw [View.read_writes_full]; rw [View.readAt_full]; rfl
  isplitl [H16]
  · iexists _, _; isplitr; swap; · iexact H16
    ipureintro; rfl
  isplitl [H17]
  · iexists _, _; isplitr; swap; · iexact H17
    ipureintro; rfl
  isplitl [Hq]; · iexact Hq
  isplitl [H8]; · iexact H8
  isplitl [H9]; · iexact H9
  iexists _; iexact HW

@[sl_loop, instance_reducible] def loopInv (c : Dev nD) (i : grid0.Coords) (arg1 : Memref sig .tc .vmem S8x1x3x4x8x128 .i32) (harg1 : arg1.IsWhole) (arg2 : Memref sig .tc .vmem S8x512 .i32) (harg2 : arg2.IsWhole) (arg3 : Memref sig .tc .vmem S80x512 .i32) (harg3 : arg3.IsWhole) (arg4 : Memref sig .tc .vmem S144x128 .f32) (harg4 : arg4.IsWhole) (arg5 : Memref sig .tc .vmem S144x128 .f32) (harg5 : arg5.IsWhole) (arg6 : Memref sig .tc .vmem S144x128 .f32) (harg6 : arg6.IsWhole) (arg7 : Memref sig .tc .vmem S3x320x256 .bf16) (harg7 : arg7.IsWhole) (arg10 : Memref sig .tc .vmem S320x512 .i8) (harg10 : arg10.IsWhole) (arg11 : Memref sig .tc .vmem S144x128 .f32) (harg11 : arg11.IsWhole) (arg12 : Memref sig .tc .vmem S144x128 .f32) (harg12 : arg12.IsWhole) (arg13 : Memref sig .tc .vmem S144x128 .f32) (harg13 : arg13.IsWhole) (a0 : BitVec 32) (v237 : FVec F S336x512 .f32)
    (L : Vec F S3x336x256 .bf16) (f8 : Buf (Elt F) (hb8.view.loc (c : Thread nD τ)))
    (f9 : Buf (Elt F) (hb9.view.loc (c : Thread nD τ))) :
    Gen.LoopInvTy_k0_t1 (F := F) Unit ℕ (Pipeline.UD sig nD τ) ℕ Variants.none c none Set.univ i arg1 harg1 arg2 harg2 arg3 harg3 arg4 harg4 arg5 harg5 arg6 harg6 arg7 harg7 hb8 (Memref.isWhole_whole _) hb9 (Memref.isWhole_whole _) arg10 harg10 arg11 harg11 arg12 harg12 arg13 harg13 sc0 (Memref.isWhole_whole _) sc1 (Memref.isWhole_whole _) sc2 (Memref.isWhole_whole _) sc3 (Memref.isWhole_whole _) cc0_scratch4 a0 v237 where
  inv := fun k _ => loopCtx c L f8 f9 (gBad a0 L (hb8.view.read (Elt F) f8) (hb9.view.read (Elt F) f9) k)
  step := fun k _ => by
    have e : gBad a0 L (hb8.view.read (Elt F) f8) (hb9.view.read (Elt F) f9) (k.val + 1) = _ := dif_pos k.isLt
    simp only [e]
    exact trip c i arg1 harg1 arg2 harg2 arg3 harg3 arg4 harg4 arg5 harg5 arg6 harg6 arg7 harg7 arg10 harg10 arg11 harg11 arg12 harg12 arg13 harg13 a0 v237 k L _ f8 f9

end Cert.Kernel.Hand

end
-- ==== Proof.PartABits.lean ====
/-
  The body's triple at one grid point, by its parts: from the buffers at given contents to the same buffers with the outputs'
  contents given as functions of what was read (Vals).
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic
public import Idealize.ShloMosaic.Lib.Transfers
public import Idealize.ShloMosaic.Lib.VecWindow
public import proofs.«01_k».proof.Proof.ValsBits
public import proofs.«01_k».proof.Proof.TripBits

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable [∀ e, Nonempty (Elt F e)]

/-- The guard of the left operand's initialization: the grid index is zero. -/
abbrev first (i : grid0.Coords) : Prop :=
  Scalar.cmpi .ne (Scalar.extui (Scalar.cmpi .eq (BitVec.ofNat 32 (i 0).val) 0#32) : BitVec 32) 0#32 = 1#1

/-- A buffer held at contents that read as `d`. -/
theorem owns_of (c : Dev nD) {sp : Space} {S : Shape} {e : EltTy} (M : Memref sig .tc sp S e) (q : PosShare TreeShare)
    (f : M.view.ty.Contents (Elt F)) (d : Vec F S e) (h : M.view.read (Elt F) f = d) :
    (M.view.loc (c : Thread nD τ) ↦[M.view.set]{q} f : sProp 𝕄) ⊢ owns (c : Thread nD τ) M q d := by
  unfold owns; iintro H; iexists f
  isplitr; swap; · iexact H
  ipureintro; exact h

open Classical in
/-- The left operand after the initialization. -/
def lhsAt (i : grid0.Coords) (d7 : Vec F S3x320x256 .bf16) (L : Vec F S3x336x256 .bf16) : Vec F S3x336x256 .bf16 :=
  if first i then lhsV d7 L else L

theorem part2_run (c : Dev nD) (i : grid0.Coords) (arg1 : Memref sig .tc .vmem S8x1x3x4x8x128 .i32) (harg1 : arg1.IsWhole) (arg2 : Memref sig .tc .vmem S8x512 .i32) (harg2 : arg2.IsWhole) (arg3 : Memref sig .tc .vmem S80x512 .i32) (harg3 : arg3.IsWhole) (arg4 : Memref sig .tc .vmem S144x128 .f32) (harg4 : arg4.IsWhole) (arg5 : Memref sig .tc .vmem S144x128 .f32) (harg5 : arg5.IsWhole) (arg6 : Memref sig .tc .vmem S144x128 .f32) (harg6 : arg6.IsWhole) (arg7 : Memref sig .tc .vmem S3x320x256 .bf16) (harg7 : arg7.IsWhole) (arg10 : Memref sig .tc .vmem S320x512 .i8) (harg10 : arg10.IsWhole) (arg11 : Memref sig .tc .vmem S144x128 .f32) (harg11 : arg11.IsWhole) (arg12 : Memref sig .tc .vmem S144x128 .f32) (harg12 : arg12.IsWhole) (arg13 : Memref sig .tc .vmem S144x128 .f32) (harg13 : arg13.IsWhole) (q1 q7 : PosShare TreeShare) (d1 : Vec F S8x1x3x4x8x128 .i32) (d7 : Vec F S3x320x256 .bf16) (L : Vec F S3x336x256 .bf16)
    (K : _ → sProp 𝕄) :
    iprop(owns (c : Thread nD τ) arg1 q1 d1 ∗ owns (c : Thread nD τ) arg7 q7 d7 ∗ owns (c : Thread nD τ) sc0 fullShare L
      ∗ (∀ r, ⌜r = ⟨BitVec.ofNat 32 (i 0).val, hw d1 0 0, k0_pay6 (hp d1 0 1 0), k0_pay7 (hp d1 0 1 1)⟩⌝ -∗ owns (c : Thread nD τ) arg1 q1 d1 -∗ owns (c : Thread nD τ) arg7 q7 d7 -∗ owns (c : Thread nD τ) sc0 fullShare (lhsAt i d7 L)
          -∗ K r))
      ⊢ wp frame (wpE (defs₀ (F := F)) Variants.none c none) Set.univ (k0_part2 i arg1 harg1 arg2 harg2 arg3 harg3 arg4 harg4 arg5 harg5 arg6 harg6 arg7 harg7 hb8 (Memref.isWhole_whole _) hb9 (Memref.isWhole_whole _) arg10 harg10 arg11 harg11 arg12 harg12 arg13 harg13 sc0 (Memref.isWhole_whole _) sc1 (Memref.isWhole_whole _) sc2 (Memref.isWhole_whole _) sc3 (Memref.isWhole_whole _) cc0_scratch4) K := by
  simp only [k0_part2_eq_skeleton]; unfold k0_part2_skel
  have o1 := @owns_of F _ _ c _ _ _ arg1 q1
  have o7 := @owns_of F _ _ c _ _ _ arg7 q7
  have o14 := @owns_of F _ _ c _ _ _ sc0 fullShare
  iintro ⟨H1, H7, H14, Hk⟩
  unfold owns at *
  icases H1 with ⟨%f1, %h1, H1⟩
  icases H7 with ⟨%f7, %h7, H7⟩
  icases H14 with ⟨%g14, %h14, H14⟩
  subst h1 h7 h14
  by_cases hf : first i
  · sl_exec
    sl_step
    iapply Hk $$ %_ [] [H1] [H7]
    · ipureintro; rfl
    · iapply (o1 _ _ rfl) $$ H1
    · iapply (o7 _ _ rfl) $$ H7
    iapply (o14 _ _ ?_) $$ H14
    unfold lhsAt; rw [if_pos hf]; unfold lhsV
    rw [View.read_writes_cons_put _ _ _ _ _ rfl, View.read_writes_cons_put _ _ _ _ _ rfl, View.writes_nil]
    rw [View.readAt_full]
  · sl_exec
    sl_step
    iapply Hk $$ %_ [] [H1] [H7]
    · ipureintro; rfl
    · iapply (o1 _ _ rfl) $$ H1
    · iapply (o7 _ _ rfl) $$ H7
    iapply (o14 _ _ ?_) $$ H14
    unfold lhsAt; rw [if_neg hf]

end Cert.Kernel.Hand

end
-- ==== Proof.PartBBits.lean ====
/-
  The middle part of the body: the check of the histogram's bytes, the fallback's loop where it fails, and the first column
  block's loads.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic
public import Idealize.ShloMosaic.Lib.Transfers
public import Idealize.ShloMosaic.Lib.VecWindow
public import proofs.«01_k».proof.Proof.ValsBits
public import proofs.«01_k».proof.Proof.TripBits
public import proofs.«01_k».proof.Proof.PartABits

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable [∀ e, Nonempty (Elt F e)]

theorem part16_run (c : Dev nD) (i : grid0.Coords) (arg1 : Memref sig .tc .vmem S8x1x3x4x8x128 .i32) (harg1 : arg1.IsWhole) (arg2 : Memref sig .tc .vmem S8x512 .i32) (harg2 : arg2.IsWhole) (arg3 : Memref sig .tc .vmem S80x512 .i32) (harg3 : arg3.IsWhole) (arg4 : Memref sig .tc .vmem S144x128 .f32) (harg4 : arg4.IsWhole) (arg5 : Memref sig .tc .vmem S144x128 .f32) (harg5 : arg5.IsWhole) (arg6 : Memref sig .tc .vmem S144x128 .f32) (harg6 : arg6.IsWhole) (arg7 : Memref sig .tc .vmem S3x320x256 .bf16) (harg7 : arg7.IsWhole) (arg10 : Memref sig .tc .vmem S320x512 .i8) (harg10 : arg10.IsWhole) (arg11 : Memref sig .tc .vmem S144x128 .f32) (harg11 : arg11.IsWhole) (arg12 : Memref sig .tc .vmem S144x128 .f32) (harg12 : arg12.IsWhole) (arg13 : Memref sig .tc .vmem S144x128 .f32) (harg13 : arg13.IsWhole) (q2 q3 q4 q5 q6 : PosShare TreeShare) (a0 : BitVec 32)
    (d1 : Vec F S8x1x3x4x8x128 .i32) (d2 : Vec F S8x512 .i32) (d3 : Vec F S80x512 .i32) (d4 d5 d6 : Vec F S144x128 .f32) (L : Vec F S3x336x256 .bf16)
    (f8 : Buf (Elt F) (hb8.view.loc (c : Thread nD τ))) (f9 : Buf (Elt F) (hb9.view.loc (c : Thread nD τ)))
    (K : _ → sProp 𝕄) :
    iprop(owns (c : Thread nD τ) arg2 q2 d2 ∗ owns (c : Thread nD τ) arg3 q3 d3 ∗ owns (c : Thread nD τ) arg4 q4 d4
      ∗ owns (c : Thread nD τ) arg5 q5 d5 ∗ owns (c : Thread nD τ) arg6 q6 d6 ∗ loopCtx c L f8 f9 (accG d1 L)
      ∗ (∀ g r, ⌜r = ⟨Scalar.addi (Scalar.muli a0 4#32) 0#32, gcol g 0, k0_pay55 (wcol d3 0) (trow i d4 0) (trow i d5 0), k0_pay56 (trow i d6 0), k0_pay57 (gcol g 0)⟩⌝ -∗ ⌜g = gV a0 d1 L d2 (hb8.view.read (Elt F) f8) (hb9.view.read (Elt F) f9)⌝ -∗ owns (c : Thread nD τ) arg2 q2 d2 -∗ owns (c : Thread nD τ) arg3 q3 d3 -∗ owns (c : Thread nD τ) arg4 q4 d4
          -∗ owns (c : Thread nD τ) arg5 q5 d5 -∗ owns (c : Thread nD τ) arg6 q6 d6 -∗ loopCtx c L f8 f9 g
          -∗ K r))
      ⊢ wp frame (wpE (defs₀ (F := F)) Variants.none c none) Set.univ (k0_part16 i arg1 harg1 arg2 harg2 arg3 harg3 arg4 harg4 arg5 harg5 arg6 harg6 arg7 harg7 hb8 (Memref.isWhole_whole _) hb9 (Memref.isWhole_whole _) arg10 harg10 arg11 harg11 arg12 harg12 arg13 harg13 sc0 (Memref.isWhole_whole _) sc1 (Memref.isWhole_whole _) sc2 (Memref.isWhole_whole _) sc3 (Memref.isWhole_whole _) cc0_scratch4 a0 (accV d1 L)) K := by
  simp only [k0_part16_eq_skeleton]; unfold k0_part16_skel
  have o2 := @owns_of F _ _ c _ _ _ arg2 q2
  have o3 := @owns_of F _ _ c _ _ _ arg3 q3
  have o4 := @owns_of F _ _ c _ _ _ arg4 q4
  have o5 := @owns_of F _ _ c _ _ _ arg5 q5
  have o6 := @owns_of F _ _ c _ _ _ arg6 q6
  have o14 := @owns_of F _ _ c _ _ _ sc0 fullShare
  have o15 := @owns_of F _ _ c _ _ _ sc1 fullShare
  unfold loopCtx
  unfold owns at *
  iintro ⟨⟨%f2, %h2, H2⟩, ⟨%f3, %h3, H3⟩, ⟨%f4, %h4, H4⟩, ⟨%f5, %h5, H5⟩, ⟨%f6, %h6, H6⟩, ⟨⟨%g14, %h14, H14⟩, ⟨%g15, %h15, H15⟩, H16, H17, Hq, H8, H9, HW⟩, Hk⟩
  subst h2 h3 h4 h5 h6
  sl_exec
  have e : part16_run.sl.v258 c arg2 d1 L f2 = 1#1 ↔ bad d1 L (arg2.view.read (Elt F) f2) := by
    unfold part16_run.sl.v258 part16_run.sl.v257 part16_run.sl.v256 bad; rw [View.readAt_full]; exact Iff.rfl
  by_cases hb : bad d1 L (arg2.view.read (Elt F) f2)
  · rw [if_pos (e.mpr hb)]
    sl_exec
    sl_for (fun k _ => loopCtx c L f8 f9 (gBad a0 L (hb8.view.read (Elt F) f8) (hb9.view.read (Elt F) f9) k)) $$ [H14 H15 H16 H17 Hq H8 H9 HW]
    · exact fun k _ => (loopInv c i arg1 harg1 arg2 harg2 arg3 harg3 arg4 harg4 arg5 harg5 arg6 harg6 arg7 harg7 arg10 harg10 arg11 harg11 arg12 harg12 arg13 harg13 a0 (accV d1 L) L f8 f9).step k ()
    · have w15 : sc1.view.read (Elt F) (sc1.view.writes (Elt F) sc1.view.junk (part16_run.sl.H15_1 (F := F))) = gBad a0 L (hb8.view.read (Elt F) f8) (hb9.view.read (Elt F) f9) 0 := by
        unfold part16_run.sl.H15_1; exact View.read_writes_full _ _ _ _ _
      unfold loopCtx owns
      isplitl [H14]; · iapply (o14 _ _ h14) $$ H14
      isplitl [H15]; · iapply (o15 _ _ w15) $$ H15
      isplitl [H16]; · iexact H16
      isplitl [H17]; · iexact H17
      isplitl [Hq]; · iexact Hq
      isplitl [H8]; · iexact H8
      isplitl [H9]; · iexact H9
      iexact HW
    iintro %acc HL
    unfold loopCtx owns
    icases HL with ⟨⟨%g14, %h14, H14⟩, ⟨%g15, %h15, H15⟩, H16, H17, Hq, H8, H9, HW⟩
    unfold part16_run.sl.prog.cont_1
    sl_exec
    sl_step
    have eg : sc1.view.read (Elt F) g15 = gV a0 d1 (sc0.view.read (Elt F) g14) (arg2.view.read (Elt F) f2) (hb8.view.read (Elt F) f8) (hb9.view.read (Elt F) f9) := by
      rw [h14, h15]; unfold gV; rw [if_pos hb]
    subst h14
    iapply Hk $$ %_ %_ [] [] [H2] [H3] [H4] [H5] [H6]
    · ipureintro; rfl
    · ipureintro; exact eg
    · iapply (o2 _ _ rfl) $$ H2
    · iapply (o3 _ _ rfl) $$ H3
    · iapply (o4 _ _ rfl) $$ H4
    · iapply (o5 _ _ rfl) $$ H5
    · iapply (o6 _ _ rfl) $$ H6
    isplitl [H14]; · iapply (o14 _ _ rfl) $$ H14
    isplitl [H15]; · iapply (o15 _ _ rfl) $$ H15
    isplitl [H16]; · iexact H16
    isplitl [H17]; · iexact H17
    isplitl [Hq]; · iexact Hq
    isplitl [H8]; · iexact H8
    isplitl [H9]; · iexact H9
    iexact HW
  · rw [if_neg (fun h => hb (e.mp h))]
    sl_exec
    sl_step
    have eg : sc1.view.read (Elt F) g15 = gV a0 d1 L (arg2.view.read (Elt F) f2) (hb8.view.read (Elt F) f8) (hb9.view.read (Elt F) f9) := by
      rw [h15]; unfold gV; rw [if_neg hb]
    subst h14
    iapply Hk $$ %_ %_ [] [] [H2] [H3] [H4] [H5] [H6]
    · ipureintro; rfl
    · ipureintro; exact eg
    · iapply (o2 _ _ rfl) $$ H2
    · iapply (o3 _ _ rfl) $$ H3
    · iapply (o4 _ _ rfl) $$ H4
    · iapply (o5 _ _ rfl) $$ H5
    · iapply (o6 _ _ rfl) $$ H6
    isplitl [H14]; · iapply (o14 _ _ rfl) $$ H14
    isplitl [H15]; · iapply (o15 _ _ rfl) $$ H15
    isplitl [H16]; · iexact H16
    isplitl [H17]; · iexact H17
    isplitl [Hq]; · iexact Hq
    isplitl [H8]; · iexact H8
    isplitl [H9]; · iexact H9
    iexact HW

end Cert.Kernel.Hand

end
-- ==== Proof.BodyBits.lean ====
/-
  The body's triple at one grid point: from the buffers at given contents to the same buffers with the outputs' contents given
  as functions of what was read (Vals).
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic
public import Idealize.ShloMosaic.Lib.Transfers
public import Idealize.ShloMosaic.Lib.VecWindow
public import proofs.«01_k».proof.Proof.ValsBits
public import proofs.«01_k».proof.Proof.TripBits
public import proofs.«01_k».proof.Proof.PartABits
public import proofs.«01_k».proof.Proof.PartBBits

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable [∀ e, Nonempty (Elt F e)]

/-- The gradient block of point `i`. -/
abbrev gAt (i : grid0.Coords) (d1 : Vec F S8x1x3x4x8x128 .i32) (d2 : Vec F S8x512 .i32) (d7 : Vec F S3x320x256 .bf16) (L : Vec F S3x336x256 .bf16)
    (d8 d9 : Vec F S144x512 .i32) : Vec F S320x512 .f32 :=
  gV (BitVec.ofNat 32 (i 0).val) d1 (lhsAt i d7 L) d2 d8 d9

theorem body_run (c : Dev nD) (i : grid0.Coords) (arg1 : Memref sig .tc .vmem S8x1x3x4x8x128 .i32) (harg1 : arg1.IsWhole) (arg2 : Memref sig .tc .vmem S8x512 .i32) (harg2 : arg2.IsWhole) (arg3 : Memref sig .tc .vmem S80x512 .i32) (harg3 : arg3.IsWhole) (arg4 : Memref sig .tc .vmem S144x128 .f32) (harg4 : arg4.IsWhole) (arg5 : Memref sig .tc .vmem S144x128 .f32) (harg5 : arg5.IsWhole) (arg6 : Memref sig .tc .vmem S144x128 .f32) (harg6 : arg6.IsWhole) (arg7 : Memref sig .tc .vmem S3x320x256 .bf16) (harg7 : arg7.IsWhole) (arg10 : Memref sig .tc .vmem S320x512 .i8) (harg10 : arg10.IsWhole) (arg11 : Memref sig .tc .vmem S144x128 .f32) (harg11 : arg11.IsWhole) (arg12 : Memref sig .tc .vmem S144x128 .f32) (harg12 : arg12.IsWhole) (arg13 : Memref sig .tc .vmem S144x128 .f32) (harg13 : arg13.IsWhole) (q1 q2 q3 q4 q5 q6 q7 : PosShare TreeShare)
    (d1 : Vec F S8x1x3x4x8x128 .i32) (d2 : Vec F S8x512 .i32) (d3 : Vec F S80x512 .i32) (d4 d5 d6 : Vec F S144x128 .f32)
    (d7 : Vec F S3x320x256 .bf16) (d10 : Vec F S320x512 .i8) (d11 d12 d13 : Vec F S144x128 .f32) (L : Vec F S3x336x256 .bf16)
    (f8 : Buf (Elt F) (hb8.view.loc (c : Thread nD τ))) (f9 : Buf (Elt F) (hb9.view.loc (c : Thread nD τ)))
    (K : _ → sProp 𝕄) :
    iprop(owns (c : Thread nD τ) arg1 q1 d1 ∗ owns (c : Thread nD τ) arg2 q2 d2 ∗ owns (c : Thread nD τ) arg3 q3 d3 ∗ owns (c : Thread nD τ) arg4 q4 d4
      ∗ owns (c : Thread nD τ) arg5 q5 d5 ∗ owns (c : Thread nD τ) arg6 q6 d6 ∗ owns (c : Thread nD τ) arg7 q7 d7
      ∗ owns (c : Thread nD τ) arg10 fullShare d10 ∗ owns (c : Thread nD τ) arg11 fullShare d11 ∗ owns (c : Thread nD τ) arg12 fullShare d12
      ∗ owns (c : Thread nD τ) arg13 fullShare d13 ∗ (∃ g, loopCtx c L f8 f9 g)
      ∗ (∀ r, owns (c : Thread nD τ) arg1 q1 d1 -∗ owns (c : Thread nD τ) arg2 q2 d2 -∗ owns (c : Thread nD τ) arg3 q3 d3 -∗ owns (c : Thread nD τ) arg4 q4 d4
        -∗ owns (c : Thread nD τ) arg5 q5 d5 -∗ owns (c : Thread nD τ) arg6 q6 d6 -∗ owns (c : Thread nD τ) arg7 q7 d7
        -∗ owns (c : Thread nD τ) arg10 fullShare (putCols d10 (cCodes i (gAt i d1 d2 d7 L (hb8.view.read (Elt F) f8) (hb9.view.read (Elt F) f9)) d3 d4 d5 d6))
        -∗ owns (c : Thread nD τ) arg11 fullShare (putRows i d11 (cScale i (gAt i d1 d2 d7 L (hb8.view.read (Elt F) f8) (hb9.view.read (Elt F) f9)) d3 d4 d5 d6))
        -∗ owns (c : Thread nD τ) arg12 fullShare (putRows i d12 (cMin i (gAt i d1 d2 d7 L (hb8.view.read (Elt F) f8) (hb9.view.read (Elt F) f9)) d3 d4 d5 d6))
        -∗ owns (c : Thread nD τ) arg13 fullShare (putRows i d13 (cMom i (gAt i d1 d2 d7 L (hb8.view.read (Elt F) f8) (hb9.view.read (Elt F) f9)) d6))
        -∗ (∃ g, loopCtx c (lhsAt i d7 L) f8 f9 g) -∗ K r))
      ⊢ wp frame (wpE (defs₀ (F := F)) Variants.none c none) Set.univ (cc0_tc_finish i arg1 harg1 arg2 harg2 arg3 harg3 arg4 harg4 arg5 harg5 arg6 harg6 arg7 harg7 hb8 (Memref.isWhole_whole _) hb9 (Memref.isWhole_whole _) arg10 harg10 arg11 harg11 arg12 harg12 arg13 harg13 sc0 (Memref.isWhole_whole _) sc1 (Memref.isWhole_whole _) sc2 (Memref.isWhole_whole _) sc3 (Memref.isWhole_whole _) cc0_scratch4) K := by
  simp only [cc0_tc_finish_eq_skeleton]; unfold cc0_tc_finish_skel
  have o1 := @owns_of F _ _ c _ _ _ arg1 q1
  have o2 := @owns_of F _ _ c _ _ _ arg2 q2
  have o3 := @owns_of F _ _ c _ _ _ arg3 q3
  have o4 := @owns_of F _ _ c _ _ _ arg4 q4
  have o5 := @owns_of F _ _ c _ _ _ arg5 q5
  have o6 := @owns_of F _ _ c _ _ _ arg6 q6
  have o7 := @owns_of F _ _ c _ _ _ arg7 q7
  have o10 := @owns_of F _ _ c _ _ _ arg10 fullShare
  have o11 := @owns_of F _ _ c _ _ _ arg11 fullShare
  have o12 := @owns_of F _ _ c _ _ _ arg12 fullShare
  have o13 := @owns_of F _ _ c _ _ _ arg13 fullShare
  have o14 := @owns_of F _ _ c _ _ _ sc0 fullShare
  have o15 := @owns_of F _ _ c _ _ _ sc1 fullShare
  iintro ⟨H1, H2, H3, H4, H5, H6, H7, H10, H11, H12, H13, ⟨%g0, HL⟩, Hk⟩
  unfold loopCtx
  icases HL with ⟨H14, H15, HL⟩
  rw [wp_bind]
  iapply (part2_run c i arg1 harg1 arg2 harg2 arg3 harg3 arg4 harg4 arg5 harg5 arg6 harg6 arg7 harg7 arg10 harg10 arg11 harg11 arg12 harg12 arg13 harg13 q1 q7 d1 d7 L)
  isplitl [H1]; · iexact H1
  isplitl [H7]; · iexact H7
  isplitl [H14]; · iexact H14
  iintro %r %er H1 H7 H14
  subst er
  unfold owns at *
  icases H1 with ⟨%f1, %h1, H1⟩
  icases H14 with ⟨%g14, %h14, H14⟩
  icases H15 with ⟨%g15, %h15, H15⟩
  subst h1
  set_option sl_exec.stopBefore "k0_part16" in sl_exec
  have e : body_run.sl.r_1 c arg1 f1 g14 = accV (arg1.view.read (Elt F) f1) (sc0.view.read (Elt F) g14) := rfl
  rw [h14] at e
  rw [e, wp_bind]
  iapply (part16_run c i arg1 harg1 arg2 harg2 arg3 harg3 arg4 harg4 arg5 harg5 arg6 harg6 arg7 harg7 arg10 harg10 arg11 harg11 arg12 harg12 arg13 harg13 q2 q3 q4 q5 q6 (BitVec.ofNat 32 (i 0).val) (arg1.view.read (Elt F) f1) d2 d3 d4 d5 d6 (lhsAt i d7 L) f8 f9)
  unfold loopCtx
  unfold owns
  isplitl [H2]; · iexact H2
  isplitl [H3]; · iexact H3
  isplitl [H4]; · iexact H4
  isplitl [H5]; · iexact H5
  isplitl [H6]; · iexact H6
  isplitl [H14 H15 HL]
  · isplitl [H14]; · iapply (o14 _ _ h14) $$ H14
    isplitl [H15]
    · iapply (o15 _ _ ?_) $$ H15
      rw [View.read_writes_full]
      rw [← h14]; rfl
    iexact HL
  iintro %g %r %er %eg H2 H3 H4 H5 H6 HL
  subst er
  icases H2 with ⟨%f2, %h2, H2⟩
  icases H3 with ⟨%f3, %h3, H3⟩
  icases H4 with ⟨%f4, %h4, H4⟩
  icases H5 with ⟨%f5, %h5, H5⟩
  icases H6 with ⟨%f6, %h6, H6⟩
  icases H10 with ⟨%f10, %h10, H10⟩
  icases H11 with ⟨%f11, %h11, H11⟩
  icases H12 with ⟨%f12, %h12, H12⟩
  icases H13 with ⟨%f13, %h13, H13⟩
  icases HL with ⟨H14, ⟨%g15', %h15', H15⟩, HL⟩
  subst h2 h3 h4 h5 h6 h10 h11 h12 h13
  have eg' : gAt i (arg1.view.read (Elt F) f1) (arg2.view.read (Elt F) f2) d7 L (hb8.view.read (Elt F) f8) (hb9.view.read (Elt F) f9) = sc1.view.read (Elt F) g15' := eg.symm.trans h15'.symm
  subst h15'
  sl_exec
  sl_step
  iapply Hk $$ %_ [H1] [H2] [H3] [H4] [H5] [H6] [H7] [H10] [H11] [H12] [H13]
  · iapply (o1 _ _ rfl) $$ H1
  · iapply (o2 _ _ rfl) $$ H2
  · iapply (o3 _ _ rfl) $$ H3
  · iapply (o4 _ _ rfl) $$ H4
  · iapply (o5 _ _ rfl) $$ H5
  · iapply (o6 _ _ rfl) $$ H6
  · iexact H7
  · iapply (o10 _ _ ?_) $$ H10
    rw [eg']; unfold putCols
    rw [View.read_writes_cons_put _ _ _ _ _ rfl, View.read_writes_cons_put _ _ _ _ _ rfl, View.read_writes_cons_put _ _ _ _ _ rfl, View.read_writes_cons_put _ _ _ _ _ rfl, View.writes_nil]
    rfl
  · iapply (o11 _ _ ?_) $$ H11
    rw [eg']; unfold putRows
    rw [View.read_writes_cons_put _ _ _ _ _ rfl, View.read_writes_cons_put _ _ _ _ _ rfl, View.read_writes_cons_put _ _ _ _ _ rfl, View.read_writes_cons_put _ _ _ _ _ rfl, View.writes_nil]
    rfl
  · iapply (o12 _ _ ?_) $$ H12
    rw [eg']; unfold putRows
    rw [View.read_writes_cons_put _ _ _ _ _ rfl, View.read_writes_cons_put _ _ _ _ _ rfl, View.read_writes_cons_put _ _ _ _ _ rfl, View.read_writes_cons_put _ _ _ _ _ rfl, View.writes_nil]
    rfl
  · iapply (o13 _ _ ?_) $$ H13
    rw [eg']; unfold putRows
    rw [View.read_writes_cons_put _ _ _ _ _ rfl, View.read_writes_cons_put _ _ _ _ _ rfl, View.read_writes_cons_put _ _ _ _ _ rfl, View.read_writes_cons_put _ _ _ _ _ rfl, View.writes_nil]
    rfl
  · iexists _
    isplitl [H14]; · iexact H14
    isplitl [H15]; · iapply (o15 _ _ rfl) $$ H15
    iexact HL

end Cert.Kernel.Hand

end
-- ==== Proof.RunBits.lean ====
/-
  The run of the whole program: the proof data (what each point leaves in each window, the scratch between points), the body
  obligation from the body's triple (Body), the launch, and the arguments unchanged.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic
public import Idealize.ShloMosaic.Lib.Transfers
public import Idealize.ShloMosaic.Lib.VecWindow
public import proofs.«01_k».proof.Proof.ValsBits
public import proofs.«01_k».proof.Proof.TripBits
public import proofs.«01_k».proof.Proof.PartABits
public import proofs.«01_k».proof.Proof.PartBBits
public import proofs.«01_k».proof.Proof.BodyBits

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable [∀ e, Nonempty (Elt F e)]
variable (m : (ℓ : Loc nD τ sig) → Buf (Elt F) ℓ) (ρ : Dev nD → PrngReg)

/-! ## The inputs' blocks, the left operand, the gradient of a point -/

def I0 (c : Dev nD) (t : Fin cfg0.N) : Vec F S8x1x3x4x8x128 .i32 := iblk m c 0 t
def I1 (c : Dev nD) (t : Fin cfg0.N) : Vec F S8x512 .i32 := iblk m c 1 t
def I2 (c : Dev nD) (t : Fin cfg0.N) : Vec F S80x512 .i32 := iblk m c 2 t
def I3 (c : Dev nD) (t : Fin cfg0.N) : Vec F S144x128 .f32 := iblk m c 3 t
def I4 (c : Dev nD) (t : Fin cfg0.N) : Vec F S144x128 .f32 := iblk m c 4 t
def I5 (c : Dev nD) (t : Fin cfg0.N) : Vec F S144x128 .f32 := iblk m c 5 t
def I6 (c : Dev nD) (t : Fin cfg0.N) : Vec F S3x320x256 .bf16 := iblk m c 6 t
/-- The two occurrence lists. -/
def I8 (c : Dev nD) : Vec F S144x512 .i32 := hb8.view.read (Elt F) (V m c main_v6)
def I9 (c : Dev nD) : Vec F S144x512 .i32 := hb9.view.read (Elt F) (V m c main_v7)

/-- The left operand once the first point has written it. -/
def lhsF (c : Dev nD) : Vec F S3x336x256 .bf16 := lhsV (I6 m c ⟨0, by decide⟩) (fun _ => Classical.arbitrary _)

/-- The gradient of point `t`'s columns. -/
def gPt (c : Dev nD) (t : Fin cfg0.N) : Vec F S320x512 .f32 :=
  gV (BitVec.ofNat 32 (grid0.coords t 0).val) (I0 m c t) (lhsF m c) (I1 m c t) (I8 m c) (I9 m c)

/-- The two pieces cover the left operand: nothing of what it held is left. -/
theorem lhsV_indep (d7 : Vec F S3x320x256 .bf16) (L L' : Vec F S3x336x256 .bf16) : lhsV d7 L = lhsV d7 L' := by
  funext y
  unfold lhsV VecWindow.put
  split
  · rfl
  · next h2 =>
    have h1 : ∀ a, (![0, 0, 0] : Fin 3 → ℕ) a ≤ (y a).val ∧ (y a).val < (![0, 0, 0] : Fin 3 → ℕ) a + S3x320x256.size a := by
      by_contra hc
      apply h2
      have b0 : (y 0).val < 3 := (y 0).isLt
      have b1 : (y 1).val < 336 := (y 1).isLt
      have b2 : (y 2).val < 256 := (y 2).isLt
      have h320 : 320 ≤ (y 1).val := by
        by_contra hlt
        apply hc
        intro a
        match a with
        | 0 => exact ⟨Nat.zero_le _, by show (y 0).val < 0 + 3; omega⟩
        | 1 => exact ⟨Nat.zero_le _, by show (y 1).val < 0 + 320; omega⟩
        | 2 => exact ⟨Nat.zero_le _, by show (y 2).val < 0 + 256; omega⟩
      intro a
      match a with
      | 0 => exact ⟨Nat.zero_le _, by show (y 0).val < 0 + 3; omega⟩
      | 1 => exact ⟨h320, by show (y 1).val < 320 + 16; omega⟩
      | 2 => exact ⟨Nat.zero_le _, by show (y 2).val < 0 + 256; omega⟩
    rw [dif_pos h1, dif_pos h1]

theorem first_iff (t : Fin cfg0.N) : first (grid0.coords t) ↔ t.val = 0 := by
  revert t; decide +kernel

/-- At every point the left operand after the point's start is `lhsF`. -/
theorem lhsAt_eq (c : Dev nD) (t : Fin cfg0.N) (L : Vec F S3x336x256 .bf16) (h : t.val ≠ 0 → L = lhsF m c) :
    lhsAt (grid0.coords t) (I6 m c t) L = lhsF m c := by
  unfold lhsAt
  by_cases ht : t.val = 0
  · rw [if_pos ((first_iff t).mpr ht)]
    obtain rfl : t = ⟨0, by decide⟩ := Fin.ext ht
    exact lhsV_indep _ _ _
  · rw [if_neg fun h' => ht ((first_iff t).mp h')]; exact h ht

/-! ## The proof data -/

abbrev osem0 : Fin 1 → SemLoc sig := fun j => (![SemLoc.dma 15] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0) := by
  rw [Pipeline.ownSems0_eq_of_list c osem0 [0] (by decide) (by decide)]; rfl

/-- The occurrence lists, left in HBM. -/
def H0 : Finset (Ref sig .tc) := {main_v6, main_v7}
theorem H0_sub : H0 ⊆ Pipeline.restRefs sig spec0 := by decide
theorem hbmPts0_eq (c : Dev nD) :
    (bigSep H0 (fun b => ((c : Thread nD τ).loc b) ↦{fullShare} V m c b) : sProp 𝕄)
      = iprop(hbPt c hb8 (V m c main_v6) ∗ hbPt c hb9 (V m c main_v7)) := by
  rw [BI.bigSep_eq_bigSepL_of_eq [main_v6, main_v7] (by decide) (by decide)]; rfl

theorem PhiD0_eq (c : Dev nD) :
    (Pipeline.ΦD osem0 spec0 H0 (V m) c : sProp 𝕄)
      = iprop(iprop((∃ d, owns (c : Thread nD τ) sc0 fullShare d) ∗ (∃ d, owns (c : Thread nD τ) sc1 fullShare d)
            ∗ (∃ d, owns (c : Thread nD τ) sc2 fullShare d) ∗ (∃ d, owns (c : Thread nD τ) sc3 fullShare d)) ∗ (∃ r, prngReg c r)
          ∗ iprop(semVal ((c : Thread nD τ), SemLoc.dma 15) 0)
          ∗ iprop(hbPt c hb8 (V m c main_v6) ∗ hbPt c hb9 (V m c main_v7))) := by
  rw [Pipeline.ΦD_eq, scopedRest0_eq, ownSems00_eq, hbmPts0_eq]; simp only [owns_whole]; try rfl

/-- Between points: the left operand written once the first point has run, the rest of the scratch at anything. -/
def PhiT (c : Dev nD) (n : ℕ) : sProp 𝕄 :=
  iprop(iprop((∃ d, ⌜n ≠ 0 → d = lhsF m c⌝ ∗ owns (c : Thread nD τ) sc0 fullShare d) ∗ (∃ d, owns (c : Thread nD τ) sc1 fullShare d)
            ∗ (∃ d, owns (c : Thread nD τ) sc2 fullShare d) ∗ (∃ d, owns (c : Thread nD τ) sc3 fullShare d)) ∗ (∃ r, prngReg c r)
          ∗ iprop(semVal ((c : Thread nD τ), SemLoc.dma 15) 0)
          ∗ iprop(hbPt c hb8 (V m c main_v6) ∗ hbPt c hb9 (V m c main_v7)))

/-- What point `t` leaves in each window: an input as it was, the codes' four column blocks, four rows of each table. -/
def aft (c : Dev nD) : (w : Fin 11) → Fin cfg0.N → (Y X : (cfg0.win w).block.Idx → Elt F (cfg0.win w).elt) → Prop
  | 0 => fun _ Y X => X = Y | 1 => fun _ Y X => X = Y | 2 => fun _ Y X => X = Y | 3 => fun _ Y X => X = Y
  | 4 => fun _ Y X => X = Y | 5 => fun _ Y X => X = Y | 6 => fun _ Y X => X = Y
  | 7 => fun t Y X => X = putCols Y (cCodes (grid0.coords t) (gPt m c t) (I2 m c t) (I3 m c t) (I4 m c t) (I5 m c t))
  | 8 => fun t Y X => X = putRows (grid0.coords t) Y (cScale (grid0.coords t) (gPt m c t) (I2 m c t) (I3 m c t) (I4 m c t) (I5 m c t))
  | 9 => fun t Y X => X = putRows (grid0.coords t) Y (cMin (grid0.coords t) (gPt m c t) (I2 m c t) (I3 m c t) (I4 m c t) (I5 m c t))
  | 10 => fun t Y X => X = putRows (grid0.coords t) Y (cMom (grid0.coords t) (gPt m c t) (I5 m c t))

def rdat (c : Dev nD) : Pipeline.RDat τ (Elt F) Unit ℕ (Pipeline.UD sig nD τ) ℕ cfg0 c where
  A w := V m c (Pipeline.arrRef spec0 w)
  after := aft m c
  Φ t := PhiT m c t.val
  q _ := fullShare
  owed _ := 0

/-! ## What the body finds in an input window -/

theorem finds_in (c : Dev nD) (w : Fin 11) (hw : (cfg0.win w).isOut = false) (hc : ∀ t a, (cfg0.win w).clip (cfg0.grid.coords t) a = none)
    (hk : ∀ t Y X, (rdat m c).after w t Y X → X = Y) (t : Fin cfg0.N) (Y) (h : (rdat m c).Finds w t Y) :
    ∃ d, Y = (cfg0.win w).fill (cfg0.grid.coords t) d (iblk m c w t) :=
  Pipeline.RDat.finds_in_eq_fetched (rdat m c) w hw (fun t t' _ => funext fun a => (hc t a).trans (hc t' a).symm) hk t Y h

theorem finds0 (c : Dev nD) (t : Fin cfg0.N) (Y) (h : (rdat m c).Finds 0 t Y) : Y = I0 m c t := by
  obtain ⟨d, hd⟩ := finds_in m c 0 rfl (fun _ _ => rfl) (fun _ _ _ h => h) t Y h; exact hd.trans (by unfold I0; rfl)
theorem finds1 (c : Dev nD) (t : Fin cfg0.N) (Y) (h : (rdat m c).Finds 1 t Y) : Y = I1 m c t := by
  obtain ⟨d, hd⟩ := finds_in m c 1 rfl (fun _ _ => rfl) (fun _ _ _ h => h) t Y h; exact hd.trans (by unfold I1; rfl)
theorem finds2 (c : Dev nD) (t : Fin cfg0.N) (Y) (h : (rdat m c).Finds 2 t Y) : Y = I2 m c t := by
  obtain ⟨d, hd⟩ := finds_in m c 2 rfl (fun _ _ => rfl) (fun _ _ _ h => h) t Y h; exact hd.trans (by unfold I2; rfl)
theorem finds3 (c : Dev nD) (t : Fin cfg0.N) (Y) (h : (rdat m c).Finds 3 t Y) : Y = I3 m c t := by
  obtain ⟨d, hd⟩ := finds_in m c 3 rfl (fun _ _ => rfl) (fun _ _ _ h => h) t Y h; exact hd.trans (by unfold I3; rfl)
theorem finds4 (c : Dev nD) (t : Fin cfg0.N) (Y) (h : (rdat m c).Finds 4 t Y) : Y = I4 m c t := by
  obtain ⟨d, hd⟩ := finds_in m c 4 rfl (fun _ _ => rfl) (fun _ _ _ h => h) t Y h; exact hd.trans (by unfold I4; rfl)
theorem finds5 (c : Dev nD) (t : Fin cfg0.N) (Y) (h : (rdat m c).Finds 5 t Y) : Y = I5 m c t := by
  obtain ⟨d, hd⟩ := finds_in m c 5 rfl (fun _ _ => rfl) (fun _ _ _ h => h) t Y h; exact hd.trans (by unfold I5; rfl)
theorem finds6 (c : Dev nD) (t : Fin cfg0.N) (Y) (h : (rdat m c).Finds 6 t Y) : Y = I6 m c t := by
  obtain ⟨d, hd⟩ := finds_in m c 6 rfl (fun _ _ => rfl) (fun _ _ _ h => h) t Y h; exact hd.trans (by unfold I6; rfl)

/-! ## The body obligation -/

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y hY => by
  rw [bigSep_W0, bigSep_W0, defs₀_row]
  unfold bodyAt0
  rw [show (rdat m c).Φ t.succ = PhiT m c (t.val + 1) from rfl, show (rdat m c).Φ t.castSucc = PhiT m c t.val from rfl]
  unfold PhiT
  unfold Pipeline.RDat.owesAt Pipeline.owesWithin
  rw [show (rdat m c).owed t.castSucc = 0 from rfl, show (rdat m c).owed t.succ = 0 from rfl]
  iintro ⟨⟨⟨⟨%L, %hL, HS0⟩, ⟨%G, HS1⟩, HS2, HS3⟩, Hg, Hq, H8, H9⟩, ⟨%W, %hW, HO⟩, H0, H1, H2, H3, H4, H5, H6, H7, HA, HB, HC⟩
  iapply (body_run c (grid0.coords t) _ (hstage0_0 _) _ (hstage0_1 _) _ (hstage0_2 _) _ (hstage0_3 _) _ (hstage0_4 _) _ (hstage0_5 _)
    _ (hstage0_6 _) _ (hstage0_7 _) _ (hstage0_8 _) _ (hstage0_9 _) _ (hstage0_10 _) fullShare fullShare fullShare fullShare fullShare fullShare fullShare
    (Y 0) (Y 1) (Y 2) (Y 3) (Y 4) (Y 5) (Y 6) (Y 7) (Y 8) (Y 9) (Y 10) L (V m c main_v6) (V m c main_v7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexact HA
  isplitl [HB]; · iexact HB
  isplitl [HC]; · iexact HC
  isplitl [HS0 HS1 HS2 HS3 Hq H8 H9 HO]
  · iexists G; unfold loopCtx
    isplitl [HS0]; · iexact HS0
    isplitl [HS1]; · iexact HS1
    isplitl [HS2]; · iexact HS2
    isplitl [HS3]; · iexact HS3
    isplitl [Hq]; · iexact Hq
    isplitl [H8]; · iexact H8
    isplitl [H9]; · iexact H9
    iexists W; iexact HO
  iintro %r H0 H1 H2 H3 H4 H5 H6 H7 HA HB HC ⟨%G', HL⟩
  unfold loopCtx
  icases HL with ⟨HS0, HS1, HS2, HS3, Hq, H8, H9, ⟨%W', HO⟩⟩
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have e6 := finds6 m c t _ (hY 6)
  have eL : lhsAt (grid0.coords t) (Y 6) L = lhsF m c := by rw [e6]; exact lhsAt_eq m c t L hL
  have eg : gAt (grid0.coords t) (Y 0) (Y 1) (Y 6) L (hb8.view.read (Elt F) (V m c main_v6)) (hb9.view.read (Elt F) (V m c main_v7)) = gPt m c t := by
    unfold gAt; rw [eL, e0, e1]; rfl
  isplitl [HS0 HS1 HS2 HS3 Hg Hq H8 H9]
  · isplitl [HS0 HS1 HS2 HS3]
    · isplitl [HS0]
      · iexists _; isplitr; swap; · iexact HS0
        ipureintro; exact fun _ => eL
      isplitl [HS1]; · iexists _; iexact HS1
      isplitl [HS2]; · iexact HS2
      iexact HS3
    isplitl [Hg]; · iexact Hg
    isplitl [Hq]; · iexact Hq
    isplitl [H8]; · iexact H8
    iexact H9
  isplitl [HO]
  · iexists W'; isplitr; · ipureintro; exact fun _ _ => Or.inl trivial
    iexact HO
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]
  · iexists _; isplitr; swap; · iexact H7
    ipureintro; rw [eg, e2, e3, e4, e5]; rfl
  isplitl [HA]
  · iexists _; isplitr; swap; · iexact HA
    ipureintro; rw [eg, e2, e3, e4, e5]; rfl
  isplitl [HB]
  · iexists _; isplitr; swap; · iexact HB
    ipureintro; rw [eg, e2, e3, e4, e5]; rfl
  · iexists _; isplitr; swap; · iexact HC
    ipureintro; rw [eg, e5]; rfl

/-! ## The launch -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem hin (c : Dev nD) : (Pipeline.ΦD osem0 spec0 H0 (V m) c : sProp 𝕄) ⊢ (rdat m c).Φ 0 := by
  rw [PhiD0_eq, show (rdat m c).Φ 0 = PhiT m c 0 from rfl]; unfold PhiT
  iintro ⟨⟨⟨%d, HS0⟩, HS⟩, HR⟩
  isplitl [HS0 HS]
  · isplitl [HS0]
    · iexists d; isplitr; swap; · iexact HS0
      ipureintro; exact fun h => absurd rfl h
    iexact HS
  iexact HR

theorem hout (c : Dev nD) : (rdat m c).Φ (Fin.last cfg0.N) ⊢ (Pipeline.ΦD osem0 spec0 H0 (V m) c : sProp 𝕄) := by
  rw [PhiD0_eq, show (rdat m c).Φ (Fin.last cfg0.N) = PhiT m c cfg0.N from rfl]; unfold PhiT
  iintro ⟨⟨⟨%d, %h, HS0⟩, HS⟩, HR⟩
  isplitl [HS0 HS]
  · isplitl [HS0]
    · iexists d; iexact HS0
    iexact HS
  iexact HR

set_option backward.isDefEq.respectTransparency.types false in
/-- From any memory with zero counters every weakly fair execution terminates; the arrays end as the proof data allow, every other
    unscoped buffer as the region found it, every counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_dma (Q' := _) cfgs (0 : Fin 1) launch0 osem0 defs₀ Variants.none (rdat m) ownSemFacts0 H0 H0_sub m ρ main
    (hbody := body_obligation m) (hshare := fun c w => by unfold Pipeline.RDat.share; split <;> rfl)
    (howed := fun _ _ => rfl) (V := V m) (hmain := hmainD m Variants.none) (hA := fun _ _ => rfl)
    (hin := hin m) (hout := hout m)

variable {m ρ}

theorem final_args {r : PUnit × MemSt nD τ sig (Elt F)} (h : Pipeline.RDat.FramePost (cfgs 0) (rdat (F := F) m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((Pipeline.RDat.ArrAt_in (rdat m c) 2 rfl _ ▸ (h c).1 2 :)).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c)⟩

end Cert.Kernel.Hand

end
-- ==== Proof.Occ.lean ====
/-
  The occurrences of a row in a bag: how often each pair occurs, the gradient of a row as the sum over its occurrences or as
  the counts times the bags' gradients, and four counts packed a byte apart in one word.
-/
module

public import Mathlib.Data.EReal.Operations
public import Mathlib.Algebra.BigOperators.Fin
public import Mathlib.Algebra.Order.BigOperators.Group.Finset
public import Idealize.ShloMosaic.PureOps.Ideal.Laws
public import Idealize.ShloMosaic.Lib.NatWords

@[expose] public section

noncomputable section

namespace Cert.Occ

open Idealize.ShloMosaic

variable {N : ℕ} (bag uniq : Fin N → BitVec 32)

/-- How often row `u` occurs in bag `b`. -/
def cnt (b u : ℕ) : ℕ := (Finset.univ.filter fun o => (bag o).toNat = b ∧ (uniq o).toNat = u).card

/-- The gradient of row `u`: the sum of the gradients of the bags it occurs in, one for each occurrence. -/
def gsum (gr : ℕ → EReal) (u : ℕ) : EReal := ∑ o, if (uniq o).toNat = u then gr (bag o).toNat else 0

/-- The counts times the bags' gradients sum to the gradient. -/
theorem sum_cnt_mul {B : ℕ} (hb : ∀ o, (bag o).toNat < B) (gr : ℕ → EReal) (u : ℕ) :
    ∑ b : Fin B, gr b * (((cnt bag uniq b u : ℕ) : ℝ) : EReal) = gsum bag uniq gr u := by
  have h1 : ∀ b : Fin B, gr b * (((cnt bag uniq b u : ℕ) : ℝ) : EReal) = ∑ o, if (bag o).toNat = b ∧ (uniq o).toNat = u then gr b else 0 := fun b => by
    rw [← Finset.sum_filter, Finset.sum_const, EReal.nsmul_eq_mul, mul_comm]
    rfl
  rw [Finset.sum_congr rfl fun b _ => h1 b, Finset.sum_comm]
  unfold gsum
  refine Finset.sum_congr rfl fun o _ => ?_
  rw [Finset.sum_eq_single (⟨(bag o).toNat, hb o⟩ : Fin B)]
  · simp
  · intro b _ hne
    rw [if_neg]
    rintro ⟨h, _⟩
    exact hne (Fin.ext h.symm)
  · intro h; exact absurd (Finset.mem_univ _) h

theorem cnt_le (b u : ℕ) : cnt bag uniq b u ≤ N := (Finset.card_le_univ _).trans (by simp)

theorem sum_cnt_le {B : ℕ} (u : ℕ) : ∑ b : Fin B, cnt bag uniq b u ≤ N := by
  have h : ∑ b : Fin B, cnt bag uniq b u = ((Finset.univ : Finset (Fin B)).biUnion fun b => Finset.univ.filter fun o => (bag o).toNat = b ∧ (uniq o).toNat = u).card := by
    rw [Finset.card_biUnion]
    · rfl
    · intro a _ b _ hab
      rw [Function.onFun, Finset.disjoint_left]
      intro o ha hb
      exact hab (Fin.ext ((Finset.mem_filter.1 ha).2.1.symm.trans (Finset.mem_filter.1 hb).2.1))
  rw [h]
  exact (Finset.card_le_univ _).trans (by simp)

/-! ## Four counts in a word -/

/-- Byte `k` of a word, read with its sign. -/
def sbyte (w : BitVec 32) (k : ℕ) : ℤ := (w.extractLsb' (8 * k) 8).toInt

theorem sbyte_eq (w : BitVec 32) (k : ℕ) :
    sbyte w k = if w.toNat / 2 ^ (8 * k) % 256 < 128 then ((w.toNat / 2 ^ (8 * k) % 256 : ℕ) : ℤ) else ((w.toNat / 2 ^ (8 * k) % 256 : ℕ) : ℤ) - 256 := by
  unfold sbyte
  rw [BitVec.toInt_eq_toNat_cond, BitVec.extractLsb'_toNat, Nat.shiftRight_eq_div_pow]
  split_ifs <;> first | rfl | omega

/-- The word of four counts a byte apart. -/
def word (n : Fin 4 → ℕ) : BitVec 32 :=
  BitVec.ofNat 32 (n 0) + BitVec.ofNat 32 (n 1) * 256#32 + BitVec.ofNat 32 (n 2) * 65536#32 + BitVec.ofNat 32 (n 3) * 16777216#32

theorem word_eq (n : Fin 4 → ℕ) : word n = BitVec.ofNat 32 (n 0 + n 1 * 256 + n 2 * 65536 + n 3 * 16777216) := by
  unfold word
  rw [BitVec.ofNat_add, BitVec.ofNat_add, BitVec.ofNat_add, BitVec.ofNat_mul, BitVec.ofNat_mul, BitVec.ofNat_mul]

theorem word_toNat (n : Fin 4 → ℕ) : (word n).toNat = (n 0 + n 1 * 256 + n 2 * 65536 + n 3 * 16777216) % 2 ^ 32 := by
  rw [word_eq, BitVec.toNat_ofNat]

theorem sbyte_bounds (w : BitVec 32) (k : ℕ) : -128 ≤ sbyte w k ∧ sbyte w k ≤ 127 := by
  rw [sbyte_eq]; split_ifs <;> omega

/-- A signed byte read from its unsigned value. -/
def sgn (r : ℕ) : ℤ := if r < 128 then (r : ℤ) else (r : ℤ) - 256

theorem sgn_le (r : ℕ) : sgn r ≤ r := by unfold sgn; split_ifs <;> omega

/-- The bytes of `n0 + 256 n1 + …` by carries: byte `k` is `n k` and the carry into it, less 256 times the carry out of it. -/
theorem carry (n0 n1 n2 n3 X : ℕ) (hX : X = (n0 + n1 * 256 + n2 * 65536 + n3 * 16777216) % 2 ^ 32) :
    ∃ q0 q1 q2 q3 : ℕ, X / 2 ^ 0 % 256 + 256 * q0 = n0 ∧ X / 2 ^ 8 % 256 + 256 * q1 = n1 + q0 ∧ X / 2 ^ 16 % 256 + 256 * q2 = n2 + q1
      ∧ X / 2 ^ 24 % 256 + 256 * q3 = n3 + q2 := by
  obtain ⟨r0, q0, hr0, e0⟩ : ∃ r q, r < 256 ∧ n0 = r + 256 * q := ⟨n0 % 256, n0 / 256, Nat.mod_lt _ (by decide), (Nat.mod_add_div _ _).symm⟩
  obtain ⟨r1, q1, hr1, e1⟩ : ∃ r q, r < 256 ∧ n1 + q0 = r + 256 * q := ⟨(n1 + q0) % 256, (n1 + q0) / 256, Nat.mod_lt _ (by decide), (Nat.mod_add_div _ _).symm⟩
  obtain ⟨r2, q2, hr2, e2⟩ : ∃ r q, r < 256 ∧ n2 + q1 = r + 256 * q := ⟨(n2 + q1) % 256, (n2 + q1) / 256, Nat.mod_lt _ (by decide), (Nat.mod_add_div _ _).symm⟩
  obtain ⟨r3, q3, hr3, e3⟩ : ∃ r q, r < 256 ∧ n3 + q2 = r + 256 * q := ⟨(n3 + q2) % 256, (n3 + q2) / 256, Nat.mod_lt _ (by decide), (Nat.mod_add_div _ _).symm⟩
  have hX' : X = r0 + 256 * r1 + 65536 * r2 + 16777216 * r3 := by
    rw [hX, show n0 + n1 * 256 + n2 * 65536 + n3 * 16777216 = (r0 + 256 * r1 + 65536 * r2 + 16777216 * r3) + 2 ^ 32 * q3 by omega,
      Nat.add_mul_mod_self_left, Nat.mod_eq_of_lt (by omega)]
  refine ⟨q0, q1, q2, q3, ?_, ?_, ?_, ?_⟩ <;> omega

/-- The four signed bytes sum to no more than the four counts, and to as much only where each byte is its count. -/
theorem sbytes (n : Fin 4 → ℕ) :
    (∑ k : Fin 4, sbyte (word n) k ≤ ∑ k : Fin 4, (n k : ℤ)) ∧
      (∑ k : Fin 4, sbyte (word n) k = ∑ k : Fin 4, (n k : ℤ) → ∀ k : Fin 4, sbyte (word n) k = (n k : ℤ)) := by
  obtain ⟨q0, q1, q2, q3, e0, e1, e2, e3⟩ := carry (n 0) (n 1) (n 2) (n 3) _ (word_toNat n)
  have h0 : sbyte (word n) 0 = sgn ((word n).toNat / 2 ^ 0 % 256) := sbyte_eq _ 0
  have h1 : sbyte (word n) 1 = sgn ((word n).toNat / 2 ^ 8 % 256) := sbyte_eq _ 1
  have h2 : sbyte (word n) 2 = sgn ((word n).toNat / 2 ^ 16 % 256) := sbyte_eq _ 2
  have h3 : sbyte (word n) 3 = sgn ((word n).toNat / 2 ^ 24 % 256) := sbyte_eq _ 3
  simp only [Fin.sum_univ_four]
  show (sbyte (word n) 0 + sbyte (word n) 1 + sbyte (word n) 2 + sbyte (word n) 3 ≤ _) ∧ (sbyte (word n) 0 + sbyte (word n) 1 + sbyte (word n) 2 + sbyte (word n) 3 = _ → _)
  generalize (word n).toNat / 2 ^ 0 % 256 = r0 at *
  generalize (word n).toNat / 2 ^ 8 % 256 = r1 at *
  generalize (word n).toNat / 2 ^ 16 % 256 = r2 at *
  generalize (word n).toNat / 2 ^ 24 % 256 = r3 at *
  have l0 := sgn_le r0
  have l1 := sgn_le r1
  have l2 := sgn_le r2
  have l3 := sgn_le r3
  refine ⟨by rw [h0, h1, h2, h3]; omega, fun h k => ?_⟩
  rw [h0, h1, h2, h3] at h
  match k with
  | 0 => exact h0.trans (by omega)
  | 1 => exact h1.trans (by omega)
  | 2 => exact h2.trans (by omega)
  | 3 => exact h3.trans (by omega)

end Cert.Occ

end
-- ==== Proof.Acc.lean ====
/-
  The block product read at an element: a row of the left operand times the signed bytes of the histogram block.
-/
module

public import proofs.«01_k».proof.Proof.Vals
public import proofs.«01_k».proof.Proof.Occ
public import Idealize.ShloMosaic.Lib.Pointwise
public import Idealize.ShloMosaic.Lib.BitcastPair

@[expose] public section

set_option maxRecDepth 16384

noncomputable section

namespace Cert.KernelIdeal.Hand

open Cert.KernelIdeal Cert.KernelIdeal.Gen
open Idealize.ShloMosaic

/-- Words read as bytes: row `r` of the result is byte `r % 4` of row `r / 4`. -/
theorem bitcast_byte {R C : ℕ} (x : (⟨2, ![R, C]⟩ : Shape).Idx → BitVec 32) (R' : ℕ) (hR : R' = 4 * R) (h : (⟨2, ![R, C]⟩ : Shape).Bitcasts 32 ⟨2, ![R', C]⟩ 8)
    (r : Fin R') (c : Fin C) :
    bitcast ⟨2, ![R', C]⟩ 8 x h (ix2 r c) = (x (ix2 (⟨r.val / 4, by omega⟩ : Fin R) c)).extractLsb' (8 * (r.val % 4)) 8 := by
  apply BitVec.eq_of_getLsbD_eq
  intro i hi
  have hrow : (⟨2, ![R', C]⟩ : Shape).row (ix2 r c) = r.val := rfl
  rw [bitcast_getLsbD x h _ i hi (by decide), BitVec.getLsbD_extractLsb', decide_eq_true hi, Bool.true_and]
  have e : (h.srcIdx (ix2 r c) (((⟨2, ![R', C]⟩ : Shape).row (ix2 r c) * 8 + i) / 32) (fun a ha => (Nat.div_lt_iff_lt_mul (by decide)).2 (h.pos_lt _ i hi a ha)))
      = ix2 (⟨r.val / 4, by omega⟩ : Fin R) c := by
    funext a
    match a with
    | ⟨0, _⟩ => exact Fin.ext ((h.srcIdx_row _ _ _ _ rfl).trans (by rw [hrow]; change (r.val * 8 + i) / 32 = r.val / 4; omega))
    | ⟨1, _⟩ => exact Fin.ext ((h.srcIdx_other _ _ _ _ (by change ¬ (1 + 2 = 2); decide)).trans rfl)
  rw [e, hrow]
  congr 1
  omega

/-- The words of the histogram block, one row for each four bags. -/
def hist (d1 : Vec Ideal S8x1x3x4x8x128 .i32) : IVec S192x512 32 :=
  concatenate S192x512 0 (List.ofFn fun n : Fin 24 => (⟨S8x512, hw d1 ⟨n.val / 3, by omega⟩ ⟨n.val % 3, by omega⟩⟩ : (s : Shape) × (s.Idx → BitVec 32)))
    concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S192x512_d0

def prod (V : IVec S192x512 32) (A0 A1 A2 : Vec Ideal S1x336x256 .bf16) : FVec Ideal S336x512 .f32 :=
  have v220 : IVec S768x512 8 := bitcast S768x512 8 V bitcasts_S192x512_w32_S768x512_w8
  have v221 : FVec Ideal S768x512 .bf16 := sitofp .bf16 v220
  have cst : Ideal .f32 := Scalar.ofBits .f32 0x00000000#32
  have v222 : FVec Ideal S336x512 .f32 := broadcast S336x512 cst
  have v224 : FVec Ideal S336x256 .bf16 := shapeCast S336x256 A0 shapeCasts_S1x336x256_S336x256
  have v225 : FVec Ideal S256x512 .bf16 := extractStridedSlice S256x512 ![0, 0] v221 slices_S768x512_o0_0_S256x512
  have cst_572 : FVec Ideal S336x512 .f32 := constant S336x512 .f32 0x00000000#32
  have v226 : FVec Ideal S336x512 .f32 := matmul dot_S336x256_S256x512_S336x512_1_0_0_1_n_n none v224 v225 cst_572
  have v227 : FVec Ideal S336x512 .f32 := addf v222 v226
  have v229 : FVec Ideal S336x256 .bf16 := shapeCast S336x256 A1 shapeCasts_S1x336x256_S336x256
  have v230 : FVec Ideal S256x512 .bf16 := extractStridedSlice S256x512 ![256, 0] v221 slices_S768x512_o256_0_S256x512
  have cst_576 : FVec Ideal S336x512 .f32 := constant S336x512 .f32 0x00000000#32
  have v231 : FVec Ideal S336x512 .f32 := matmul dot_S336x256_S256x512_S336x512_1_0_0_1_n_n none v229 v230 cst_576
  have v232 : FVec Ideal S336x512 .f32 := addf v227 v231
  have v234 : FVec Ideal S336x256 .bf16 := shapeCast S336x256 A2 shapeCasts_S1x336x256_S336x256
  have v235 : FVec Ideal S256x512 .bf16 := extractStridedSlice S256x512 ![512, 0] v221 slices_S768x512_o512_0_S256x512
  have cst_580 : FVec Ideal S336x512 .f32 := constant S336x512 .f32 0x00000000#32
  have v236 : FVec Ideal S336x512 .f32 := matmul dot_S336x256_S256x512_S336x512_1_0_0_1_n_n none v234 v235 cst_580
  have v237 : FVec Ideal S336x512 .f32 := addf v232 v236
  v237

theorem accV_eq (d1 : Vec Ideal S8x1x3x4x8x128 .i32) (L : Vec Ideal S3x336x256 .bf16) :
    accV d1 L = prod (hist d1) (slab L 0) (slab L 1) (slab L 2) := rfl

theorem hp_apply (d1 : Vec Ideal S8x1x3x4x8x128 .i32) (b : Fin 8) (k : Fin 3) (u : Fin 4) (s : Fin 8) (l : Fin 128) :
    shapeCast S8x128 (hp d1 b k u) shapeCasts_S1x1x1x1x8x128_S8x128 (ix2 s l) = d1 (ix6 b 0 k u s l) := by
  pointwise [hp]

theorem hw_apply (d1 : Vec Ideal S8x1x3x4x8x128 .i32) (b : Fin 8) (k : Fin 3) (s : Fin 8) (c : Fin 512) :
    hw d1 b k (ix2 s c) = d1 (ix6 b 0 k (⟨c.val / 128, by omega⟩ : Fin 4) s (⟨c.val % 128, Nat.mod_lt _ (by decide)⟩ : Fin 128)) := by
  refine Eq.trans ?_ (hp_apply d1 b k (⟨c.val / 128, by omega⟩ : Fin 4) s (⟨c.val % 128, Nat.mod_lt _ (by decide)⟩ : Fin 128))
  have h := concatenate_ofFn_apply (t := S8x512) (s₁ := S8x128) 1 (fun n : Fin 4 => shapeCast S8x128 (hp d1 b k n) shapeCasts_S1x1x1x1x8x128_S8x128)
    concatenates_S8x128_S8x128_S8x128_S8x128_S8x512_d1 rfl 128 rfl (ix2 s c) ⟨c.val / 128, by omega⟩ rfl (ix2 s (⟨c.val % 128, Nat.mod_lt _ (by decide)⟩ : Fin 128)) rfl (fun b hb => by
      match b with
      | ⟨0, _⟩ => rfl
      | ⟨1, _⟩ => exact absurd rfl hb)
  exact h

theorem hist_apply (d1 : Vec Ideal S8x1x3x4x8x128 .i32) (ρ : Fin 192) (c : Fin 512) :
    hist d1 (ix2 ρ c) = d1 (ix6 (⟨ρ.val / 24, by omega⟩ : Fin 8) 0 (⟨ρ.val / 8 % 3, Nat.mod_lt _ (by decide)⟩ : Fin 3) (⟨c.val / 128, by omega⟩ : Fin 4)
      (⟨ρ.val % 8, Nat.mod_lt _ (by decide)⟩ : Fin 8) (⟨c.val % 128, Nat.mod_lt _ (by decide)⟩ : Fin 128)) := by
  have h := concatenate_ofFn_apply (t := S192x512) (s₁ := S8x512) 0 (fun n : Fin 24 => hw d1 ⟨n.val / 3, by omega⟩ ⟨n.val % 3, by omega⟩)
    concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S192x512_d0 rfl 8 rfl (ix2 ρ c) ⟨ρ.val / 8, by omega⟩ rfl (ix2 (⟨ρ.val % 8, Nat.mod_lt _ (by decide)⟩ : Fin 8) c) rfl (fun b hb => by
      match b with
      | ⟨0, _⟩ => exact absurd rfl hb
      | ⟨1, _⟩ => rfl)
  refine h.trans ?_
  rw [hw_apply]
  have e : (⟨ρ.val / 8 / 3, by omega⟩ : Fin 8) = ⟨ρ.val / 24, by omega⟩ := Fin.ext (by change ρ.val / 8 / 3 = ρ.val / 24; omega)
  exact congrArg (fun b : Fin 8 => d1 (ix6 b 0 (⟨ρ.val / 8 % 3, Nat.mod_lt _ (by decide)⟩ : Fin 3) (⟨c.val / 128, by omega⟩ : Fin 4)
      (⟨ρ.val % 8, Nat.mod_lt _ (by decide)⟩ : Fin 8) (⟨c.val % 128, Nat.mod_lt _ (by decide)⟩ : Fin 128))) e

theorem slab_apply (L : Vec Ideal S3x336x256 .bf16) (p : Fin 3) (r : Fin 336) (i : Fin 256) : slab L p (ix3 (0 : Fin 1) r i) = L (ix3 p r i) := by
  pointwise [slab]

/-- The byte of the block that stands for bag `b` and column `c`, as a real. -/
def byteR (V : IVec S192x512 32) (b : Fin 768) (c : Fin 512) : EReal :=
  ((Occ.sbyte (V (ix2 (⟨b.val / 4, by omega⟩ : Fin 192) c)) (b.val % 4) : ℝ) : EReal)

theorem prod_apply (V : IVec S192x512 32) (A0 A1 A2 : Vec Ideal S1x336x256 .bf16) (r : Fin 336) (l : Fin 512) :
    prod V A0 A1 A2 (ix2 r l)
      = (∑ i : Fin 256, A0 (ix3 (0 : Fin 1) r i) * byteR V ⟨i.val, by omega⟩ l) + (∑ i : Fin 256, A1 (ix3 (0 : Fin 1) r i) * byteR V ⟨256 + i.val, by omega⟩ l)
        + ∑ i : Fin 256, A2 (ix3 (0 : Fin 1) r i) * byteR V ⟨512 + i.val, by omega⟩ l := by
  have hB : ∀ b c, byteR V b c = ((BitVec.toInt (bitcast S768x512 8 V bitcasts_S192x512_w32_S768x512_w8 (ix2 b c)) : ℝ) : EReal) := fun b c => by
    unfold byteR Occ.sbyte
    rw [bitcast_byte (R := 192) (C := 512) V 768 rfl]
  simp only [hB]
  unfold prod
  generalize bitcast S768x512 8 V bitcasts_S192x512_w32_S768x512_w8 = X
  pointwise
  rfl

end Cert.KernelIdeal.Hand
-- ==== Proof.Grad.lean ====
/-
  The gradient of a point's columns: where every byte of the histogram block holds its count the block product is it, and
  otherwise the fallback's one-hot products are.
-/
module

public import proofs.«01_k».proof.Proof.Acc
public import Idealize.ShloMosaic.Lib.WordSum
public import Idealize.ShloMosaic.Lib.Affine

@[expose] public section

set_option maxRecDepth 16384

noncomputable section

namespace Cert.KernelIdeal.Hand

open Cert.KernelIdeal Cert.KernelIdeal.Gen
open Idealize.ShloMosaic

/-- The left operand read: the gradient in rows 0 to 319 and ones from row 320. -/
theorem lhsV_grad (d7 : Vec Ideal S3x320x256 .bf16) (L : Vec Ideal S3x336x256 .bf16) (p : Fin 3) (r : Fin 336) (i : Fin 256) (hr : r.val < 320) :
    lhsV d7 L (ix3 p r i) = d7 (ix3 p (⟨r.val, hr⟩ : Fin 320) i) := by
  unfold lhsV
  rw [VecWindow.put, dif_neg (by intro h; have := (h 1).1; change 320 ≤ r.val at this; omega)]
  rw [VecWindow.put, dif_pos (by
    intro a; have := p.isLt; have := i.isLt
    match a with
    | ⟨0, _⟩ => exact ⟨Nat.zero_le _, by change p.val < 0 + 3; omega⟩
    | ⟨1, _⟩ => exact ⟨Nat.zero_le _, by change r.val < 0 + 320; omega⟩
    | ⟨2, _⟩ => exact ⟨Nat.zero_le _, by change i.val < 0 + 256; omega⟩)]
  unfold k0_pay3
  rw [shapeCast_id, shapeCast_id]
  refine congrArg d7 (funext fun a => Fin.ext ?_)
  match a with
  | ⟨0, _⟩ => exact Nat.sub_zero _
  | ⟨1, _⟩ => exact Nat.sub_zero _
  | ⟨2, _⟩ => exact Nat.sub_zero _

theorem lhsV_one (d7 : Vec Ideal S3x320x256 .bf16) (L : Vec Ideal S3x336x256 .bf16) (p : Fin 3) (r : Fin 336) (i : Fin 256) (hr : 320 ≤ r.val) :
    lhsV d7 L (ix3 p r i) = 1 := by
  unfold lhsV
  rw [VecWindow.put, dif_pos (by
    intro a; have := p.isLt; have := i.isLt; have := r.isLt
    match a with
    | ⟨0, _⟩ => exact ⟨Nat.zero_le _, by change p.val < 0 + 3; omega⟩
    | ⟨1, _⟩ => exact ⟨hr, by change r.val < 320 + 16; omega⟩
    | ⟨2, _⟩ => exact ⟨Nat.zero_le _, by change i.val < 0 + 256; omega⟩)]
  have e : ∀ j, k0_pay4 (F := Ideal) j = 1 := fun j => by
    pointwise [k0_pay4]
  exact e _

/-- Three runs of 256 are one of 768. -/
theorem sum768 {M : Type} [AddCommMonoid M] (f : Fin 768 → M) :
    ∑ b : Fin 768, f b = (∑ i : Fin 256, f ⟨i.val, by omega⟩) + (∑ i : Fin 256, f ⟨256 + i.val, by omega⟩) + ∑ i : Fin 256, f ⟨512 + i.val, by omega⟩ := by
  have h1 := Fin.sum_univ_add (a := 512) (b := 256) f
  have h2 := Fin.sum_univ_add (a := 256) (b := 256) fun i => f (Fin.castAdd 256 i)
  refine h1.trans ?_
  rw [h2]
  rfl

/-- The block product over the bags. -/
theorem acc_apply (d1 : Vec Ideal S8x1x3x4x8x128 .i32) (L : Vec Ideal S3x336x256 .bf16) (r : Fin 336) (l : Fin 512) :
    accV d1 L (ix2 r l) = ∑ b : Fin 768, L (ix3 (⟨b.val / 256, by omega⟩ : Fin 3) r (⟨b.val % 256, Nat.mod_lt _ (by decide)⟩ : Fin 256)) * byteR (hist d1) b l := by
  rw [accV_eq, prod_apply, sum768]
  simp only [slab_apply]
  congr 1

/-- The sum of the counts of a column, as the kernel adds them. -/
theorem bad_of_ne (d1 : Vec Ideal S8x1x3x4x8x128 .i32) (L : Vec Ideal S3x336x256 .bf16) (d2 : Vec Ideal S8x512 .i32) (l : Fin 512)
    (h : Ideal.fptosi 32 (accV d1 L (ix2 (320 : Fin 336) l)) ≠ ∑ g : Fin 8, d2 (ix2 g l)) : bad d1 L d2 := by
  unfold bad
  generalize accV d1 L = A at h ⊢
  unfold k0_pay52
  pointwise
  rw [Scalar.guard_iff]
  have e : ∀ p : Bool, p = true → BitVec.ofBool p = 1#1 := by decide
  refine e _ (decide_eq_true ?_)
  refine lt_of_lt_of_le (zero_lt_one : (0 : EReal) < 1) ?_
  refine (Finset.le_fold_max (1 : EReal)).2 (Or.inr ⟨(0, l), Finset.mem_univ _, le_of_eq (Eq.symm ?_)⟩)
  refine if_pos (IntOp.cmpi_ne.2 ?_)
  refine fun e' => h (e'.trans ?_)
  rw [Finset.sum_eq_fold]
  rfl

/-- `m` runs of `k` are one of `m * k`. -/
theorem sum_runs {M : Type} [AddCommMonoid M] (m k : ℕ) (f : ℕ → M) :
    ∑ b : Fin (m * k), f b.val = ∑ i : Fin m, ∑ j : Fin k, f (k * i.val + j.val) := by
  rw [← Fintype.sum_prod_type' (f := fun (i : Fin m) (j : Fin k) => f (k * i.val + j.val))]
  refine Fintype.sum_equiv finProdFinEquiv.symm _ _ fun b => ?_
  congr 1
  have h := congrArg Fin.val (finProdFinEquiv.apply_symm_apply b)
  rw [← h]
  simp [finProdFinEquiv, add_comm]

theorem fptosi_int (z : ℤ) (h : -131072 ≤ z ∧ z ≤ 131072) : Ideal.fptosi 32 (((z : ℝ) : ℝ) : EReal) = BitVec.ofInt 32 z := by
  unfold Ideal.fptosi
  rw [Ideal.toIntClamped_coe]
  congr 1
  have e : (if (0 : ℝ) ≤ (z : ℝ) then ⌊(z : ℝ)⌋ else ⌈(z : ℝ)⌉) = z := by
    rw [Int.floor_intCast, Int.ceil_intCast, ite_self]
  rw [e]
  norm_num
  omega

theorem coe_sum_int {ι : Type} (s : Finset ι) (f : ι → ℤ) : ∑ i ∈ s, (((f i : ℤ) : ℝ) : EReal) = (((∑ i ∈ s, f i : ℤ) : ℝ) : EReal) := by
  classical
  induction s using Finset.induction_on with
  | empty => simp
  | insert a s ha ih => rw [Finset.sum_insert ha, Finset.sum_insert ha, ih, ← EReal.coe_add, Int.cast_add]

theorem ofNat_sum {ι : Type} (s : Finset ι) (f : ι → ℕ) : ∑ i ∈ s, BitVec.ofNat 32 (f i) = BitVec.ofNat 32 (∑ i ∈ s, f i) := by
  classical
  induction s using Finset.induction_on with
  | empty => rfl
  | insert a s ha ih => rw [Finset.sum_insert ha, Finset.sum_insert ha, ih, BitVec.ofNat_add]

theorem ofInt_eq_ofNat (z : ℤ) (N : ℕ) (hz : -131072 ≤ z ∧ z ≤ 131072) (hN : N ≤ 131072) (h : BitVec.ofInt 32 z = BitVec.ofNat 32 N) : z = (N : ℤ) := by
  have h1 := congrArg BitVec.toInt h
  rw [← BitVec.ofInt_natCast, BitVec.toInt_ofInt, BitVec.toInt_ofInt, Int.bmod_eq_of_le (by norm_num <;> omega) (by norm_num <;> omega),
    Int.bmod_eq_of_le (by norm_num <;> omega) (by norm_num <;> omega)] at h1
  exact h1

/-- Where the point is not marked bad, every byte of the block is its count. -/
theorem bytes_good (d1 : Vec Ideal S8x1x3x4x8x128 .i32) (L : Vec Ideal S3x336x256 .bf16) (d2 : Vec Ideal S8x512 .i32) (n : ℕ → Fin 512 → ℕ)
    (hw : ∀ (ρ : Fin 192) (l : Fin 512), hist d1 (ix2 ρ l) = Occ.word fun p => n (4 * ρ.val + p.val) l)
    (hc : ∀ (g : Fin 8) (l : Fin 512), d2 (ix2 g l) = BitVec.ofNat 32 (∑ i : Fin 96, n (96 * g.val + i.val) l))
    (hle : ∀ l, ∑ b : Fin 768, n b.val l ≤ 73728)
    (hone : ∀ (p : Fin 3) (i : Fin 256), L (ix3 p (320 : Fin 336) i) = 1)
    (hnb : ¬ bad d1 L d2) (b : Fin 768) (l : Fin 512) : byteR (hist d1) b l = (((n b.val l : ℕ) : ℝ) : EReal) := by
  have hacc : accV d1 L (ix2 (320 : Fin 336) l) = (((∑ b : Fin 768, Occ.sbyte (Occ.word fun p => n (4 * (b.val / 4) + p.val) l) (b.val % 4) : ℤ) : ℝ) : EReal) := by
    rw [acc_apply, ← coe_sum_int]
    refine Finset.sum_congr rfl fun b _ => ?_
    rw [hone, one_mul, byteR, hw]
  have hbd : ∀ s : Finset (Fin 768), ∀ f : Fin 768 → ℤ, (∀ b, -128 ≤ f b ∧ f b ≤ 127) → -(128 * (s.card : ℤ)) ≤ ∑ b ∈ s, f b ∧ ∑ b ∈ s, f b ≤ 128 * (s.card : ℤ) := fun s f hf => by
    induction s using Finset.induction_on with
    | empty => simp
    | insert a s ha ih => rw [Finset.sum_insert ha, Finset.card_insert_of_notMem ha]; have := hf a; push_cast; omega
  have hb := hbd Finset.univ _ fun b : Fin 768 => Occ.sbyte_bounds (Occ.word fun p => n (4 * (b.val / 4) + p.val) l) (b.val % 4)
  rw [Finset.card_univ, Fintype.card_fin] at hb
  have hsum : ∑ g : Fin 8, d2 (ix2 g l) = BitVec.ofNat 32 (∑ b : Fin 768, n b.val l) := by
    rw [Finset.sum_congr rfl fun g _ => hc g l, ofNat_sum, ← sum_runs 8 96 fun b => n b l]
  have heq : (∑ b : Fin 768, Occ.sbyte (Occ.word fun p => n (4 * (b.val / 4) + p.val) l) (b.val % 4)) = ((∑ b : Fin 768, n b.val l : ℕ) : ℤ) := by
    by_contra hne
    refine hnb (bad_of_ne d1 L d2 l fun h => hne ?_)
    rw [hacc, fptosi_int _ (by omega), hsum] at h
    exact ofInt_eq_ofNat _ _ (by omega) ((hle l).trans (by norm_num)) h
  have e1 := sum_runs 192 4 fun b => Occ.sbyte (Occ.word fun p => n (4 * (b / 4) + p.val) l) (b % 4)
  have e2 := sum_runs 192 4 fun b => ((n b l : ℕ) : ℤ)
  have key : ∀ ρ : Fin 192, ∑ j : Fin 4, Occ.sbyte (Occ.word fun p => n (4 * ((4 * ρ.val + j.val) / 4) + p.val) l) ((4 * ρ.val + j.val) % 4)
      = ∑ j : Fin 4, Occ.sbyte (Occ.word fun p => n (4 * ρ.val + p.val) l) j.val := fun ρ => by
    refine Finset.sum_congr rfl fun j _ => ?_
    have := j.isLt
    rw [show (4 * ρ.val + j.val) / 4 = ρ.val by omega, show (4 * ρ.val + j.val) % 4 = j.val by omega]
  rw [Finset.sum_congr rfl fun ρ _ => key ρ] at e1
  have hS := fun ρ : Fin 192 => Occ.sbytes fun p : Fin 4 => n (4 * ρ.val + p.val) l
  have htot : ∑ ρ : Fin 192, ∑ j : Fin 4, Occ.sbyte (Occ.word fun p => n (4 * ρ.val + p.val) l) j.val = ∑ ρ : Fin 192, ∑ j : Fin 4, ((n (4 * ρ.val + j.val) l : ℕ) : ℤ) := by
    rw [← e1, ← e2]
    refine Eq.trans heq ?_
    push_cast
    rfl
  have hall := (Finset.sum_eq_sum_iff_of_le fun ρ _ => (hS ρ).1).1 htot
  have hb4 : b.val / 4 < 192 := by omega
  have h1 := (hS ⟨b.val / 4, hb4⟩).2 (hall _ (Finset.mem_univ _)) ⟨b.val % 4, Nat.mod_lt _ (by decide)⟩
  unfold byteR
  rw [hw]
  rw [show Occ.sbyte (Occ.word fun p => n (4 * (b.val / 4) + p.val) l) (b.val % 4) = ((n (4 * (b.val / 4) + b.val % 4) l : ℕ) : ℤ) from h1,
    show 4 * (b.val / 4) + b.val % 4 = b.val by omega]
  norm_num

theorem k0_off1_eq : ∀ t : Fin k0_t1_loop.trips, k0_off1 t = ![t.val, 0] := by decide +kernel

/-- Chunk `t` of an occurrence list at an index. -/
theorem chunk_apply (d : Vec Ideal S144x512 .i32) (t : Fin k0_t1_loop.trips) (o : Fin 512) :
    chunk d t (ix2 (0 : Fin 1) o) = d (ix2 (t.cast rfl : Fin 144) o) := by
  unfold chunk
  refine congrArg d (funext fun a => Fin.ext ?_)
  match a with
  | ⟨0, _⟩ => exact (congrFun (k0_off1_eq t) 0 |> fun h => (by
      change k0_off1 t 0 + 0 = t.val
      rw [h]; rfl))
  | ⟨1, _⟩ => exact (congrFun (k0_off1_eq t) 1 |> fun h => (by
      change k0_off1 t 1 + 1 * o.val = o.val
      rw [h]; change 0 + 1 * o.val = o.val; omega))

theorem onehot (x y : BitVec 32) : (FloatOps.sitofp (F := Ideal) FTy.f32 (BitVec.setWidth 32 (IntOp.cmpi .eq x y)) : EReal) = if x.toNat = y.toNat then 1 else 0 := by
  by_cases h : x = y
  · rw [if_pos (congrArg _ h), IntOp.cmpi_eq.2 h]
    change ((((BitVec.setWidth 32 (1#1)).toInt : ℤ) : ℝ) : EReal) = 1
    rw [show (BitVec.setWidth 32 (1#1)).toInt = 1 by decide]
    norm_num
  · rw [if_neg fun h' => h (BitVec.eq_of_toNat_eq h')]
    have h0 : IntOp.cmpi .eq x y = 0#1 := (by decide : ∀ b : BitVec 1, b ≠ 1#1 → b = 0#1) _ fun h' => h (IntOp.cmpi_eq.1 h')
    rw [h0]
    change ((((BitVec.setWidth 32 (0#1)).toInt : ℤ) : ℝ) : EReal) = 0
    rw [show (BitVec.setWidth 32 (0#1)).toInt = 0 by decide]
    norm_num

theorem addi_ofNat (i k : ℕ) (h : i + k < 4294967296) : (IntOp.addi (BitVec.ofNat 32 i) (BitVec.ofNat 32 k)).toNat = i + k := by
  change (BitVec.ofNat 32 i + BitVec.ofNat 32 k).toNat = _
  rw [← BitVec.ofNat_add, BitVec.toNat_ofNat, Nat.mod_eq_of_lt h]

theorem mul_pick (x : EReal) (a b : ℕ) : x * (if a = b then 1 else 0) = if b = a then x else 0 := by
  by_cases h : a = b
  · rw [if_pos h, if_pos h.symm, mul_one]
  · rw [if_neg h, if_neg fun h' => h h'.symm, mul_zero]

/-- One trip of the fallback at an entry: the bags' gradients of the occurrences of the entry's column. -/
theorem trip_apply (T : ℕ) (hT : T < 36) (L : Vec Ideal S3x336x256 .bf16) (d8 d9 : Vec Ideal S144x512 .i32) (t : Fin k0_t1_loop.trips)
    (G : Vec Ideal S320x512 .f32) (r : Fin 320) (l : Fin 512) (gr : ℕ → EReal)
    (hL : ∀ (p : Fin 3) (i : Fin 256), L (ix3 p (⟨r.val, by omega⟩ : Fin 336) i) = gr (256 * p.val + i.val))
    (hb : ∀ o : Fin 512, (d8 (ix2 (t.cast rfl : Fin 144) o)).toNat < 768) :
    tripV (BitVec.ofNat 32 T) L d8 d9 t G (ix2 r l) = G (ix2 r l) + ∑ o : Fin 512,
      (if (d9 (ix2 (t.cast rfl : Fin 144) o)).toNat = 512 * T + l.val then gr (d8 (ix2 (t.cast rfl : Fin 144) o)).toNat else 0) := by
  have hB := chunk_apply d8 t
  have hU := chunk_apply d9 t
  unfold tripV
  generalize chunk d8 t = B at hB ⊢
  generalize chunk d9 t = U at hU ⊢
  pointwise [k0_pay54, k0_pay2, gslab]
  congr 1
  refine Finset.sum_congr rfl fun o _ => ?_
  have h3 := sum768 fun b : Fin 768 => gr b.val * (if b.val = (d8 (ix2 (t.cast rfl : Fin 144) o)).toNat then (1 : EReal) else 0)
  have hl : (IntOp.addi (BitVec.ofNat 32 l.val) (Scalar.muli (BitVec.ofNat 32 T) 512#32)).toNat = 512 * T + l.val := by
    have : Scalar.muli (BitVec.ofNat 32 T) 512#32 = BitVec.ofNat 32 (T * 512) := by
      change BitVec.ofNat 32 T * BitVec.ofNat 32 512 = _
      rw [← BitVec.ofNat_mul]
    rw [this, addi_ofNat _ _ (by omega)]; omega
  rw [onehot, hU, hl]
  have e0 : ∀ i : Fin 256, (IntOp.addi (BitVec.ofNat 32 i.val) 0#32).toNat = i.val := fun i => by rw [addi_ofNat _ _ (by omega)]; rfl
  have e1 : ∀ i : Fin 256, (IntOp.addi (BitVec.ofNat 32 i.val) 256#32).toNat = 256 + i.val := fun i => by rw [addi_ofNat _ _ (by omega)]; omega
  have e2 : ∀ i : Fin 256, (IntOp.addi (BitVec.ofNat 32 i.val) 512#32).toNat = 512 + i.val := fun i => by rw [addi_ofNat _ _ (by omega)]; omega
  have hs : ∑ b : Fin 768, gr b.val * (if b.val = (d8 (ix2 (t.cast rfl : Fin 144) o)).toNat then (1 : EReal) else 0) = gr (d8 (ix2 (t.cast rfl : Fin 144) o)).toNat := by
    rw [Finset.sum_eq_single (⟨_, hb o⟩ : Fin 768)]
    · rw [if_pos rfl, mul_one]
    · intro b _ hne
      rw [if_neg fun h => hne (Fin.ext h), mul_zero]
    · exact fun h => absurd (Finset.mem_univ _) h
  have h0 : (∑ i : Fin 256, L (ix3 0 (⟨r.val, by omega⟩ : Fin 336) i) * FloatOps.sitofp (F := Ideal) FTy.f32 (BitVec.setWidth 32 (IntOp.cmpi .eq (IntOp.addi (BitVec.ofNat 32 i.val) 0#32) (B (ix2 0 o)))))
      = ∑ i : Fin 256, gr i.val * (if i.val = (d8 (ix2 (t.cast rfl : Fin 144) o)).toNat then (1 : EReal) else 0) := by
    refine Finset.sum_congr rfl fun i _ => ?_
    rw [onehot, e0, hB, hL 0 i]; norm_num
  have h1 : (∑ i : Fin 256, L (ix3 1 (⟨r.val, by omega⟩ : Fin 336) i) * FloatOps.sitofp (F := Ideal) FTy.f32 (BitVec.setWidth 32 (IntOp.cmpi .eq (IntOp.addi (BitVec.ofNat 32 i.val) 256#32) (B (ix2 0 o)))))
      = ∑ i : Fin 256, gr (256 + i.val) * (if 256 + i.val = (d8 (ix2 (t.cast rfl : Fin 144) o)).toNat then (1 : EReal) else 0) := by
    refine Finset.sum_congr rfl fun i _ => ?_
    rw [onehot, e1, hB, hL 1 i]; norm_num
  have h2 : (∑ i : Fin 256, L (ix3 2 (⟨r.val, by omega⟩ : Fin 336) i) * FloatOps.sitofp (F := Ideal) FTy.f32 (BitVec.setWidth 32 (IntOp.cmpi .eq (IntOp.addi (BitVec.ofNat 32 i.val) 512#32) (B (ix2 0 o)))))
      = ∑ i : Fin 256, gr (512 + i.val) * (if 512 + i.val = (d8 (ix2 (t.cast rfl : Fin 144) o)).toNat then (1 : EReal) else 0) := by
    refine Finset.sum_congr rfl fun i _ => ?_
    rw [onehot, e2, hB, hL 2 i]; norm_num
  refine Eq.trans (congrArg (· * _) ((congrArg₂ (· + ·) (congrArg₂ (· + ·) h0 h1) h2).trans (h3.symm.trans hs))) ?_
  exact mul_pick _ _ _

/-- The fallback's sum over all chunks. -/
theorem gBad_apply (T : ℕ) (hT : T < 36) (L : Vec Ideal S3x336x256 .bf16) (d8 d9 : Vec Ideal S144x512 .i32)
    (r : Fin 320) (l : Fin 512) (gr : ℕ → EReal)
    (hL : ∀ (p : Fin 3) (i : Fin 256), L (ix3 p (⟨r.val, by omega⟩ : Fin 336) i) = gr (256 * p.val + i.val))
    (hb : ∀ t o, (d8 (ix2 t o)).toNat < 768) :
    gBad (BitVec.ofNat 32 T) L d8 d9 k0_t1_loop.trips (ix2 r l) = ∑ t : Fin 144, ∑ o : Fin 512,
      (if (d9 (ix2 t o)).toNat = 512 * T + l.val then gr (d8 (ix2 t o)).toNat else 0) := by
  have h : ∀ k (hk : k ≤ 144), gBad (BitVec.ofNat 32 T) L d8 d9 k (ix2 r l) = ∑ t : Fin k, ∑ o : Fin 512,
      (if (d9 (ix2 (t.castLE hk) o)).toNat = 512 * T + l.val then gr (d8 (ix2 (t.castLE hk) o)).toNat else 0) := fun k => by
    induction k with
    | zero =>
      intro _
      rw [Fin.sum_univ_zero]
      unfold gBad
      pointwise [k0_pay53]
    | succ k ih =>
      intro hk
      rw [Fin.sum_univ_castSucc]
      have hk' : k < k0_t1_loop.trips := hk
      have e : gBad (BitVec.ofNat 32 T) L d8 d9 (k + 1) = tripV (BitVec.ofNat 32 T) L d8 d9 ⟨k, hk'⟩ (gBad (BitVec.ofNat 32 T) L d8 d9 k) := by
        rw [gBad, dif_pos hk']
      rw [e, trip_apply T hT L d8 d9 _ _ r l gr hL (fun o => hb _ o), ih (by omega)]
      rfl
  exact h 144 le_rfl

/-- The gradient of a point's columns, at an entry: the sum over the occurrences, from the tables where every byte holds its count
and from the lists otherwise. -/
theorem gV_apply (T : ℕ) (hT : T < 36) (d1 : Vec Ideal S8x1x3x4x8x128 .i32) (L : Vec Ideal S3x336x256 .bf16) (d2 : Vec Ideal S8x512 .i32)
    (d8 d9 : Vec Ideal S144x512 .i32) (bag uniq : Fin 73728 → BitVec 32) (hbag : ∀ o, (bag o).toNat < 768)
    (h8 : ∀ (t : Fin 144) (o : Fin 512) (x : Fin 73728), x.val = 512 * t.val + o.val → d8 (ix2 t o) = bag x)
    (h9 : ∀ (t : Fin 144) (o : Fin 512) (x : Fin 73728), x.val = 512 * t.val + o.val → d9 (ix2 t o) = uniq x)
    (hw : ∀ (ρ : Fin 192) (l : Fin 512), hist d1 (ix2 ρ l) = Occ.word fun p => Occ.cnt bag uniq (4 * ρ.val + p.val) (512 * T + l.val))
    (hc : ∀ (g : Fin 8) (l : Fin 512), d2 (ix2 g l) = BitVec.ofNat 32 (∑ i : Fin 96, Occ.cnt bag uniq (96 * g.val + i.val) (512 * T + l.val)))
    (hone : ∀ (p : Fin 3) (i : Fin 256), L (ix3 p (320 : Fin 336) i) = 1)
    (r : Fin 320) (gr : ℕ → EReal)
    (hL : ∀ (p : Fin 3) (i : Fin 256), L (ix3 p (⟨r.val, by omega⟩ : Fin 336) i) = gr (256 * p.val + i.val)) (l : Fin 512) :
    gV (BitVec.ofNat 32 T) d1 L d2 d8 d9 (ix2 r l) = Occ.gsum bag uniq gr (512 * T + l.val) := by
  unfold gV
  by_cases hbad : bad d1 L d2
  · rw [if_pos hbad, gBad_apply T hT L d8 d9 r l gr hL (fun t o => by
      rw [h8 t o ⟨512 * t.val + o.val, by omega⟩ rfl]; exact hbag _)]
    unfold Occ.gsum
    have e := sum_runs 144 512 fun x => if h : x < 73728 then (if (uniq ⟨x, h⟩).toNat = 512 * T + l.val then gr (bag ⟨x, h⟩).toNat else 0) else 0
    refine Eq.trans ?_ (e.symm.trans ?_)
    · refine Finset.sum_congr rfl fun t _ => Finset.sum_congr rfl fun o _ => ?_
      have hlt : 512 * t.val + o.val < 73728 := by omega
      rw [dif_pos hlt, h8 t o ⟨_, hlt⟩ rfl, h9 t o ⟨_, hlt⟩ rfl]
    · refine Finset.sum_congr rfl fun x _ => ?_
      exact dif_pos x.isLt
  · rw [if_neg hbad]
    have hg := bytes_good d1 L d2 (fun b l => Occ.cnt bag uniq b (512 * T + l.val)) hw hc (fun l => Occ.sum_cnt_le bag uniq _) hone hbad
    have e : accG d1 L (ix2 r l) = accV d1 L (ix2 (⟨r.val, by omega⟩ : Fin 336) l) := by
      unfold accG
      generalize accV d1 L = A
      pointwise
    rw [e, acc_apply, ← Occ.sum_cnt_mul (B := 768) bag uniq hbag gr]
    refine Finset.sum_congr rfl fun b _ => ?_
    rw [hg b l, hL]
    congr 2
    change 256 * (b.val / 256) + b.val % 256 = b.val
    omega

end Cert.KernelIdeal.Hand
-- ==== Proof.Blocks.lean ====
/-
  What the body reads at a point, as elements of the arguments: each window's block, the two occurrence lists, the carried left
  operand and the gradient of the point's columns.
-/
module

public import proofs.«01_k».proof.Proof.Run
public import proofs.«01_k».proof.Proof.Grad

@[expose] public section

namespace Cert.KernelIdeal.Hand

open Cert.KernelIdeal Cert.KernelIdeal.Gen Idealize.ShloMosaic

variable (m : (ℓ : Loc nD τ sig) → Buf (Elt Ideal) ℓ)

/-- The arguments as core `c` holds them. -/
abbrev A0 (c : Dev nD) : IVec S3538944 32 := m (c.tc.loc main_arg0)
abbrev A1 (c : Dev nD) : IVec S147456 32 := m (c.tc.loc main_arg1)
abbrev A2 (c : Dev nD) : IVec S80x18432 32 := m (c.tc.loc main_arg2)
abbrev A3 (c : Dev nD) : FVec Ideal S18432 .f32 := m (c.tc.loc main_arg3)
abbrev A4 (c : Dev nD) : FVec Ideal S18432 .f32 := m (c.tc.loc main_arg4)
abbrev A5 (c : Dev nD) : FVec Ideal S18432 .f32 := m (c.tc.loc main_arg5)
abbrev A6 (c : Dev nD) : FVec Ideal S3x256x320 .bf16 := m (c.tc.loc main_arg6)
abbrev A7 (c : Dev nD) : IVec S73728 32 := m (c.tc.loc main_arg7)
abbrev A8 (c : Dev nD) : IVec S73728 32 := m (c.tc.loc main_arg8)

theorem V_v0 (c : Dev nD) : (V m c main_v0 : IVec S8x4x3x36x8x128 32) = shapeCast S8x4x3x36x8x128 (A0 m c) shapeCasts_S3538944_S8x4x3x36x8x128 := rfl
theorem V_v1 (c : Dev nD) : (V m c main_v1 : IVec S8x18432 32) = shapeCast S8x18432 (A1 m c) shapeCasts_S147456_S8x18432 := rfl

theorem map0 : ∀ i : grid0.Coords, cc0_transform_0 i = ![0, (i 0).val / 9, 0, (i 0).val % 9, 0, 0] := by decide +kernel
theorem map1 : ∀ i : grid0.Coords, cc0_transform_1 i = ![0, (i 0).val] := by decide +kernel
theorem off2 : ∀ (i : grid0.Coords) (j : Fin 4), k0_off2 i (jw j) = ![4 * (i 0).val + j.val, 0] := by decide +kernel

theorem I1_apply (c : Dev nD) (t : Fin cfg0.N) (g : Fin 8) (l : Fin 512) (x : Fin 147456) (hx : x.val = g.val * 18432 + (512 * (grid0.coords t 0).val + l.val)) :
    I1 m c t (ix2 g l) = A1 m c (ix1 x) := by
  have ht : (grid0.coords t 0).val < 36 := (grid0.coords t 0).isLt
  have e : I1 m c t (ix2 g l) = (V m c main_v1 : IVec S8x18432 32) (ix2 g (⟨512 * (grid0.coords t 0).val + l.val, by omega⟩ : Fin 18432)) := by
    unfold I1 iblk
    refine congrArg (V m c main_v1 : IVec S8x18432 32) (funext fun a => Fin.ext ?_)
    match a with
    | ⟨0, _⟩ =>
      change cc0_transform_1 (grid0.coords t) 0 * 8 + 1 * g.val = g.val
      rw [map1]; change 0 * 8 + 1 * g.val = _; omega
    | ⟨1, _⟩ =>
      change cc0_transform_1 (grid0.coords t) 1 * 512 + 1 * l.val = _
      rw [map1]; change (grid0.coords t 0).val * 512 + 1 * l.val = 512 * (grid0.coords t 0).val + l.val; omega
  rw [e, V_v1]
  refine shapeCast_apply _ _ _ _ ?_
  rw [Shape.rowMajor_val_one, Shape.rowMajor_val_two]
  simp only [ix1_0, ix2_0, ix2_1]
  rw [hx]; rfl

theorem V_v2 (c : Dev nD) : (V m c main_v2 : FVec Ideal S144x128 .f32) = shapeCast S144x128 (A3 m c) shapeCasts_S18432_S144x128 := rfl
theorem V_v3 (c : Dev nD) : (V m c main_v3 : FVec Ideal S144x128 .f32) = shapeCast S144x128 (A4 m c) shapeCasts_S18432_S144x128 := rfl
theorem V_v4 (c : Dev nD) : (V m c main_v4 : FVec Ideal S144x128 .f32) = shapeCast S144x128 (A5 m c) shapeCasts_S18432_S144x128 := rfl
theorem V_v5 (c : Dev nD) : (V m c main_v5 : FVec Ideal S3x320x256 .bf16) = transpose S3x320x256 [0, 2, 1] (A6 m c) transposes_S3x256x320_S3x320x256_0_2_1 := rfl
theorem V_v6 (c : Dev nD) : (V m c main_v6 : IVec S144x512 32) = shapeCast S144x512 (A7 m c) shapeCasts_S73728_S144x512 := rfl
theorem V_v7 (c : Dev nD) : (V m c main_v7 : IVec S144x512 32) = shapeCast S144x512 (A8 m c) shapeCasts_S73728_S144x512 := rfl

theorem map2 : ∀ i : grid0.Coords, cc0_transform_2 i = ![0, (i 0).val] := by decide +kernel
theorem map3 : ∀ i : grid0.Coords, cc0_transform_3 i = ![0, 0] := by decide +kernel
theorem map4 : ∀ i : grid0.Coords, cc0_transform_4 i = ![0, 0] := by decide +kernel
theorem map5 : ∀ i : grid0.Coords, cc0_transform_5 i = ![0, 0] := by decide +kernel
theorem map6 : ∀ i : grid0.Coords, cc0_transform_6 i = ![0, 0, 0] := by decide +kernel

theorem I0_apply (c : Dev nD) (t : Fin cfg0.N) (g : Fin 8) (k : Fin 3) (tt : Fin 4) (s : Fin 8) (l : Fin 128) (x : Fin 3538944)
    (hx : x.val = ((((g.val * 4 + (grid0.coords t 0).val / 9) * 3 + k.val) * 36 + (4 * ((grid0.coords t 0).val % 9) + tt.val)) * 8 + s.val) * 128 + l.val) :
    I0 m c t (ix6 g 0 k tt s l) = A0 m c (ix1 x) := by
  have ht : (grid0.coords t 0).val < 36 := (grid0.coords t 0).isLt
  have e : I0 m c t (ix6 g 0 k tt s l) = (V m c main_v0 : IVec S8x4x3x36x8x128 32)
      (ix6 g (⟨(grid0.coords t 0).val / 9, by omega⟩ : Fin 4) k (⟨4 * ((grid0.coords t 0).val % 9) + tt.val, by omega⟩ : Fin 36) s l) := by
    unfold I0 iblk
    refine congrArg (V m c main_v0 : IVec S8x4x3x36x8x128 32) (funext fun a => Fin.ext ?_)
    match a with
    | ⟨0, _⟩ =>
      change cc0_transform_0 (grid0.coords t) 0 * 8 + 1 * g.val = g.val
      rw [map0]; change 0 * 8 + 1 * g.val = _; omega
    | ⟨1, _⟩ =>
      change cc0_transform_0 (grid0.coords t) 1 * 1 + 1 * 0 = _
      rw [map0]; change (grid0.coords t 0).val / 9 * 1 + 1 * 0 = (grid0.coords t 0).val / 9; omega
    | ⟨2, _⟩ =>
      change cc0_transform_0 (grid0.coords t) 2 * 3 + 1 * k.val = k.val
      rw [map0]; change 0 * 3 + 1 * k.val = _; omega
    | ⟨3, _⟩ =>
      change cc0_transform_0 (grid0.coords t) 3 * 4 + 1 * tt.val = _
      rw [map0]; change (grid0.coords t 0).val % 9 * 4 + 1 * tt.val = 4 * ((grid0.coords t 0).val % 9) + tt.val; omega
    | ⟨4, _⟩ =>
      change cc0_transform_0 (grid0.coords t) 4 * 8 + 1 * s.val = s.val
      rw [map0]; change 0 * 8 + 1 * s.val = _; omega
    | ⟨5, _⟩ =>
      change cc0_transform_0 (grid0.coords t) 5 * 128 + 1 * l.val = l.val
      rw [map0]; change 0 * 128 + 1 * l.val = _; omega
  rw [e, V_v0]
  refine shapeCast_apply _ _ _ _ ?_
  rw [Shape.rowMajor_val_one, rowMajor_val6 _ 442368 110592 36864 1024 128 rfl rfl rfl rfl rfl]
  simp only [ix1_0, ix6_0, ix6_1, ix6_2, ix6_3, ix6_4, ix6_5]
  rw [hx]; ring

theorem I2_apply (c : Dev nD) (t : Fin cfg0.N) (r : Fin 80) (l : Fin 512) (u : Fin 18432) (hu : u.val = 512 * (grid0.coords t 0).val + l.val) :
    I2 m c t (ix2 r l) = A2 m c (ix2 r u) := by
  unfold I2 iblk
  refine Eq.trans ?_ (congrFun (V_main_arg2 m c) _)
  refine congrArg (V m c main_arg2 : IVec S80x18432 32) (funext fun a => Fin.ext ?_)
  match a with
  | ⟨0, _⟩ =>
    change cc0_transform_2 (grid0.coords t) 0 * 80 + 1 * r.val = r.val
    rw [map2]; change 0 * 80 + 1 * r.val = _; omega
  | ⟨1, _⟩ =>
    change cc0_transform_2 (grid0.coords t) 1 * 512 + 1 * l.val = u.val
    rw [map2]; change (grid0.coords t 0).val * 512 + 1 * l.val = u.val; omega

theorem I3_apply (c : Dev nD) (t : Fin cfg0.N) (r : Fin 144) (l : Fin 128) (u : Fin 18432) (hu : u.val = 128 * r.val + l.val) :
    I3 m c t (ix2 r l) = A3 m c (ix1 u) := by
  have e : I3 m c t (ix2 r l) = (V m c main_v2 : FVec Ideal S144x128 .f32) (ix2 r l) := by
    unfold I3 iblk
    refine congrArg (V m c main_v2 : FVec Ideal S144x128 .f32) (funext fun a => Fin.ext ?_)
    match a with
    | ⟨0, _⟩ =>
      change cc0_transform_3 (grid0.coords t) 0 * 144 + 1 * r.val = r.val
      rw [map3]; change 0 * 144 + 1 * r.val = _; omega
    | ⟨1, _⟩ =>
      change cc0_transform_3 (grid0.coords t) 1 * 128 + 1 * l.val = l.val
      rw [map3]; change 0 * 128 + 1 * l.val = _; omega
  rw [e, V_v2]
  refine shapeCast_apply _ _ _ _ ?_
  rw [Shape.rowMajor_val_one, Shape.rowMajor_val_two]
  simp only [ix1_0, ix2_0, ix2_1]
  rw [hu]; exact congrArg (· + l.val) (Nat.mul_comm _ _)

theorem I4_apply (c : Dev nD) (t : Fin cfg0.N) (r : Fin 144) (l : Fin 128) (u : Fin 18432) (hu : u.val = 128 * r.val + l.val) :
    I4 m c t (ix2 r l) = A4 m c (ix1 u) := by
  have e : I4 m c t (ix2 r l) = (V m c main_v3 : FVec Ideal S144x128 .f32) (ix2 r l) := by
    unfold I4 iblk
    refine congrArg (V m c main_v3 : FVec Ideal S144x128 .f32) (funext fun a => Fin.ext ?_)
    match a with
    | ⟨0, _⟩ =>
      change cc0_transform_4 (grid0.coords t) 0 * 144 + 1 * r.val = r.val
      rw [map4]; change 0 * 144 + 1 * r.val = _; omega
    | ⟨1, _⟩ =>
      change cc0_transform_4 (grid0.coords t) 1 * 128 + 1 * l.val = l.val
      rw [map4]; change 0 * 128 + 1 * l.val = _; omega
  rw [e, V_v3]
  refine shapeCast_apply _ _ _ _ ?_
  rw [Shape.rowMajor_val_one, Shape.rowMajor_val_two]
  simp only [ix1_0, ix2_0, ix2_1]
  rw [hu]; exact congrArg (· + l.val) (Nat.mul_comm _ _)

theorem I5_apply (c : Dev nD) (t : Fin cfg0.N) (r : Fin 144) (l : Fin 128) (u : Fin 18432) (hu : u.val = 128 * r.val + l.val) :
    I5 m c t (ix2 r l) = A5 m c (ix1 u) := by
  have e : I5 m c t (ix2 r l) = (V m c main_v4 : FVec Ideal S144x128 .f32) (ix2 r l) := by
    unfold I5 iblk
    refine congrArg (V m c main_v4 : FVec Ideal S144x128 .f32) (funext fun a => Fin.ext ?_)
    match a with
    | ⟨0, _⟩ =>
      change cc0_transform_5 (grid0.coords t) 0 * 144 + 1 * r.val = r.val
      rw [map5]; change 0 * 144 + 1 * r.val = _; omega
    | ⟨1, _⟩ =>
      change cc0_transform_5 (grid0.coords t) 1 * 128 + 1 * l.val = l.val
      rw [map5]; change 0 * 128 + 1 * l.val = _; omega
  rw [e, V_v4]
  refine shapeCast_apply _ _ _ _ ?_
  rw [Shape.rowMajor_val_one, Shape.rowMajor_val_two]
  simp only [ix1_0, ix2_0, ix2_1]
  rw [hu]; exact congrArg (· + l.val) (Nat.mul_comm _ _)

theorem I6_apply (c : Dev nD) (t : Fin cfg0.N) (p : Fin 3) (r : Fin 320) (i : Fin 256) :
    I6 m c t (ix3 p r i) = A6 m c (ix3 p i r) := by
  have e : I6 m c t (ix3 p r i) = (V m c main_v5 : FVec Ideal S3x320x256 .bf16) (ix3 p r i) := by
    unfold I6 iblk
    refine congrArg (V m c main_v5 : FVec Ideal S3x320x256 .bf16) (funext fun a => Fin.ext ?_)
    match a with
    | ⟨0, _⟩ =>
      change cc0_transform_6 (grid0.coords t) 0 * 3 + 1 * p.val = p.val
      rw [map6]; change 0 * 3 + 1 * p.val = _; omega
    | ⟨1, _⟩ =>
      change cc0_transform_6 (grid0.coords t) 1 * 320 + 1 * r.val = r.val
      rw [map6]; change 0 * 320 + 1 * r.val = _; omega
    | ⟨2, _⟩ =>
      change cc0_transform_6 (grid0.coords t) 2 * 256 + 1 * i.val = i.val
      rw [map6]; change 0 * 256 + 1 * i.val = _; omega
  rw [e, V_v5]
  generalize A6 m c = a
  pointwise

theorem I8_apply (c : Dev nD) (t : Fin 144) (o : Fin 512) (x : Fin 73728) (hx : x.val = 512 * t.val + o.val) :
    I8 m c (ix2 t o) = A7 m c (ix1 x) := by
  have e : I8 m c (ix2 t o) = (V m c main_v6 : IVec S144x512 32) (ix2 t o) := rfl
  rw [e, V_v6]
  refine shapeCast_apply _ _ _ _ ?_
  rw [Shape.rowMajor_val_one, Shape.rowMajor_val_two]
  simp only [ix1_0, ix2_0, ix2_1]
  rw [hx]; exact congrArg (· + o.val) (Nat.mul_comm _ _)

theorem I9_apply (c : Dev nD) (t : Fin 144) (o : Fin 512) (x : Fin 73728) (hx : x.val = 512 * t.val + o.val) :
    I9 m c (ix2 t o) = A8 m c (ix1 x) := by
  have e : I9 m c (ix2 t o) = (V m c main_v7 : IVec S144x512 32) (ix2 t o) := rfl
  rw [e, V_v7]
  refine shapeCast_apply _ _ _ _ ?_
  rw [Shape.rowMajor_val_one, Shape.rowMajor_val_two]
  simp only [ix1_0, ix2_0, ix2_1]
  rw [hx]; exact congrArg (· + o.val) (Nat.mul_comm _ _)

end Cert.KernelIdeal.Hand
-- ==== Proof.Scat.lean ====
/-
  Scatters by one index word read at an element, at any extents: ones added into a vector of words (how many updates land
  at an entry), and rows added into a matrix of extended reals (the sum of the rows that land at a row).
-/
module

public import Idealize.ShloMosaic.Lib.Routing.Ops
public import Idealize.ShloMosaic.Lib.Routing.OpsPair
public import Idealize.ShloMosaic.PureOps.Ideal.Laws
public import Idealize.ShloMosaic.Lib.NatWords
public import Idealize.ShloMosaic.Lib.ValueIdx

@[expose] public section

noncomputable section

namespace Cert.Scat

open Idealize.ShloMosaic Idealize.ShloMosaic.Routing Idealize.ShloMosaic.ValueIdx

/-- The vector scatter's dimension numbers, and the row scatter's. -/
abbrev vecDims {M N : Nat} (wf : ScatterDims.WF (shape1 M) (shape2 N 1) (shape1 N) [] [0] [0] 1) : ScatterDims (shape1 M) (shape2 N 1) (shape1 N) where
  updateWindowDims := []
  insertedWindowDims := [0]
  scatterDimsToOperandDims := [0]
  indexVectorDim := 1
  wf := wf
abbrev rowDims {M N B : Nat} (wf : ScatterDims.WF (shape2 M B) (shape2 N 1) (shape2 N B) [1] [0] [0] 1) : ScatterDims (shape2 M B) (shape2 N 1) (shape2 N B) where
  updateWindowDims := [1]
  insertedWindowDims := [0]
  scatterDimsToOperandDims := [0]
  indexVectorDim := 1
  wf := wf

theorem vec_start {M N : Nat} (wf) (idx : IVec (shape2 N 1) 32) (i : Fin N) :
    (vecDims (M := M) wf).start (ix1 i) idx 0 = (idx (ix2 i (0 : Fin 1))).toInt := by
  unfold ScatterDims.start
  rw [dif_pos (List.mem_singleton.2 rfl)]
  congr 2
  funext b'; apply Fin.ext
  match b' with
  | ⟨0, _⟩ => rfl
  | ⟨1, _⟩ => rfl

theorem vec_lands {M N : Nat} (wf) (idx : IVec (shape2 N 1) 32) (i : Fin N) (x : Fin M) :
    (vecDims (M := M) wf).resultIdx? (ix1 i) idx = some (ix1 x) ↔ (idx (ix2 i (0 : Fin 1))).toInt = (x.val : Int) := by
  have hstart := vec_start (M := M) wf idx i
  have hwin : (vecDims (M := M) wf).window (ix1 i) 0 = 0 := rfl
  have hx := x.isLt
  unfold ScatterDims.resultIdx?
  split
  · next h =>
    have h0 := h 0
    change 0 ≤ (vecDims wf).start (ix1 i) idx 0 + ((vecDims wf).window (ix1 i) 0 : Int) ∧ (vecDims wf).start (ix1 i) idx 0 + ((vecDims wf).window (ix1 i) 0 : Int) < (M : Int) at h0
    rw [hstart, hwin] at h0
    constructor
    · intro e
      have e0 := congrArg Fin.val (congrFun (Option.some.inj e) 0)
      change ((vecDims wf).start (ix1 i) idx 0 + ((vecDims wf).window (ix1 i) 0 : Int)).toNat = x.val at e0
      rw [hstart, hwin] at e0
      omega
    · intro e
      refine congrArg some (funext fun a => Fin.ext ?_)
      match a with
      | ⟨0, _⟩ =>
        show ((vecDims wf).start (ix1 i) idx 0 + ((vecDims wf).window (ix1 i) 0 : Int)).toNat = x.val
        rw [hstart, hwin]
        omega
  · next h =>
    constructor
    · intro e; cases e
    · intro e
      refine (h fun a => ?_).elim
      match a with
      | ⟨0, _⟩ =>
        show 0 ≤ (vecDims wf).start (ix1 i) idx 0 + ((vecDims wf).window (ix1 i) 0 : Int) ∧ (vecDims wf).start (ix1 i) idx 0 + ((vecDims wf).window (ix1 i) 0 : Int) < (M : Int)
        rw [hstart, hwin]
        omega

theorem row_start {M N B : Nat} (wf) (idx : IVec (shape2 N 1) 32) (i : Fin N) (y : Fin B) :
    (rowDims (M := M) wf).start (ix2 i y) idx 0 = (idx (ix2 i (0 : Fin 1))).toInt := by
  unfold ScatterDims.start
  rw [dif_pos (List.mem_singleton.2 rfl)]
  congr 2
  funext b'; apply Fin.ext
  match b' with
  | ⟨0, _⟩ => rfl
  | ⟨1, _⟩ => rfl

theorem row_lands {M N B : Nat} (wf) (idx : IVec (shape2 N 1) 32) (i : Fin N) (y : Fin B) (x : Fin M) (z : Fin B) :
    (rowDims (M := M) wf).resultIdx? (ix2 i y) idx = some (ix2 x z) ↔ (idx (ix2 i (0 : Fin 1))).toInt = (x.val : Int) ∧ y = z := by
  have hstart := row_start (M := M) wf idx i y
  have hwin : (rowDims (M := M) wf).window (ix2 i y) 0 = 0 := rfl
  have hstart1 : (rowDims (M := M) wf).start (ix2 i y) idx 1 = 0 := rfl
  have hwin1 : (rowDims (M := M) wf).window (ix2 i y) 1 = y.val := rfl
  have hx := x.isLt
  have hy := y.isLt
  have hz := z.isLt
  have c0 : ∀ h, ((⟨((rowDims (M := M) wf).start (ix2 i y) idx 0 + (rowDims (M := M) wf).window (ix2 i y) 0).toNat, h⟩ : Fin M)).val
      = ((idx (ix2 i (0 : Fin 1))).toInt).toNat := fun h => by
    show ((rowDims (M := M) wf).start (ix2 i y) idx 0 + (rowDims (M := M) wf).window (ix2 i y) 0).toNat = _
    rw [hstart, hwin]; simp
  unfold ScatterDims.resultIdx?
  split
  · next h =>
    have h0 := h 0
    change 0 ≤ (rowDims wf).start (ix2 i y) idx 0 + ((rowDims wf).window (ix2 i y) 0 : Int) ∧ (rowDims wf).start (ix2 i y) idx 0 + ((rowDims wf).window (ix2 i y) 0 : Int) < (M : Int) at h0
    rw [hstart, hwin] at h0
    constructor
    · intro e
      have e0 := congrArg Fin.val (congrFun (Option.some.inj e) 0)
      have e1 := congrArg Fin.val (congrFun (Option.some.inj e) 1)
      change ((rowDims wf).start (ix2 i y) idx 0 + ((rowDims wf).window (ix2 i y) 0 : Int)).toNat = x.val at e0
      change ((rowDims wf).start (ix2 i y) idx 1 + ((rowDims wf).window (ix2 i y) 1 : Int)).toNat = z.val at e1
      rw [hstart, hwin] at e0
      rw [hstart1, hwin1] at e1
      exact ⟨by omega, Fin.ext (by omega)⟩
    · rintro ⟨e, rfl⟩
      refine congrArg some (funext fun a => Fin.ext ?_)
      match a with
      | ⟨0, _⟩ =>
        show ((rowDims wf).start (ix2 i y) idx 0 + ((rowDims wf).window (ix2 i y) 0 : Int)).toNat = x.val
        rw [hstart, hwin]
        omega
      | ⟨1, _⟩ =>
        show ((rowDims wf).start (ix2 i y) idx 1 + ((rowDims wf).window (ix2 i y) 1 : Int)).toNat = y.val
        rw [hstart1, hwin1]
        omega
  · next h =>
    constructor
    · intro e; cases e
    · rintro ⟨e, rfl⟩
      refine (h fun a => ?_).elim
      match a with
      | ⟨0, _⟩ =>
        show 0 ≤ (rowDims wf).start (ix2 i y) idx 0 + ((rowDims wf).window (ix2 i y) 0 : Int) ∧ (rowDims wf).start (ix2 i y) idx 0 + ((rowDims wf).window (ix2 i y) 0 : Int) < (M : Int)
        rw [hstart, hwin]
        omega
      | ⟨1, _⟩ =>
        show 0 ≤ (rowDims wf).start (ix2 i y) idx 1 + ((rowDims wf).window (ix2 i y) 1 : Int) ∧ (rowDims wf).start (ix2 i y) idx 1 + ((rowDims wf).window (ix2 i y) 1 : Int) < (B : Int)
        rw [hstart1, hwin1]
        omega

/-- Ones added into a vector of zeros: entry `x` counts the updates whose index word is `x`. -/
theorem vec_count {M N : Nat} (wf) (x0 : IVec (shape1 M) 32) (hx0 : ∀ i, x0 i = 0#32) (idx : IVec (shape2 N 1) 32)
    (upd : IVec (shape1 N) 32) (hupd : ∀ i, upd i = 1#32) (x : Fin M) :
    Host.scatter (vecDims wf) IntOp.addi x0 idx upd (ix1 x)
      = BitVec.ofNat 32 (Finset.univ.filter fun o : Fin N => (idx (ix2 o (0 : Fin 1))).toInt = (x.val : Int)).card := by
  classical
  rw [scatter_at, hx0]
  simp only [hupd]
  have hstep : ∀ (l : List (Fin (shape1 N).numel)) (z : ℕ),
      l.foldl (fun a n => if (vecDims (M := M) wf).resultIdx? ((shape1 N).rowMajor.symm n) idx = some (ix1 x) then IntOp.addi a 1#32 else a) (BitVec.ofNat 32 z)
        = BitVec.ofNat 32 (z + l.countP fun n => decide ((vecDims (M := M) wf).resultIdx? ((shape1 N).rowMajor.symm n) idx = some (ix1 x))) := by
    intro l
    induction l with
    | nil => intro z; simp
    | cons n l ih =>
      intro z
      rw [List.foldl_cons, List.countP_cons]
      by_cases h : (vecDims (M := M) wf).resultIdx? ((shape1 N).rowMajor.symm n) idx = some (ix1 x)
      · rw [if_pos h, show IntOp.addi (BitVec.ofNat 32 z) 1#32 = BitVec.ofNat 32 (z + 1) from (BitVec.ofNat_add z 1).symm, ih, if_pos (decide_eq_true h)]
        congr 1; omega
      · rw [if_neg h, ih, if_neg (by simpa using h)]; rfl
  refine (hstep _ 0).trans ?_
  rw [Nat.zero_add]
  congr 1
  rw [List.countP_eq_length_filter, ← List.toFinset_card_of_nodup ((List.nodup_finRange _).filter _)]
  refine Finset.card_bij (fun n _ => n.cast (numel1 N)) (fun n hn => ?_) (fun a _ b _ h => by simpa [Fin.ext_iff] using h) (fun o ho => ?_)
  · simp only [List.mem_toFinset, List.mem_filter, decide_eq_true_eq] at hn
    rw [symm1] at hn
    exact Finset.mem_filter.2 ⟨Finset.mem_univ _, (vec_lands wf idx _ x).1 hn.2⟩
  · refine ⟨o.cast (numel1 N).symm, ?_, by simp⟩
    simp only [List.mem_toFinset, List.mem_filter, decide_eq_true_eq]
    rw [symm1]
    exact ⟨List.mem_finRange _, (vec_lands wf idx _ x).2 (Finset.mem_filter.1 ho).2⟩

/-- Rows added into a matrix: entry `(x, z)` gains entry `z` of every row whose index word is `x`. -/
theorem row_sum {M N B : Nat} (wf) (x0 : (shape2 M B).Idx → EReal) (idx : IVec (shape2 N 1) 32) (upd : (shape2 N B).Idx → EReal) (x : Fin M) (z : Fin B) :
    Ideal.hostScatterAdd (rowDims wf) x0 idx upd (ix2 x z)
      = x0 (ix2 x z) + ∑ o : Fin N, if (idx (ix2 o (0 : Fin 1))).toInt = (x.val : Int) then upd (ix2 o z) else 0 := by
  unfold Ideal.hostScatterAdd
  congr 1
  rw [← Finset.sum_filter]
  refine (Finset.sum_bij (fun o _ => ix2 o z) (fun o ho => ?_) (fun a _ b _ h => ?_) (fun j hj => ?_) (fun _ _ => rfl)).symm
  · exact Finset.mem_filter.2 ⟨Finset.mem_univ _, (row_lands wf idx o z x z).2 ⟨(Finset.mem_filter.1 ho).2, rfl⟩⟩
  · exact congrFun h 0
  · have hj' := (Finset.mem_filter.1 hj).2
    have e : j = ix2 (j 0) (j 1) := funext fun a => by match a with | ⟨0, _⟩ => rfl | ⟨1, _⟩ => rfl
    rw [e] at hj'
    have := (row_lands wf idx (j 0) (j 1) x z).1 hj'
    exact ⟨j 0, Finset.mem_filter.2 ⟨Finset.mem_univ _, this.1⟩, by rw [← this.2]; exact e.symm⟩

end Cert.Scat

end
-- ==== Proof.Pre.lean ====
/-
  The precondition `tables_of_occurrences` read at an element: the occurrences are in range, a word of the first table
  holds four counts of occurrences, and an entry of the second table is the number of occurrences in an eighth of the bags.
-/
module

public import proofs.«01_k».proof.Proof.Gen.Pre_tables_of_occurrences
public import proofs.«01_k».proof.Proof.Scat
public import proofs.«01_k».proof.Proof.Occ
public import Idealize.ShloMosaic.Lib.Pointwise
public import Idealize.ShloMosaic.Lib.Affine
public import Idealize.ShloMosaic.Lib.KernelVsHost

@[expose] public section

noncomputable section

namespace Cert.Pre

open Idealize.ShloMosaic Idealize.ShloMosaic.Routing
open Cert.Pre_tables_of_occurrences

variable (a0 : IVec S3538944 32) (a1 : IVec S147456 32) (a2 : IVec S80x18432 32) (a3 a4 a5 : FVec Ideal S18432 .f32)
  (a6 : FVec Ideal S3x256x320 .bf16) (a7 a8 : IVec S73728 32)

/-- The bag and the row of an occurrence. -/
abbrev bag (a7 : IVec S73728 32) : Fin 73728 → BitVec 32 := fun o => a7 (ix1 o)

theorem and1 (x y : BitVec 1) : x &&& y = 1#1 ↔ x = 1#1 ∧ y = 1#1 := by revert x y; decide

theorem small (w : BitVec 32) (n : ℕ) (hn : n < 2 ^ 31) (h0 : IntOp.cmpi .sge w 0#32 = 1#1) (h1 : IntOp.cmpi .slt w (BitVec.ofNat 32 n) = 1#1) :
    w.toNat < n := by
  rw [IntOp.cmpi_sge] at h0
  rw [IntOp.cmpi_slt] at h1
  have e : (BitVec.ofNat 32 n).toInt = (n : ℤ) := by
    rw [BitVec.toInt_eq_toNat_cond, BitVec.toNat_ofNat, Nat.mod_eq_of_lt (by omega)]
    rw [if_pos (by omega)]
  rw [e] at h1
  have h0' : (0 : ℤ) ≤ w.toInt := by simpa using h0
  rw [BitVec.toInt_eq_toNat_cond] at h0' h1
  split_ifs at h0' h1 <;> omega

theorem range (h : (fn (F := Ideal) a0 a1 a2 a3 a4 a5 a6 a7 a8).1 = fun _ => 1#1) (o : Fin 73728) :
    (a7 (ix1 o)).toNat < 768 ∧ (a8 (ix1 o)).toNat < 18432 := by
  have h' := congrFun h (ix1 o)
  simp only [fn, fn_part1, fn_part2] at h'
  change ((IntOp.cmpi .sge (a7 (ix1 o)) 0#32 &&& IntOp.cmpi .slt (a7 (ix1 o)) 768#32) &&& IntOp.cmpi .sge (a8 (ix1 o)) 0#32)
    &&& IntOp.cmpi .slt (a8 (ix1 o)) 18432#32 = 1#1 at h'
  rw [and1, and1, and1] at h'
  exact ⟨small _ 768 (by norm_num) h'.1.1.1 h'.1.1.2, small _ 18432 (by norm_num) h'.1.2 h'.2⟩

/-- The table of all counts, as the precondition makes it. -/
def idxs (a7 a8 : IVec S73728 32) : IVec S73728x1 32 := fun j =>
  let w := IntOp.addi (IntOp.muli (a7 (ix1 (j 0))) 18432#32) (a8 (ix1 (j 0)))
  Scalar.select (IntOp.cmpi .slt w 0#32) (IntOp.addi w 14155776#32) w

def table (a7 a8 : IVec S73728 32) : IVec S14155776 32 :=
  Host.scatter scatter_S14155776_S73728x1_S73728_n_0_0_1 IntOp.addi (fun _ => 0#32) (idxs a7 a8) (fun _ => 1#32)

theorem toInt_small (w : BitVec 32) (h : w.toNat < 2 ^ 31) : w.toInt = (w.toNat : ℤ) := by
  rw [BitVec.toInt_eq_toNat_cond, if_pos (by omega)]

theorem slt_zero (w : BitVec 32) (h : w.toNat < 2 ^ 31) : ¬ IntOp.cmpi .slt w 0#32 = 1#1 := by
  rw [IntOp.cmpi_slt, toInt_small w h]
  simp

theorem idxs_toInt (hr : ∀ o : Fin 73728, (a7 (ix1 o)).toNat < 768 ∧ (a8 (ix1 o)).toNat < 18432) (o : Fin 73728) :
    (idxs a7 a8 (ix2 o (0 : Fin 1))).toInt = (((a7 (ix1 o)).toNat * 18432 + (a8 (ix1 o)).toNat : ℕ) : ℤ) := by
  obtain ⟨h7, h8⟩ := hr o
  have e : (IntOp.addi (IntOp.muli (a7 (ix1 o)) 18432#32) (a8 (ix1 o))).toNat = (a7 (ix1 o)).toNat * 18432 + (a8 (ix1 o)).toNat := by
    show ((a7 (ix1 o)) * 18432#32 + a8 (ix1 o)).toNat = _
    rw [BitVec.toNat_add, BitVec.toNat_mul, show (18432#32 : BitVec 32).toNat = 18432 from rfl, Nat.mod_eq_of_lt (by omega : (a7 (ix1 o)).toNat * 18432 < 2 ^ 32),
      Nat.mod_eq_of_lt (by omega)]
  change (Scalar.select (IntOp.cmpi .slt (IntOp.addi (IntOp.muli (a7 (ix1 o)) 18432#32) (a8 (ix1 o))) 0#32) (IntOp.addi (IntOp.addi (IntOp.muli (a7 (ix1 o)) 18432#32) (a8 (ix1 o))) 14155776#32) (IntOp.addi (IntOp.muli (a7 (ix1 o)) 18432#32) (a8 (ix1 o))) : BitVec 32).toInt = _
  have hw := slt_zero (IntOp.addi (IntOp.muli (a7 (ix1 o)) 18432#32) (a8 (ix1 o))) (by rw [e]; omega)
  rw [show (Scalar.select (IntOp.cmpi .slt (IntOp.addi (IntOp.muli (a7 (ix1 o)) 18432#32) (a8 (ix1 o))) 0#32) (IntOp.addi (IntOp.addi (IntOp.muli (a7 (ix1 o)) 18432#32) (a8 (ix1 o))) 14155776#32) (IntOp.addi (IntOp.muli (a7 (ix1 o)) 18432#32) (a8 (ix1 o))) : BitVec 32) = IntOp.addi (IntOp.muli (a7 (ix1 o)) 18432#32) (a8 (ix1 o)) from if_neg hw]
  rw [toInt_small _ (by rw [e]; omega), e]

theorem table_apply (hr : ∀ o : Fin 73728, (a7 (ix1 o)).toNat < 768 ∧ (a8 (ix1 o)).toNat < 18432) (b u : ℕ) (hu : u < 18432)
    (x : Fin 14155776) (hx : x.val = b * 18432 + u) :
    table a7 a8 (ix1 x) = BitVec.ofNat 32 (Occ.cnt (fun o : Fin 73728 => a7 (ix1 o)) (fun o => a8 (ix1 o)) b u) := by
  have hd : scatter_S14155776_S73728x1_S73728_n_0_0_1 = Scat.vecDims (M := 14155776) (N := 73728) Facts.scatter_S14155776_S73728x1_S73728_n_0_0_1_wf := rfl
  have hi : (ix1 x : S14155776.Idx) = ValueIdx.ix1 x := by funext d; match d with | ⟨0, _⟩ => rfl
  have hj : ∀ o : Fin 73728, (ix2 o (0 : Fin 1) : S73728x1.Idx) = ValueIdx.ix2 o (0 : Fin 1) := fun o => by funext d; match d with | ⟨0, _⟩ => rfl | ⟨1, _⟩ => rfl
  have hv := Scat.vec_count (M := 14155776) (N := 73728) Facts.scatter_S14155776_S73728x1_S73728_n_0_0_1_wf (fun _ => 0#32) (fun _ => rfl) (idxs a7 a8) (fun _ => 1#32) (fun _ => rfl) x
  rw [table, hd, hi, hv]
  rw [Occ.cnt]
  refine congrArg (fun s : Finset (Fin 73728) => BitVec.ofNat 32 s.card) (Finset.filter_congr fun o _ => ?_)
  rw [← hj, idxs_toInt a7 a8 hr o, hx]
  obtain ⟨h7, h8⟩ := hr o
  constructor
  · intro h; constructor <;> omega
  · rintro ⟨rfl, rfl⟩; rfl

/-- A piece of the table at one offset of its fourth axis, at an index. -/
theorem piece (T : IVec S14155776 32) (p : ℕ) (hp : p < 4) (hs : S8x3x8x4x4x36x128.Slices ![0, 0, 0, p, 0, 0, 0] S8x3x8x1x4x36x128)
    (g : Fin 8) (q : Fin 4) (k : Fin 3) (t : Fin 36) (s : Fin 8) (l : Fin 128) (x : Fin 14155776)
    (hx : x.val = (96 * g.val + 32 * k.val + 4 * s.val + p) * 18432 + (4608 * q.val + 128 * t.val + l.val)) :
    shapeCast S8x3x8x4x36x128 (extractStridedSlice S8x3x8x1x4x36x128 ![0, 0, 0, p, 0, 0, 0] (shapeCast S8x3x8x4x4x36x128 T Facts.shapeCasts_S14155776_S8x3x8x4x4x36x128) hs)
      Facts.shapeCasts_S8x3x8x1x4x36x128_S8x3x8x4x36x128 (ix6 g k s q t l) = T (ix1 x) := by
  have hl := l.isLt; have hq := q.isLt; have ht := t.isLt
  rw [shapeCast_apply _ _ (ix6 g k s q t l) (ix7 g k s (0 : Fin 1) q t l) (by
    rw [rowMajor_val7 _ 442368 147456 18432 18432 4608 128 rfl rfl rfl rfl rfl rfl, rowMajor_val6 _ 442368 147456 18432 4608 128 rfl rfl rfl rfl rfl]
    simp only [ix6, ix7]
    simp)]
  rw [show extractStridedSlice S8x3x8x1x4x36x128 ![0, 0, 0, p, 0, 0, 0] (shapeCast S8x3x8x4x4x36x128 T Facts.shapeCasts_S14155776_S8x3x8x4x4x36x128) hs (ix7 g k s (0 : Fin 1) q t l)
    = shapeCast S8x3x8x4x4x36x128 T Facts.shapeCasts_S14155776_S8x3x8x4x4x36x128 (ix7 g k s ⟨p, hp⟩ q t l) from by
    unfold extractStridedSlice
    refine congrArg _ (funext fun d => Fin.ext ?_)
    match d with
    | ⟨0, _⟩ => exact Nat.zero_add _
    | ⟨1, _⟩ => exact Nat.zero_add _
    | ⟨2, _⟩ => exact Nat.zero_add _
    | ⟨3, _⟩ => exact Nat.add_zero _
    | ⟨4, _⟩ => exact Nat.zero_add _
    | ⟨5, _⟩ => exact Nat.zero_add _
    | ⟨6, _⟩ => exact Nat.zero_add _]
  rw [shapeCast_apply _ _ _ (ix1 x) (by
    rw [rowMajor_val7 _ 1769472 589824 73728 18432 4608 128 rfl rfl rfl rfl rfl rfl, Shape.rowMajor_val_one]
    simp only [ix1_0, ix7_0, ix7_1, ix7_2, ix7_3, ix7_4, ix7_5, ix7_6]
    rw [hx]
    ring)]

theorem tab1 : (broadcastInDim S14155776 ![] Facts.bcast_S_S14155776 (constantI S_ 32 0#32) : IVec S14155776 32) = fun _ => 0#32 := rfl
theorem tab2 : (broadcastInDim S73728 ![] Facts.bcast_S_S73728 (constantI S_ 32 1#32) : IVec S73728 32) = fun _ => 1#32 := rfl
theorem tab3 : (broadcastInDim S73728x1 ![0] Facts.bcast_S73728_S73728x1_0 (select
      (cmpi .slt (addi (muli a7 (broadcastInDim S73728 ![] Facts.bcast_S_S73728 (constantI S_ 32 18432#32))) a8) (broadcastInDim S73728 ![] Facts.bcast_S_S73728 (constantI S_ 32 0#32)))
      (addi (addi (muli a7 (broadcastInDim S73728 ![] Facts.bcast_S_S73728 (constantI S_ 32 18432#32))) a8) (broadcastInDim S73728 ![] Facts.bcast_S_S73728 (constantI S_ 32 14155776#32)))
      (addi (muli a7 (broadcastInDim S73728 ![] Facts.bcast_S_S73728 (constantI S_ 32 18432#32))) a8)) : IVec S73728x1 32) = idxs a7 a8 := by
    funext j; obtain ⟨o, z, rfl⟩ : ∃ o z, j = ix2 o z := ⟨j 0, j 1, by funext d; match d with | ⟨0, _⟩ => rfl | ⟨1, _⟩ => rfl⟩
    pointwise [idxs]

theorem words (hr : ∀ o : Fin 73728, (a7 (ix1 o)).toNat < 768 ∧ (a8 (ix1 o)).toNat < 18432)
    (h : (fn (F := Ideal) a0 a1 a2 a3 a4 a5 a6 a7 a8).2.1 = fun _ => 1#1)
    (g : Fin 8) (q : Fin 4) (k : Fin 3) (t : Fin 36) (s : Fin 8) (l : Fin 128) (x : Fin 3538944)
    (hx : x.val = ((((g.val * 4 + q.val) * 3 + k.val) * 36 + t.val) * 8 + s.val) * 128 + l.val) :
    a0 (ix1 x) = Occ.word fun p => Occ.cnt (fun o : Fin 73728 => a7 (ix1 o)) (fun o => a8 (ix1 o))
          (96 * g.val + 32 * k.val + 4 * s.val + p.val) (4608 * q.val + 128 * t.val + l.val) := by
  have h' := congrFun h (ix6 g q k t s l)
  simp only [fn, fn_part1, fn_part2] at h'
  have hT := table_apply a7 a8 hr
  rw [tab1, tab2, tab3] at h'
  change IntOp.cmpi .eq _ _ = 1#1 at h'
  rw [IntOp.cmpi_eq] at h'
  unfold table at hT
  generalize Host.scatter _ _ _ _ _ = T at h' hT
  have hb := g.isLt; have hk := k.isLt; have hss := s.isLt; have hl := l.isLt; have hq := q.isLt; have ht := t.isLt
  have hp : ∀ p : Fin 4, (96 * g.val + 32 * k.val + 4 * s.val + p.val) * 18432 + (4608 * q.val + 128 * t.val + l.val) < 14155776 := fun p => by have := p.isLt; omega
  have P := fun (p : Fin 4) hs => (piece T p.val p.isLt hs g q k t s l ⟨_, hp p⟩ rfl).trans (hT _ _ (by omega) ⟨_, hp p⟩ rfl)
  rw [shapeCast_apply _ _ _ (ix1 x) (by
    rw [rowMajor_val6 _ 442368 110592 36864 1024 128 rfl rfl rfl rfl rfl, Shape.rowMajor_val_one]
    simp only [ix1, ix6]
    change x.val = g.val * 442368 + q.val * 110592 + k.val * 36864 + t.val * 1024 + s.val * 128 + l.val
    omega)] at h'
  rw [h', Occ.word]
  have htr : ∀ v : IVec S8x3x8x4x36x128 32, transpose S8x4x3x36x8x128 [0, 3, 1, 4, 2, 5] v Facts.transposes_S8x3x8x4x36x128_S8x4x3x36x8x128_0_3_1_4_2_5 (ix6 g q k t s l) = v (ix6 g k s q t l) := fun v => by
    pointwise
  rw [htr]
  rw [← P 0 (Facts.slices_S8x3x8x4x4x36x128_S8x3x8x1x4x36x128_0_0_0_0_0_0_0), ← P 1 Facts.slices_S8x3x8x4x4x36x128_S8x3x8x1x4x36x128_0_0_0_1_0_0_0,
    ← P 2 Facts.slices_S8x3x8x4x4x36x128_S8x3x8x1x4x36x128_0_0_0_2_0_0_0, ← P 3 Facts.slices_S8x3x8x4x4x36x128_S8x3x8x1x4x36x128_0_0_0_3_0_0_0]
  rfl

theorem counts (hr : ∀ o : Fin 73728, (a7 (ix1 o)).toNat < 768 ∧ (a8 (ix1 o)).toNat < 18432)
    (h : (fn (F := Ideal) a0 a1 a2 a3 a4 a5 a6 a7 a8).2.2 = fun _ => 1#1)
    (g : Fin 8) (u : Fin 18432) (x : Fin 147456) (hx : x.val = g.val * 18432 + u.val) :
    a1 (ix1 x) = BitVec.ofNat 32 (∑ i : Fin 96, Occ.cnt (fun o : Fin 73728 => a7 (ix1 o)) (fun o => a8 (ix1 o)) (96 * g.val + i.val) u.val) := by
  have h' := congrFun h (ix2 g u)
  simp only [fn, fn_part1, fn_part2] at h'
  have hT := table_apply a7 a8 hr
  rw [tab1, tab2, tab3] at h'
  change IntOp.cmpi .eq _ _ = 1#1 at h'
  rw [IntOp.cmpi_eq] at h'
  unfold table at hT
  generalize Host.scatter _ _ _ _ _ = T at h' hT
  rw [shapeCast_apply _ _ _ (ix1 x) (by
    rw [Shape.rowMajor_val_two, Shape.rowMajor_val_one]
    change x.val = g.val * 18432 + u.val
    omega)] at h'
  rw [h']
  have hred : Host.reduce IntOp.addi (shapeCast S8x96x18432 T Facts.shapeCasts_S14155776_S8x96x18432) (constantI S_ 32 0#32) Facts.reducesTo_S8x96x18432_S8x18432_d1 Facts.h_S_ (ix2 g u)
      = ∑ i : Fin 96, shapeCast S8x96x18432 T Facts.shapeCasts_S14155776_S8x96x18432 (ix3 g i u) := by
    have hR : S8x96x18432.Reduces [1] S8x18432 := by decide
    haveI : Std.Commutative (IntOp.addi : BitVec 32 → BitVec 32 → BitVec 32) := ⟨BitVec.add_comm⟩
    haveI : Std.Associative (IntOp.addi : BitVec 32 → BitVec 32 → BitVec 32) := ⟨BitVec.add_assoc⟩
    refine (Host.reduce_eq_fold_single (IntOp.addi : BitVec 32 → BitVec 32 → BitVec 32) _ _ _ hR _ _).trans ?_
    have e : ∀ i : Fin 96, hR.lift (ix2 g u) i = ix3 g i u := fun i => by
      funext d
      match d with
      | ⟨0, _⟩ => exact Fin.ext (hR.lift_val _ _ _)
      | ⟨1, _⟩ => exact Fin.ext (hR.lift_val _ _ _)
      | ⟨2, _⟩ => exact Fin.ext (hR.lift_val _ _ _)
    rw [Finset.sum_eq_fold]
    have e' : shapeCast S8x96x18432 T Facts.shapeCasts_S14155776_S8x96x18432 ∘ hR.lift (ix2 g u) = fun i : Fin 96 => shapeCast S8x96x18432 T Facts.shapeCasts_S14155776_S8x96x18432 (ix3 g i u) :=
      funext fun i => congrArg (shapeCast S8x96x18432 T Facts.shapeCasts_S14155776_S8x96x18432) (e i)
    rw [e']
    rfl
  refine hred.trans ?_
  have hb := g.isLt; have hu := u.isLt
  have hp : ∀ i : Fin 96, (96 * g.val + i.val) * 18432 + u.val < 14155776 := fun p => by have := p.isLt; omega
  have key : ∀ i : Fin 96, shapeCast S8x96x18432 T Facts.shapeCasts_S14155776_S8x96x18432 (ix3 g i u) = BitVec.ofNat 32 (Occ.cnt (fun o : Fin 73728 => a7 (ix1 o)) (fun o => a8 (ix1 o)) (96 * g.val + i.val) u.val) := fun i => by
    rw [shapeCast_apply _ _ _ (ix1 ⟨_, hp i⟩) (by
      rw [rowMajor_val3 _ 1769472 18432 rfl rfl, Shape.rowMajor_val_one]
      simp only [ix1_0, ix3_0, ix3_1, ix3_2]
      ring)]
    exact hT _ _ hu _ rfl
  rw [Finset.sum_congr rfl fun i _ => key i]
  have hs : ∀ s : Finset (Fin 96), ∀ f : Fin 96 → ℕ, ∑ i ∈ s, BitVec.ofNat 32 (f i) = BitVec.ofNat 32 (∑ i ∈ s, f i) := fun s f => by
    induction s using Finset.induction_on with
    | empty => rfl
    | insert a s ha ih => rw [Finset.sum_insert ha, Finset.sum_insert ha, ih, BitVec.ofNat_add]
  exact hs _ _

end Cert.Pre
-- ==== Proof.RefGrad.lean ====
/-
  The reference's gradient of a row at a column: the sum over the occurrences of the row of the bags' gradients.
-/
module

public import proofs.«01_k».proof.Proof.Gen.ReferenceIdeal.Read
public import proofs.«01_k».proof.Proof.Scat
public import proofs.«01_k».proof.Proof.Occ
public import Idealize.ShloMosaic.Lib.Pointwise
public import Idealize.ShloMosaic.Lib.Affine

@[expose] public section

noncomputable section

namespace Cert.RefGrad

open Idealize.ShloMosaic Idealize.ShloMosaic.Routing
open Cert.ReferenceIdeal Cert.ReferenceIdeal.Read

/-- Column `j` of the bags' gradients, by bag. -/
def col (x6 : FVec Ideal S3x256x320 .bf16) (j : Fin 320) (b : ℕ) : EReal :=
  x6 (ix3 (⟨b / 256 % 3, Nat.mod_lt _ (by decide)⟩ : Fin 3) (⟨b % 256, Nat.mod_lt _ (by decide)⟩ : Fin 256) j)

theorem toInt_small (w : BitVec 32) (h : w.toNat < 2 ^ 31) : w.toInt = (w.toNat : ℤ) := by
  rw [BitVec.toInt_eq_toNat_cond, if_pos (by omega)]

theorem v0_apply (x6 : FVec Ideal S3x256x320 .bf16) (b : Fin 768) (j : Fin 320) :
    val_main_v0 (F := Ideal) x6 (ix2 b j) = col x6 j b.val := by
  unfold val_main_v0
  have hb := b.isLt
  refine shapeCast_apply _ _ _ _ ?_
  rw [rowMajor_val3 _ 81920 320 rfl rfl, Shape.rowMajor_val_two]
  simp only [ix3_0, ix3_1, ix3_2, ix2_0, ix2_1]
  change b.val / 256 % 3 * 81920 + b.val % 256 * 320 + j.val = b.val * 320 + j.val
  omega

theorem v6_apply (x7 : IVec S73728 32) (h : ∀ o : Fin 73728, (x7 (ix1 o)).toNat < 768) (o : Fin 73728) (z : Fin 1) :
    val_main_v6 (F := Ideal) x7 (ix2 o z) = x7 (ix1 o) := by
  have e : val_main_v6 (F := Ideal) x7 (ix2 o z) = Scalar.select (IntOp.cmpi .slt (x7 (ix1 o)) 0#32) (IntOp.addi (x7 (ix1 o)) 768#32) (x7 (ix1 o)) := by
    pointwise [val_main_v6, val_main_v5, val_main_v4, val_main_v3, val_main_v2, val_main_v1, val_main_c, val_main_c_0]
  rw [e]
  have hn : ¬ IntOp.cmpi .slt (x7 (ix1 o)) 0#32 = 1#1 := by
    rw [IntOp.cmpi_slt, toInt_small _ (by have := h o; omega)]
    simp
  exact if_neg hn

theorem v10_apply (x8 : IVec S73728 32) (o : Fin 73728) (z : Fin 1) :
    val_main_v10 (F := Ideal) x8 (ix2 o z) = x8 (ix1 o) := by
  pointwise [val_main_v10]

theorem v7_apply (x6 : FVec Ideal S3x256x320 .bf16) (x7 : IVec S73728 32) (h : ∀ o : Fin 73728, (x7 (ix1 o)).toNat < 768) (o : Fin 73728) (j : Fin 320) :
    val_main_v7 (F := Ideal) x6 x7 (ix2 o j) = col x6 j (x7 (ix1 o)).toNat := by
  have hi : (ix2 o j : S73728x320.Idx) = ValueIdx.ix2 o j := by funext d; match d with | ⟨0, _⟩ => rfl | ⟨1, _⟩ => rfl
  have hj : (ix2 o (0 : Fin 1) : S73728x1.Idx) = ValueIdx.ix2 o (0 : Fin 1) := by funext d; match d with | ⟨0, _⟩ => rfl | ⟨1, _⟩ => rfl
  have hk : (ix2 (⟨(x7 (ix1 o)).toNat, h o⟩ : Fin 768) j : S768x320.Idx) = ValueIdx.ix2 (⟨(x7 (ix1 o)).toNat, h o⟩ : Fin 768) j := by
    funext d; match d with | ⟨0, _⟩ => rfl | ⟨1, _⟩ => rfl
  rw [← v0_apply x6 ⟨(x7 (ix1 o)).toNat, h o⟩ j, hi, hk]
  unfold val_main_v7
  refine gather_row (nb := 768) (B := 320) (n := 73728) _ rfl rfl rfl rfl rfl _ _ o j ⟨(x7 (ix1 o)).toNat, h o⟩ ?_ (by norm_num)
  rw [← hj, v6_apply x7 h]
  exact (BitVec.ofNat_toNat 32 (x7 (ix1 o))).trans (BitVec.setWidth_eq _) |>.symm

theorem v11_apply (x6 : FVec Ideal S3x256x320 .bf16) (x7 x8 : IVec S73728 32) (h7 : ∀ o : Fin 73728, (x7 (ix1 o)).toNat < 768)
    (h8 : ∀ o : Fin 73728, (x8 (ix1 o)).toNat < 18432) (u : Fin 18432) (j : Fin 320) :
    val_main_v11 (F := Ideal) x6 x7 x8 (ix2 u j) = Occ.gsum (fun o : Fin 73728 => x7 (ix1 o)) (fun o => x8 (ix1 o)) (col x6 j) u.val := by
  have hi : (ix2 u j : S18432x320.Idx) = ValueIdx.ix2 u j := by funext d; match d with | ⟨0, _⟩ => rfl | ⟨1, _⟩ => rfl
  have hj : ∀ o : Fin 73728, (ix2 o (0 : Fin 1) : S73728x1.Idx) = ValueIdx.ix2 o (0 : Fin 1) := fun o => by funext d; match d with | ⟨0, _⟩ => rfl | ⟨1, _⟩ => rfl
  have hk : ∀ o : Fin 73728, (ix2 o j : S73728x320.Idx) = ValueIdx.ix2 o j := fun o => by funext d; match d with | ⟨0, _⟩ => rfl | ⟨1, _⟩ => rfl
  have hd : scatter_S18432x320_S73728x1_S73728x320_1_0_0_1 = Scat.rowDims (M := 18432) (N := 73728) (B := 320) (scatter_S18432x320_S73728x1_S73728x320_1_0_0_1).wf := rfl
  have hv := Scat.row_sum (M := 18432) (N := 73728) (B := 320) (scatter_S18432x320_S73728x1_S73728x320_1_0_0_1).wf (val_main_v9 (F := Ideal)) (val_main_v10 (F := Ideal) x8) (val_main_v8 (F := Ideal) x6 x7) u j
  rw [← hi] at hv
  unfold val_main_v11
  refine (show _ = Ideal.hostScatterAdd (Scat.rowDims (M := 18432) (N := 73728) (B := 320) (scatter_S18432x320_S73728x1_S73728x320_1_0_0_1).wf) (val_main_v9 (F := Ideal)) (val_main_v10 (F := Ideal) x8) (val_main_v8 (F := Ideal) x6 x7) (ix2 u j) from rfl).trans ?_
  rw [hv]
  have z : val_main_v9 (F := Ideal) (ix2 u j) = 0 := by
    pointwise [val_main_v9, val_main_cst]
  rw [z, zero_add, Occ.gsum]
  refine Finset.sum_congr rfl fun o _ => ?_
  rw [← hj, ← hk, v10_apply, toInt_small _ (by have := h8 o; omega)]
  have e8 : val_main_v8 (F := Ideal) x6 x7 (ix2 o j) = col x6 j (x7 (ix1 o)).toNat := (v7_apply x6 x7 h7 o j)
  rw [e8]
  simp only [Nat.cast_inj]

end Cert.RefGrad
-- ==== Proof.GradPt.lean ====
/-
  The gradient of a point's columns, from the arguments: entry (r, l) of point t is the sum over the occurrences of row 512 t + l.
-/
module

public import proofs.«01_k».proof.Proof.Blocks
public import proofs.«01_k».proof.Proof.Pre
public import proofs.«01_k».proof.Proof.RefGrad

@[expose] public section

set_option maxRecDepth 16384

noncomputable section

namespace Cert.KernelIdeal.Hand

open Cert.KernelIdeal Cert.KernelIdeal.Gen Idealize.ShloMosaic

variable (m : (ℓ : Loc nD τ sig) → Buf (Elt Ideal) ℓ)

/-- The occurrences of core `c`. -/
abbrev bagOf (c : Dev nD) (o : Fin 73728) : BitVec 32 := A7 m c (ix1 o)
abbrev uniqOf (c : Dev nD) (o : Fin 73728) : BitVec 32 := A8 m c (ix1 o)

/-- What the precondition says of core `c`'s arguments. -/
def PreAt (c : Dev nD) : Prop :=
  (Cert.Pre_tables_of_occurrences.fn (F := Ideal) (A0 m c) (A1 m c) (A2 m c) (A3 m c) (A4 m c) (A5 m c) (A6 m c) (A7 m c) (A8 m c)).1 = (fun _ => 1#1)
  ∧ (Cert.Pre_tables_of_occurrences.fn (F := Ideal) (A0 m c) (A1 m c) (A2 m c) (A3 m c) (A4 m c) (A5 m c) (A6 m c) (A7 m c) (A8 m c)).2.1 = (fun _ => 1#1)
  ∧ (Cert.Pre_tables_of_occurrences.fn (F := Ideal) (A0 m c) (A1 m c) (A2 m c) (A3 m c) (A4 m c) (A5 m c) (A6 m c) (A7 m c) (A8 m c)).2.2 = (fun _ => 1#1)

theorem PreAt.range {c : Dev nD} (h : PreAt m c) (o : Fin 73728) : (bagOf m c o).toNat < 768 ∧ (uniqOf m c o).toNat < 18432 :=
  Cert.Pre.range _ _ _ _ _ _ _ _ _ h.1 o

theorem gPt_apply (c : Dev nD) (h : PreAt m c) (t : Fin cfg0.N) (r : Fin 320) (l : Fin 512) :
    gPt m c t (ix2 r l) = Occ.gsum (bagOf m c) (uniqOf m c) (RefGrad.col (A6 m c) r) (512 * (grid0.coords t 0).val + l.val) := by
  have ht : (grid0.coords t 0).val < 36 := (grid0.coords t 0).isLt
  unfold gPt
  refine gV_apply _ ht _ _ _ _ _ _ _ (fun o => (h.range m o).1) (fun t o x hx => I8_apply m c t o x hx) (fun t o x hx => I9_apply m c t o x hx)
    ?_ ?_ ?_ r _ ?_ l
  · intro ρ l
    have hρ := ρ.isLt
    have hl := l.isLt
    rw [hist_apply]
    obtain ⟨x, hx⟩ : ∃ x : Fin 3538944, x.val = ((((ρ.val / 24 * 4 + (grid0.coords t 0).val / 9) * 3 + ρ.val / 8 % 3) * 36 + (4 * ((grid0.coords t 0).val % 9) + l.val / 128)) * 8 + ρ.val % 8) * 128 + l.val % 128 :=
      ⟨⟨_, by omega⟩, rfl⟩
    have e1 := I0_apply m c t (⟨ρ.val / 24, by omega⟩ : Fin 8) (⟨ρ.val / 8 % 3, by omega⟩ : Fin 3) (⟨l.val / 128, by omega⟩ : Fin 4) (⟨ρ.val % 8, by omega⟩ : Fin 8)
      (⟨l.val % 128, by omega⟩ : Fin 128) x hx
    have e2 := Cert.Pre.words _ _ _ _ _ _ _ _ _ (fun o => h.range m o) h.2.1 (⟨ρ.val / 24, by omega⟩ : Fin 8) (⟨(grid0.coords t 0).val / 9, by omega⟩ : Fin 4)
      (⟨ρ.val / 8 % 3, by omega⟩ : Fin 3) (⟨4 * ((grid0.coords t 0).val % 9) + l.val / 128, by omega⟩ : Fin 36) (⟨ρ.val % 8, by omega⟩ : Fin 8)
      (⟨l.val % 128, by omega⟩ : Fin 128) x hx
    refine Eq.trans e1 (e2.trans ?_)
    refine congrArg Occ.word (funext fun p => congrArg₂ (Occ.cnt _ _) ?_ ?_)
    · change 96 * (ρ.val / 24) + 32 * (ρ.val / 8 % 3) + 4 * (ρ.val % 8) + p.val = 4 * ρ.val + p.val
      omega
    · change 4608 * ((grid0.coords t 0).val / 9) + 128 * (4 * ((grid0.coords t 0).val % 9) + l.val / 128) + l.val % 128 = _
      omega
  · intro g l
    have hg := g.isLt
    have hl := l.isLt
    obtain ⟨x, hx⟩ : ∃ x : Fin 147456, x.val = g.val * 18432 + (512 * (grid0.coords t 0).val + l.val) := ⟨⟨_, by omega⟩, rfl⟩
    refine (I1_apply m c t g l x hx).trans ?_
    exact Cert.Pre.counts _ _ _ _ _ _ _ _ _ (fun o => h.range m o) h.2.2 g (⟨512 * (grid0.coords t 0).val + l.val, by omega⟩ : Fin 18432) x hx
  · intro p i
    exact lhsV_one _ _ _ _ _ (by decide)
  · intro p i
    have hp := p.isLt
    have hi := i.isLt
    unfold lhsF
    refine (lhsV_grad _ _ p _ i r.isLt).trans ?_
    refine (I6_apply m c _ p r i).trans ?_
    unfold RefGrad.col
    refine congrArg (A6 m c) (funext fun a => Fin.ext ?_)
    match a with
    | ⟨0, _⟩ => change p.val = (256 * p.val + i.val) / 256 % 3; omega
    | ⟨1, _⟩ => change i.val = (256 * p.val + i.val) % 256; omega
    | ⟨2, _⟩ => rfl

end Cert.KernelIdeal.Hand
-- ==== Proof.Cols.lean ====
/-
  The tail of the body at an entry: the momentum, weights, bias, scale and codes of one column of a block, as functions of the
  column's gradient, codes, scale, bias and momentum.
-/
module

public import proofs.«01_k».proof.Proof.GradPt

@[expose] public section

set_option maxRecDepth 16384

noncomputable section

namespace Cert.Row

open Idealize.ShloMosaic

/-! ## One row of the table -/

/-- The new momentum of a row of gradient `g`. -/
def sMom (g : Fin 320 → EReal) (mo : EReal) : EReal := mo + Ideal.div (∑ x, g x * g x) (Ideal.ofBits FTy.f32 1134559232#32)
/-- The new weights of a row of gradient `g` and codes `q`. -/
def sW (g q : Fin 320 → EReal) (s b mo : EReal) (r : Fin 320) : EReal :=
  q r * s + b - Ideal.div (Ideal.ofBits FTy.f32 1036831949#32 * g r) (Ideal.sqrt (sMom g mo) + Ideal.ofBits FTy.f32 841731191#32)
/-- The least and the greatest weight, the new scale and the new codes. -/
def sMin (w : Fin 320 → EReal) : EReal := Finset.fold min (Ideal.ofBits FTy.f32 2139095040#32) (fun x => w x) Finset.univ
def sMax (w : Fin 320 → EReal) : EReal := Finset.fold max (Ideal.ofBits FTy.f32 4286578688#32) (fun x => w x) Finset.univ
def sScale (w : Fin 320 → EReal) : EReal := if sMax w = sMin w then 1 else Ideal.div (sMax w - sMin w) (Ideal.ofBits FTy.f32 1132396544#32)
def sCode (w : Fin 320 → EReal) (r : Fin 320) : BitVec 8 :=
  BitVec.setWidth 8 (FloatOps.fptosi (F := Ideal) (φ := FTy.f32) 32
    (min (Ideal.ofBits FTy.f32 1132396544#32) (max 0 (Ideal.liftRound Ideal.roundHalfEven (Ideal.div (w r - sMin w) (sScale w))))))

end Cert.Row

namespace Cert.KernelIdeal.Hand

open Cert.Row
open Cert.KernelIdeal Cert.KernelIdeal.Gen Idealize.ShloMosaic

variable (G : Vec Ideal S320x128 .f32) (W : Vec Ideal S80x128 .i32) (s b mo : Vec Ideal S1x128 .f32) (r : Fin 320) (l : Fin 128)

theorem p63 : k0_pay63 G mo (ix2 (0 : Fin 1) l) = sMom (fun r => G (ix2 r l)) (mo (ix2 (0 : Fin 1) l)) := by
  pointwise [k0_pay63]
  rfl

/-- The code of entry (r, l) of a block of packed words. -/
def code (W : Vec Ideal S80x128 .i32) (r : Fin 320) (l : Fin 128) : EReal :=
  FloatOps.sitofp (F := Ideal) FTy.f32 (BitVec.setWidth 32 ((W (ix2 (⟨r.val / 4, by omega⟩ : Fin 80) l)).extractLsb' (8 * (r.val % 4)) 8))

theorem p64 : k0_pay64 G W s b mo (ix2 r l) = sW (fun r => G (ix2 r l)) (fun r => code W r l) (s (ix2 (0 : Fin 1) l)) (b (ix2 (0 : Fin 1) l)) (mo (ix2 (0 : Fin 1) l)) r := by
  have h := p63 G mo l
  unfold k0_pay64
  generalize k0_pay63 G mo = M at h ⊢
  pointwise
  rw [h, bitcast_byte W 320 rfl bitcasts_S80x128_w32_S320x128_w8 r l]
  rfl

theorem p65 (w : Fin 320 → EReal) (hw : ∀ r, k0_pay64 G W s b mo (ix2 r l) = w r) : k0_pay65 G W s b mo (ix2 (0 : Fin 1) l) = sMin w := by
  unfold k0_pay65
  generalize k0_pay64 G W s b mo = M at hw ⊢
  pointwise
  simp only [hw]
  rfl

theorem p66 (w : Fin 320 → EReal) (hw : ∀ r, k0_pay64 G W s b mo (ix2 r l) = w r) : k0_pay66 G W s b mo (ix2 (0 : Fin 1) l) = sScale w := by
  have h := p65 G W s b mo l w hw
  unfold k0_pay66
  generalize k0_pay65 G W s b mo = N at h ⊢
  generalize k0_pay64 G W s b mo = M at hw ⊢
  pointwise
  simp only [hw, h]
  rfl

theorem p67 (M : FVec Ideal S320x128 .f32) (s b : FVec Ideal S1x128 .f32) (w : Fin 320 → EReal) (hw : ∀ r, M (ix2 r l) = w r)
    (hb : b (ix2 (0 : Fin 1) l) = sMin w) (hs : s (ix2 (0 : Fin 1) l) = sScale w) : k0_pay67 M b s (ix2 r l) = sCode w r := by
  pointwise [k0_pay67]
  rw [hw, hb, hs]
  rfl

end Cert.KernelIdeal.Hand
-- ==== Proof.RefRow.lean ====
/-
  The reference's results at an entry: the same functions of a row's gradient, codes, scale, bias and momentum.
-/
module

public import proofs.«01_k».proof.Proof.Cols

@[expose] public section

set_option maxRecDepth 16384

noncomputable section

namespace Cert.RefGrad

open Cert.ReferenceIdeal Cert.ReferenceIdeal.Read Idealize.ShloMosaic Cert.Row

variable (x2 : IVec S80x18432 32) (x3 x4 x5 : FVec Ideal S18432 .f32) (x6 : FVec Ideal S3x256x320 .bf16) (x7 x8 : IVec S73728 32)

/-- The gradient, the codes and the new weights of row `u`. -/
def gRow (u : Fin 18432) (j : Fin 320) : EReal := val_main_v11 (F := Ideal) x6 x7 x8 (ix2 u j)
def qRow (u : Fin 18432) (j : Fin 320) : EReal := FloatOps.sitofp (F := Ideal) FTy.f32 (val_main_v34 (F := Ideal) x2 (ix2 u j))
def wRow (u : Fin 18432) : Fin 320 → EReal := sW (gRow x6 x7 x8 u) (qRow x2 u) (x3 (ix1 u)) (x4 (ix1 u)) (x5 (ix1 u))

theorem r46 (u : Fin 18432) : val_main_v46 (F := Ideal) x5 x6 x7 x8 (ix1 u) = sMom (gRow x6 x7 x8 u) (x5 (ix1 u)) := by
  unfold gRow
  unfold val_main_v46 val_main_v45 val_main_v43 val_main_v42
  generalize val_main_v11 (F := Ideal) x6 x7 x8 = G
  pointwise [val_main_v44, val_main_cst_9, val_main_cst_10]
  rfl

theorem r55 (u : Fin 18432) (j : Fin 320) : val_main_v55 (F := Ideal) x2 x3 x4 x5 x6 x7 x8 (ix2 u j) = wRow x2 x3 x4 x5 x6 x7 x8 u j := by
  have h := r46 x5 x6 x7 x8 u
  unfold wRow sW
  rw [← h]
  unfold gRow qRow
  unfold val_main_v55 val_main_v54 val_main_v53 val_main_v52 val_main_v51 val_main_v49 val_main_v48 val_main_v41 val_main_v38 val_main_v35
  generalize val_main_v46 (F := Ideal) x5 x6 x7 x8 = M
  generalize val_main_v11 (F := Ideal) x6 x7 x8 = G
  generalize val_main_v34 (F := Ideal) x2 = Q
  pointwise [val_main_v50, val_main_v47, val_main_v37, val_main_v36, val_main_v40, val_main_v39, val_main_cst_11, val_main_cst_12]

theorem r56 (u : Fin 18432) : val_main_v56 (F := Ideal) x2 x3 x4 x5 x6 x7 x8 (ix1 u) = sMin (wRow x2 x3 x4 x5 x6 x7 x8 u) := by
  have h := r55 x2 x3 x4 x5 x6 x7 x8 u
  unfold val_main_v56
  generalize val_main_v55 (F := Ideal) x2 x3 x4 x5 x6 x7 x8 = M at h ⊢
  pointwise [val_main_cst_13]
  simp only [h]
  rfl

theorem r57 (u : Fin 18432) : val_main_v57 (F := Ideal) x2 x3 x4 x5 x6 x7 x8 (ix1 u) = sMax (wRow x2 x3 x4 x5 x6 x7 x8 u) := by
  have h := r55 x2 x3 x4 x5 x6 x7 x8 u
  unfold val_main_v57
  generalize val_main_v55 (F := Ideal) x2 x3 x4 x5 x6 x7 x8 = M at h ⊢
  pointwise [val_main_cst_14]
  simp only [h]
  rfl

theorem c60 (u : Fin 18432) : val_main_v60 (F := Ideal) (ix1 u) = Ideal.ofBits FTy.f32 1132396544#32 := by
  pointwise [val_main_v60, val_main_cst_15]

theorem c0 (u : Fin 18432) : val_main_call0_v0 (F := Ideal) (ix1 u) = 1 := by
  rw [val_main_call0_v0_apply]
  pointwise [val_main_cst_16]

theorem c1 (u : Fin 18432) (j : Fin 320) : val_main_call2_v1 (F := Ideal) (ix2 u j) = 0 := by
  rw [val_main_call2_v1_apply, val_main_call2_v0_apply]
  change ((((0#32 : BitVec 32).toInt : ℤ) : ℝ) : EReal) = 0
  norm_num

theorem lit255 : Ideal.ofBits FTy.f32 1132396544#32 = (((255 : ℤ) : ℝ) : EReal) := by
  simp [Ideal.ofBits, Ideal.ieee, -EReal.coe_mul]; norm_num

theorem c4 (u : Fin 18432) (j : Fin 320) : val_main_call2_v4 (F := Ideal) (ix2 u j) = Ideal.ofBits FTy.f32 1132396544#32 := by
  rw [val_main_call2_v4_apply, val_main_call2_v3_apply, lit255]
  rfl

theorem sel (a n d : EReal) : Scalar.select (FloatOps.cmpf (F := Ideal) (φ := FTy.f32) .oeq a n) (1 : EReal) d = if a = n then 1 else d := by
  have e : ∀ p : Bool, (BitVec.ofBool p = 1) = (p = true) := by decide
  change (if BitVec.ofBool (decide (a = n)) = 1 then (1 : EReal) else d) = _
  simp only [e, decide_eq_true_eq]

theorem r62 (u : Fin 18432) : val_main_v62 (F := Ideal) x2 x3 x4 x5 x6 x7 x8 (ix1 u) = sScale (wRow x2 x3 x4 x5 x6 x7 x8 u) := by
  rw [val_main_v62_apply, val_main_v58_apply, val_main_v61_apply, val_main_v59_apply, c0, c60, r56, r57]
  exact sel _ _ _

theorem r64 (u : Fin 18432) (j : Fin 320) : val_main_v64 (F := Ideal) x2 x3 x4 x5 x6 x7 x8 (ix2 u j) = sMin (wRow x2 x3 x4 x5 x6 x7 x8 u) := by
  have h := r56 x2 x3 x4 x5 x6 x7 x8 u
  unfold val_main_v64 val_main_v63
  generalize val_main_v56 (F := Ideal) x2 x3 x4 x5 x6 x7 x8 = N at h ⊢
  pointwise
  exact h

theorem r67 (u : Fin 18432) (j : Fin 320) : val_main_v67 (F := Ideal) x2 x3 x4 x5 x6 x7 x8 (ix2 u j) = sScale (wRow x2 x3 x4 x5 x6 x7 x8 u) := by
  have h := r62 x2 x3 x4 x5 x6 x7 x8 u
  unfold val_main_v67 val_main_v66
  generalize val_main_v62 (F := Ideal) x2 x3 x4 x5 x6 x7 x8 = N at h ⊢
  pointwise
  exact h

theorem r72 (u : Fin 18432) (j : Fin 320) : val_main_v72 (F := Ideal) x2 x3 x4 x5 x6 x7 x8 (ix2 u j) = sCode (wRow x2 x3 x4 x5 x6 x7 x8 u) j := by
  rw [val_main_v72_apply, val_main_v71_apply, val_main_v70_apply, val_main_call2_v2_apply, val_main_v69_apply, val_main_v68_apply, val_main_v65_apply,
    c1, c4, r64, r67, r55]
  rfl

theorem r73 (u : Fin 18432) (j : Fin 320) : val_main_v73 (F := Ideal) x2 x3 x4 x5 x6 x7 x8 (ix2 j u) = sCode (wRow x2 x3 x4 x5 x6 x7 x8 u) j := by
  rw [← r72]
  unfold val_main_v73
  generalize val_main_v72 (F := Ideal) x2 x3 x4 x5 x6 x7 x8 = N
  pointwise

/-- The four shifts and masks of a word are its bytes. -/
theorem byte_of (w : BitVec 32) (k : Fin 4) :
    IntOp.andi (IntOp.shrsi .host w (BitVec.ofNat 32 (8 * k.val))) 255#32 = BitVec.setWidth 32 (w.extractLsb' (8 * k.val) 8) := by
  have h : IntOp.shrsi .host w (BitVec.ofNat 32 (8 * k.val)) = w.sshiftRight (8 * k.val) := by
    have hk := k.isLt
    have e : (BitVec.ofNat 32 (8 * k.val)).toNat = 8 * k.val := by rw [BitVec.toNat_ofNat, Nat.mod_eq_of_lt (by omega)]
    unfold IntOp.shrsi
    rw [if_pos (by rw [e]; omega), BitVec.sshiftRight', e]
  rw [h]
  have h255 : ∀ i : Fin 32, (255#32 : BitVec 32).getLsbD i.val = decide (i.val < 8) := by decide
  ext i hi
  have h5 := h255 ⟨i, hi⟩
  have hk := k.isLt
  change (w.sshiftRight (8 * k.val) &&& 255#32)[i] = _
  rw [BitVec.getElem_and, BitVec.getElem_setWidth, ← BitVec.getLsbD_eq_getElem (x := 255#32), h5, ← BitVec.getLsbD_eq_getElem, BitVec.getLsbD_sshiftRight, BitVec.getLsbD_extractLsb']
  by_cases h8 : i < 8
  · have : 8 * k.val + i < 32 := by omega
    simp [h8, this, hi]
  · simp [h8]

theorem v32_apply (g : Fin 80) (k : Fin 4) (u : Fin 18432) :
    val_main_v32 (F := Ideal) x2 (ix3 g k u) = BitVec.setWidth 32 ((x2 (ix2 g u)).extractLsb' (8 * k.val) 8) := by
  have h := concatenate_ofFn_apply (t := S80x4x18432) (s₁ := S80x1x18432) 1
    (fun n : Fin 4 => match n with
      | 0 => val_main_v28 (F := Ideal) x2
      | 1 => val_main_v29 (F := Ideal) x2
      | 2 => val_main_v30 (F := Ideal) x2
      | 3 => val_main_v31 (F := Ideal) x2)
    Cert.ReferenceIdeal.Gen.concatenates_S80x1x18432_S80x1x18432_S80x1x18432_S80x1x18432_S80x4x18432_d1 rfl 1 rfl (ix3 g k u) k (Nat.div_one _) (ix3 g (0 : Fin 1) u) (Nat.mod_one _).symm (fun b hb => by
      match b with
      | ⟨0, _⟩ => rfl
      | ⟨1, _⟩ => exact absurd rfl hb
      | ⟨2, _⟩ => rfl)
  have e : val_main_v32 (F := Ideal) x2 (ix3 g k u) = _ := h
  rw [e, ← byte_of]
  match k with
  | 0 =>
    change val_main_v28 (F := Ideal) x2 (ix3 g (0 : Fin 1) u) = _
    rw [val_main_v28_apply, val_main_v15_apply, val_main_v13_apply, val_main_v12_apply, val_main_v14_apply, val_main_c_1_apply, val_main_c_2_apply,
      show idx_main_v28 (ix3 g (0 : Fin 1) u) = ix2 g u from funext fun a => match a with | ⟨0, _⟩ => rfl | ⟨1, _⟩ => rfl]
    rfl
  | 1 =>
    change val_main_v29 (F := Ideal) x2 (ix3 g (0 : Fin 1) u) = _
    rw [val_main_v29_apply, val_main_v19_apply, val_main_v17_apply, val_main_v16_apply, val_main_v18_apply, val_main_c_3_apply, val_main_c_4_apply,
      show idx_main_v29 (ix3 g (0 : Fin 1) u) = ix2 g u from funext fun a => match a with | ⟨0, _⟩ => rfl | ⟨1, _⟩ => rfl]
    rfl
  | 2 =>
    change val_main_v30 (F := Ideal) x2 (ix3 g (0 : Fin 1) u) = _
    rw [val_main_v30_apply, val_main_v23_apply, val_main_v21_apply, val_main_v20_apply, val_main_v22_apply, val_main_c_5_apply, val_main_c_6_apply,
      show idx_main_v30 (ix3 g (0 : Fin 1) u) = ix2 g u from funext fun a => match a with | ⟨0, _⟩ => rfl | ⟨1, _⟩ => rfl]
    rfl
  | 3 =>
    change val_main_v31 (F := Ideal) x2 (ix3 g (0 : Fin 1) u) = _
    rw [val_main_v31_apply, val_main_v27_apply, val_main_v25_apply, val_main_v24_apply, val_main_v26_apply, val_main_c_7_apply, val_main_c_8_apply,
      show idx_main_v31 (ix3 g (0 : Fin 1) u) = ix2 g u from funext fun a => match a with | ⟨0, _⟩ => rfl | ⟨1, _⟩ => rfl]
    rfl

theorem v34_apply (u : Fin 18432) (j : Fin 320) :
    val_main_v34 (F := Ideal) x2 (ix2 u j) = BitVec.setWidth 32 ((x2 (ix2 (⟨j.val / 4, by omega⟩ : Fin 80) u)).extractLsb' (8 * (j.val % 4)) 8) := by
  rw [← v32_apply x2 (⟨j.val / 4, by omega⟩ : Fin 80) (⟨j.val % 4, Nat.mod_lt _ (by decide)⟩ : Fin 4) u]
  rw [val_main_v34_apply, val_main_v33_apply]
  refine congrArg (val_main_v32 (F := Ideal) x2) (funext fun a => Fin.ext ?_)
  have hj := j.isLt
  have hu := u.isLt
  match a with
  | ⟨0, _⟩ => change (j.val * 18432 + u.val) / 73728 = j.val / 4; omega
  | ⟨1, _⟩ => change (j.val * 18432 + u.val) / 18432 % 4 = j.val % 4; omega
  | ⟨2, _⟩ => change (j.val * 18432 + u.val) % 18432 = u.val; omega

end Cert.RefGrad
-- ==== Proof.Match.lean ====
/-
  What a point computes of a column, in the reference's terms.
-/
module

public import proofs.«01_k».proof.Proof.RefRow

@[expose] public section

set_option maxRecDepth 16384

noncomputable section

namespace Cert.KernelIdeal.Hand

open Cert.KernelIdeal Cert.KernelIdeal.Gen Idealize.ShloMosaic
open Cert.Row Cert.RefGrad

/-! ## The column blocks and the rows, read at an entry -/

theorem gcol_apply (g : Vec Ideal S320x512 .f32) (j : Fin 4) (r : Fin 320) (l : Fin 128) (x : Fin 512) (hx : x.val = 128 * j.val + l.val) :
    gcol g j (ix2 r l) = g (ix2 r x) := by
  unfold gcol
  refine congrArg g (funext fun a => Fin.ext ?_)
  match a with
  | ⟨0, _⟩ => change 0 + 1 * r.val = r.val; omega
  | ⟨1, _⟩ => change 128 * j.val + 1 * l.val = x.val; omega

theorem wcol_apply (w : Vec Ideal S80x512 .i32) (j : Fin 4) (r : Fin 80) (l : Fin 128) (x : Fin 512) (hx : x.val = 128 * j.val + l.val) :
    wcol w j (ix2 r l) = w (ix2 r x) := by
  unfold wcol
  refine congrArg w (funext fun a => Fin.ext ?_)
  match a with
  | ⟨0, _⟩ => change 0 + 1 * r.val = r.val; omega
  | ⟨1, _⟩ => change 128 * j.val + 1 * l.val = x.val; omega

theorem trow_apply (i : grid0.Coords) (d : Vec Ideal S144x128 .f32) (j : Fin 4) (l : Fin 128) (x : Fin 144) (hx : x.val = 4 * (i 0).val + j.val) :
    trow i d j (ix2 (0 : Fin 1) l) = d (ix2 x l) := by
  unfold trow
  refine congrArg d (funext fun a => Fin.ext ?_)
  match a with
  | ⟨0, _⟩ => change k0_off2 i (jw j) 0 + 1 * 0 = x.val; rw [off2]; change 4 * (i 0).val + j.val + 1 * 0 = _; omega
  | ⟨1, _⟩ => change k0_off2 i (jw j) 1 + 1 * l.val = l.val; rw [off2]; change 0 + 1 * l.val = _; omega

/-! ## A point's columns -/

variable (m : (ℓ : Loc nD τ sig) → Buf (Elt Ideal) ℓ) (c : Dev nD)

/-- Row `u` of the new weights. -/
abbrev wR (u : Fin 18432) : Fin 320 → EReal := wRow (A2 m c) (A3 m c) (A4 m c) (A5 m c) (A6 m c) (A7 m c) (A8 m c) u

variable {m c} (h : PreAt m c) (t : Fin cfg0.N) (j : Fin 4) (l : Fin 128) (u : Fin 18432)
  (hu : u.val = 512 * (grid0.coords t 0).val + 128 * j.val + l.val)

include hu in
theorem sRow_eq : trow (grid0.coords t) (I3 m c t) j (ix2 (0 : Fin 1) l) = A3 m c (ix1 u) := by
  have ht : (grid0.coords t 0).val < 36 := (grid0.coords t 0).isLt
  rw [trow_apply (grid0.coords t) _ j l (⟨4 * (grid0.coords t 0).val + j.val, by omega⟩ : Fin 144) rfl]
  exact I3_apply m c t _ l u (by rw [hu]; change _ = 128 * (4 * (grid0.coords t 0).val + j.val) + l.val; omega)

include hu in
theorem bRow_eq : trow (grid0.coords t) (I4 m c t) j (ix2 (0 : Fin 1) l) = A4 m c (ix1 u) := by
  have ht : (grid0.coords t 0).val < 36 := (grid0.coords t 0).isLt
  rw [trow_apply (grid0.coords t) _ j l (⟨4 * (grid0.coords t 0).val + j.val, by omega⟩ : Fin 144) rfl]
  exact I4_apply m c t _ l u (by rw [hu]; change _ = 128 * (4 * (grid0.coords t 0).val + j.val) + l.val; omega)

include hu in
theorem mRow_eq : trow (grid0.coords t) (I5 m c t) j (ix2 (0 : Fin 1) l) = A5 m c (ix1 u) := by
  have ht : (grid0.coords t 0).val < 36 := (grid0.coords t 0).isLt
  rw [trow_apply (grid0.coords t) _ j l (⟨4 * (grid0.coords t 0).val + j.val, by omega⟩ : Fin 144) rfl]
  exact I5_apply m c t _ l u (by rw [hu]; change _ = 128 * (4 * (grid0.coords t 0).val + j.val) + l.val; omega)

include h hu in
theorem gRow_eq : (fun r => gcol (gPt m c t) j (ix2 r l)) = gRow (A6 m c) (A7 m c) (A8 m c) u := by
  funext r
  have hj := j.isLt
  have hl := l.isLt
  rw [gcol_apply _ j r l (⟨128 * j.val + l.val, by omega⟩ : Fin 512) rfl, gPt_apply m c h t r _]
  unfold gRow
  rw [v11_apply (A6 m c) (A7 m c) (A8 m c) (fun o => (h.range m o).1) (fun o => (h.range m o).2) u r]
  exact congrArg (Occ.gsum _ _ _) (by rw [hu]; change _ + (128 * j.val + l.val) = _; omega)

include hu in
theorem qRow_eq : (fun r => code (wcol (I2 m c t) j) r l) = qRow (A2 m c) u := by
  funext r
  have hj := j.isLt
  have hl := l.isLt
  have hr := r.isLt
  unfold code qRow
  rw [v34_apply, wcol_apply _ j _ l (⟨128 * j.val + l.val, by omega⟩ : Fin 512) rfl,
    I2_apply m c t _ _ u (by rw [hu]; change _ = _ + (128 * j.val + l.val); omega)]

include h hu in
theorem cMom_eq : cMom (grid0.coords t) (gPt m c t) (I5 m c t) j (ix2 (0 : Fin 1) l) = sMom (gRow (A6 m c) (A7 m c) (A8 m c) u) (A5 m c (ix1 u)) := by
  unfold cMom
  rw [p63, gRow_eq h t j l u hu, mRow_eq t j l u hu]

include h hu in
theorem w64_eq (r : Fin 320) : k0_pay64 (gcol (gPt m c t) j) (wcol (I2 m c t) j) (trow (grid0.coords t) (I3 m c t) j) (trow (grid0.coords t) (I4 m c t) j)
    (trow (grid0.coords t) (I5 m c t) j) (ix2 r l) = wR m c u r := by
  rw [p64, gRow_eq h t j l u hu, qRow_eq t j l u hu, sRow_eq t j l u hu, bRow_eq t j l u hu, mRow_eq t j l u hu]
  rfl

include h hu in
theorem cMin_eq : cMin (grid0.coords t) (gPt m c t) (I2 m c t) (I3 m c t) (I4 m c t) (I5 m c t) j (ix2 (0 : Fin 1) l) = sMin (wR m c u) := by
  unfold cMin
  exact p65 _ _ _ _ _ l _ (w64_eq h t j l u hu)

include h hu in
theorem cScale_eq : cScale (grid0.coords t) (gPt m c t) (I2 m c t) (I3 m c t) (I4 m c t) (I5 m c t) j (ix2 (0 : Fin 1) l) = sScale (wR m c u) := by
  unfold cScale
  exact p66 _ _ _ _ _ l _ (w64_eq h t j l u hu)

include h hu in
theorem cCodes_eq (r : Fin 320) : cCodes (grid0.coords t) (gPt m c t) (I2 m c t) (I3 m c t) (I4 m c t) (I5 m c t) j (ix2 r l) = sCode (wR m c u) r := by
  unfold cCodes
  exact p67 r l _ _ _ _ (w64_eq h t j l u hu) (cMin_eq h t j l u hu) (cScale_eq h t j l u hu)

end Cert.KernelIdeal.Hand
-- ==== Proof.Windows.lean ====
/-
  What the kernel's result arrays hold at the end: the reference's values.
-/
module

public import proofs.«01_k».proof.Proof.Match
public import Idealize.ShloMosaic.Lib.Pipeline.ArrRel

@[expose] public section

set_option maxRecDepth 16384

noncomputable section

namespace Cert.KernelIdeal.Hand

open Cert.KernelIdeal Cert.KernelIdeal.Gen Idealize.ShloMosaic
open Cert.Row Cert.RefGrad

/-! ## The puts, read at an entry -/

theorem put_row (i : grid0.Coords) (d : Vec Ideal S144x128 .f32) (k : Fin 4) (w : FVec Ideal S1x128 .f32) (r : Fin 144) (l : Fin 128) :
    VecWindow.put d (k0_off2 i (jw k)) S1x128.size w (ix2 r l) = if r.val = 4 * (i 0).val + k.val then w (ix2 (0 : Fin 1) l) else d (ix2 r l) := by
  have h0 : k0_off2 i (jw k) 0 = 4 * (i 0).val + k.val := by rw [off2]; rfl
  have h1 : k0_off2 i (jw k) 1 = 0 := by rw [off2]; rfl
  have hl := l.isLt
  by_cases h : r.val = 4 * (i 0).val + k.val
  · rw [if_pos h, VecWindow.put, dif_pos fun a => by
      match a with
      | ⟨0, _⟩ => change k0_off2 i (jw k) 0 ≤ r.val ∧ r.val < k0_off2 i (jw k) 0 + 1; omega
      | ⟨1, _⟩ => change k0_off2 i (jw k) 1 ≤ l.val ∧ l.val < k0_off2 i (jw k) 1 + 128; omega]
    refine congrArg w (funext fun a => Fin.ext ?_)
    match a with
    | ⟨0, _⟩ => change r.val - k0_off2 i (jw k) 0 = 0; omega
    | ⟨1, _⟩ => change l.val - k0_off2 i (jw k) 1 = l.val; omega
  · rw [if_neg h, VecWindow.put, dif_neg fun hc => h (by
      have := hc 0
      change k0_off2 i (jw k) 0 ≤ r.val ∧ r.val < k0_off2 i (jw k) 0 + 1 at this
      omega)]

theorem putRows_in (i : grid0.Coords) (d : Vec Ideal S144x128 .f32) (x : Fin 4 → FVec Ideal S1x128 .f32) (j : Fin 4) (r : Fin 144) (l : Fin 128)
    (h : r.val = 4 * (i 0).val + j.val) : putRows i d x (ix2 r l) = x j (ix2 (0 : Fin 1) l) := by
  unfold putRows
  rw [put_row, put_row, put_row, put_row]
  match j with
  | 0 => rw [if_neg (by change ¬ r.val = _ + 3; change r.val = _ + 0 at h; omega), if_neg (by change ¬ r.val = _ + 2; change r.val = _ + 0 at h; omega),
          if_neg (by change ¬ r.val = _ + 1; change r.val = _ + 0 at h; omega), if_pos h]
  | 1 => rw [if_neg (by change ¬ r.val = _ + 3; change r.val = _ + 1 at h; omega), if_neg (by change ¬ r.val = _ + 2; change r.val = _ + 1 at h; omega), if_pos h]
  | 2 => rw [if_neg (by change ¬ r.val = _ + 3; change r.val = _ + 2 at h; omega), if_pos h]
  | 3 => rw [if_pos h]

theorem putRows_out (i : grid0.Coords) (d : Vec Ideal S144x128 .f32) (x : Fin 4 → FVec Ideal S1x128 .f32) (r : Fin 144) (l : Fin 128)
    (h : r.val < 4 * (i 0).val) : putRows i d x (ix2 r l) = d (ix2 r l) := by
  unfold putRows
  rw [put_row, put_row, put_row, put_row, if_neg (by omega), if_neg (by omega), if_neg (by omega), if_neg (by omega)]

theorem put_col (d : Vec Ideal S320x512 .i8) (o : ℕ) (w : IVec S320x128 8) (r : Fin 320) (x : Fin 512) (l : Fin 128) (hl : x.val < o ∨ x.val = o + l.val ∨ o + 128 ≤ x.val) :
    VecWindow.put (α := Elt Ideal .i8) d ![0, o] S320x128.size w (ix2 r x) = if x.val = o + l.val then w (ix2 r l) else d (ix2 r x) := by
  have hl' := l.isLt
  have hr := r.isLt
  by_cases h : x.val = o + l.val
  · rw [if_pos h, VecWindow.put, dif_pos fun a => by
      match a with
      | ⟨0, _⟩ => change 0 ≤ r.val ∧ r.val < 0 + 320; omega
      | ⟨1, _⟩ => change o ≤ x.val ∧ x.val < o + 128; omega]
    refine congrArg w (funext fun a => Fin.ext ?_)
    match a with
    | ⟨0, _⟩ => change r.val - 0 = r.val; omega
    | ⟨1, _⟩ => change x.val - o = l.val; omega
  · rw [if_neg h, VecWindow.put, dif_neg fun hc => by
      have := hc 1
      change o ≤ x.val ∧ x.val < o + 128 at this
      omega]

theorem putCols_apply (d : Vec Ideal S320x512 .i8) (x : Fin 4 → IVec S320x128 8) (r : Fin 320) (j : Fin 4) (l : Fin 128) (y : Fin 512)
    (hy : y.val = 128 * j.val + l.val) : putCols d x (ix2 r y) = x j (ix2 r l) := by
  have hl := l.isLt
  have hj := j.isLt
  unfold putCols
  rw [put_col _ 384 _ r y l (by omega), put_col _ 256 _ r y l (by omega), put_col _ 128 _ r y l (by omega), put_col _ 0 _ r y l (by omega)]
  match j with
  | 0 => change y.val = 128 * 0 + l.val at hy; rw [if_neg (by omega), if_neg (by omega), if_neg (by omega), if_pos (by omega)]
  | 1 => change y.val = 128 * 1 + l.val at hy; rw [if_neg (by omega), if_neg (by omega), if_pos (by omega)]
  | 2 => change y.val = 128 * 2 + l.val at hy; rw [if_neg (by omega), if_pos (by omega)]
  | 3 => change y.val = 128 * 3 + l.val at hy; rw [if_pos (by omega)]

/-! ## The tables -/

theorem coords0 : ∀ t : Fin cfg0.N, (grid0.coords t 0).val = t.val := by decide +kernel

/-- A table of which each point writes its four rows over what the point before left holds `T` once every point has run. -/
theorem table (L : Fin cfg0.N → Vec Ideal S144x128 .f32 → Prop) (x : Fin cfg0.N → Fin 4 → FVec Ideal S1x128 .f32) (T : Fin 18432 → EReal)
    (hx : ∀ (t : Fin cfg0.N) (j : Fin 4) (l : Fin 128) (u : Fin 18432), u.val = 512 * (grid0.coords t 0).val + 128 * j.val + l.val → x t j (ix2 (0 : Fin 1) l) = T u)
    (hL : ∀ t X, L t X → ∃ Y, (∀ t' : Fin cfg0.N, t.val = t'.val + 1 → L t' Y) ∧ X = putRows (grid0.coords t) Y (x t)) :
    ∀ (n : ℕ) (t : Fin cfg0.N), t.val = n → ∀ X, L t X → ∀ (r : Fin 144) (l : Fin 128) (u : Fin 18432), r.val < 4 * (n + 1) → u.val = r.val * 128 + l.val → X (ix2 r l) = T u := by
  intro n
  induction n with
  | zero =>
    intro t ht X hX r l u hr hu
    obtain ⟨Y, -, rfl⟩ := hL t X hX
    have hc := coords0 t
    rw [putRows_in _ _ _ (⟨r.val, by omega⟩ : Fin 4) r l (by rw [hc, ht]; change r.val = 4 * 0 + r.val; omega)]
    exact hx t _ l u (by rw [hc, ht]; change u.val = 512 * 0 + 128 * r.val + l.val; omega)
  | succ n ih =>
    intro t ht X hX r l u hr hu
    obtain ⟨Y, hY, rfl⟩ := hL t X hX
    have hc := coords0 t
    have htl := t.isLt
    by_cases h : r.val < 4 * (n + 1)
    · rw [putRows_out _ _ _ r l (by omega)]
      exact ih (⟨n, by omega⟩ : Fin cfg0.N) rfl Y (hY _ ht) r l u h hu
    · rw [putRows_in _ _ _ (⟨r.val - 4 * (n + 1), by omega⟩ : Fin 4) r l (by rw [hc, ht]; change r.val = 4 * (n + 1) + (r.val - 4 * (n + 1)); omega)]
      exact hx t _ l u (by rw [hc, ht]; change u.val = 512 * (n + 1) + 128 * (r.val - 4 * (n + 1)) + l.val; omega)

theorem no_fetch8 : ∀ t : Fin cfg0.N, (cfg0.win 8).fetch t = false := fun _ => rfl
theorem no_fetch9 : ∀ t : Fin cfg0.N, (cfg0.win 9).fetch t = false := fun _ => rfl
theorem no_fetch10 : ∀ t : Fin cfg0.N, (cfg0.win 10).fetch t = false := fun _ => rfl

theorem whole8 : ∀ t : Fin cfg0.N, t.val = 35 → (cfg0.win 8).WholeAt t := by decide +kernel
theorem whole9 : ∀ t : Fin cfg0.N, t.val = 35 → (cfg0.win 9).WholeAt t := by decide +kernel
theorem whole10 : ∀ t : Fin cfg0.N, t.val = 35 → (cfg0.win 10).WholeAt t := by decide +kernel

variable (m : (ℓ : Loc nD τ sig) → Buf (Elt Ideal) ℓ) (c : Dev nD)

/-- Contents a window of one block may be left with: over contents the point before may have left. -/
theorem leaves_step (w : Fin 11) (hf : ∀ t : Fin cfg0.N, (cfg0.win w).fetch t = false) (hw : ∀ t : Fin cfg0.N, t.val = 35 → (cfg0.win w).WholeAt t)
    (t : Fin cfg0.N) (X : (cfg0.win w).block.Idx → Elt Ideal (cfg0.win w).elt) (h : (rdat m c).Leaves w t X) :
    ∃ Y, (∀ t' : Fin cfg0.N, t.val = t'.val + 1 → (rdat m c).Leaves w t' Y) ∧ aft m c w t Y X := by
  obtain ⟨Y, hY, hX⟩ := h
  refine ⟨Y, fun t' ht' => ?_, hX⟩
  have := ((rdat m c).finds_of_pos (hf t) (by omega) Y).mp hY
  have et : t' = ⟨t.val - 1, Nat.lt_of_le_of_lt (Nat.sub_le _ _) t.isLt⟩ := Fin.ext (by change t'.val = t.val - 1; omega)
  rw [et]
  refine this.resolve_left fun hfl => ?_
  have hN : (35 : ℕ) < cfg0.N := by decide
  have e35 := (hw ⟨35, hN⟩ rfl).2.1 _ hfl
  have := congrArg Fin.val e35
  change t.val - 1 = 35 at this
  have htl : t.val < 36 := t.isLt
  omega

variable {m c}

theorem final8 (h : PreAt m c) (G : Vec Ideal S144x128 .f32) (hG : (rdat m c).ArrAt 8 cfg0.N G) :
    G = Cert.ReferenceIdeal.Read.val_main_v74 (F := Ideal) (A2 m c) (A3 m c) (A4 m c) (A5 m c) (A6 m c) (A7 m c) (A8 m c) := by
  obtain ⟨t₀, ht₀⟩ : ∃ t : Fin cfg0.N, t.val = 35 := ⟨⟨35, by decide⟩, rfl⟩
  obtain ⟨X, hX, hj⟩ := Pipeline.RDat.ArrAt.emb_eq_of_wholeAt hG (whole8 t₀ ht₀)
  have ht := table (fun t X => (rdat m c).Leaves 8 t X) (fun t => cScale (grid0.coords t) (gPt m c t) (I2 m c t) (I3 m c t) (I4 m c t) (I5 m c t))
    (fun u => sScale (wR m c u)) (fun t j l u hu => cScale_eq h t j l u hu) (fun t X hX => leaves_step m c 8 no_fetch8 whole8 t X hX) 35 t₀ ht₀ X hX
  funext i
  have h0 : (i 0).val < 144 := (i 0).isLt
  have h1 : (i 1).val < 128 := (i 1).isLt
  have e := hj i
  have hi : X (fun a => ⟨i a, (whole8 t₀ ht₀).lt_size i a⟩) = X (ix2 (⟨(i 0).val, h0⟩ : Fin 144) (⟨(i 1).val, h1⟩ : Fin 128)) :=
    congrArg X (funext fun a => match a with | ⟨0, _⟩ => rfl | ⟨1, _⟩ => rfl)
  obtain ⟨u, hu⟩ : ∃ u : Fin 18432, u.val = (i 0).val * 128 + (i 1).val := ⟨⟨_, by omega⟩, rfl⟩
  have ev := ht ⟨(i 0).val, h0⟩ ⟨(i 1).val, h1⟩ u (by change (i 0).val < _; omega) hu
  rw [Cert.ReferenceIdeal.Read.val_main_v74_apply, show Cert.ReferenceIdeal.Read.idx_main_v74 i = ix1 u from
    funext fun a => match a with | ⟨0, _⟩ => Fin.ext hu.symm, r62]
  exact e.trans (hi.trans ev)

theorem final9 (h : PreAt m c) (G : Vec Ideal S144x128 .f32) (hG : (rdat m c).ArrAt 9 cfg0.N G) :
    G = Cert.ReferenceIdeal.Read.val_main_v75 (F := Ideal) (A2 m c) (A3 m c) (A4 m c) (A5 m c) (A6 m c) (A7 m c) (A8 m c) := by
  obtain ⟨t₀, ht₀⟩ : ∃ t : Fin cfg0.N, t.val = 35 := ⟨⟨35, by decide⟩, rfl⟩
  obtain ⟨X, hX, hj⟩ := Pipeline.RDat.ArrAt.emb_eq_of_wholeAt hG (whole9 t₀ ht₀)
  have ht := table (fun t X => (rdat m c).Leaves 9 t X) (fun t => cMin (grid0.coords t) (gPt m c t) (I2 m c t) (I3 m c t) (I4 m c t) (I5 m c t))
    (fun u => sMin (wR m c u)) (fun t j l u hu => cMin_eq h t j l u hu) (fun t X hX => leaves_step m c 9 no_fetch9 whole9 t X hX) 35 t₀ ht₀ X hX
  funext i
  have h0 : (i 0).val < 144 := (i 0).isLt
  have h1 : (i 1).val < 128 := (i 1).isLt
  have e := hj i
  have hi : X (fun a => ⟨i a, (whole9 t₀ ht₀).lt_size i a⟩) = X (ix2 (⟨(i 0).val, h0⟩ : Fin 144) (⟨(i 1).val, h1⟩ : Fin 128)) :=
    congrArg X (funext fun a => match a with | ⟨0, _⟩ => rfl | ⟨1, _⟩ => rfl)
  obtain ⟨u, hu⟩ : ∃ u : Fin 18432, u.val = (i 0).val * 128 + (i 1).val := ⟨⟨_, by omega⟩, rfl⟩
  have ev := ht ⟨(i 0).val, h0⟩ ⟨(i 1).val, h1⟩ u (by change (i 0).val < _; omega) hu
  rw [Cert.ReferenceIdeal.Read.val_main_v75_apply, show Cert.ReferenceIdeal.Read.idx_main_v75 i = ix1 u from
    funext fun a => match a with | ⟨0, _⟩ => Fin.ext hu.symm, r56]
  exact e.trans (hi.trans ev)

theorem final10 (h : PreAt m c) (G : Vec Ideal S144x128 .f32) (hG : (rdat m c).ArrAt 10 cfg0.N G) :
    G = Cert.ReferenceIdeal.Read.val_main_v76 (F := Ideal) (A5 m c) (A6 m c) (A7 m c) (A8 m c) := by
  obtain ⟨t₀, ht₀⟩ : ∃ t : Fin cfg0.N, t.val = 35 := ⟨⟨35, by decide⟩, rfl⟩
  obtain ⟨X, hX, hj⟩ := Pipeline.RDat.ArrAt.emb_eq_of_wholeAt hG (whole10 t₀ ht₀)
  have ht := table (fun t X => (rdat m c).Leaves 10 t X) (fun t => cMom (grid0.coords t) (gPt m c t) (I5 m c t))
    (fun u => sMom (gRow (A6 m c) (A7 m c) (A8 m c) u) (A5 m c (ix1 u))) (fun t j l u hu => cMom_eq h t j l u hu)
    (fun t X hX => leaves_step m c 10 no_fetch10 whole10 t X hX) 35 t₀ ht₀ X hX
  funext i
  have h0 : (i 0).val < 144 := (i 0).isLt
  have h1 : (i 1).val < 128 := (i 1).isLt
  have e := hj i
  have hi : X (fun a => ⟨i a, (whole10 t₀ ht₀).lt_size i a⟩) = X (ix2 (⟨(i 0).val, h0⟩ : Fin 144) (⟨(i 1).val, h1⟩ : Fin 128)) :=
    congrArg X (funext fun a => match a with | ⟨0, _⟩ => rfl | ⟨1, _⟩ => rfl)
  obtain ⟨u, hu⟩ : ∃ u : Fin 18432, u.val = (i 0).val * 128 + (i 1).val := ⟨⟨_, by omega⟩, rfl⟩
  have ev := ht ⟨(i 0).val, h0⟩ ⟨(i 1).val, h1⟩ u (by change (i 0).val < _; omega) hu
  rw [Cert.ReferenceIdeal.Read.val_main_v76_apply, show Cert.ReferenceIdeal.Read.idx_main_v76 i = ix1 u from
    funext fun a => match a with | ⟨0, _⟩ => Fin.ext hu.symm, r46]
  exact e.trans (hi.trans ev)

/-! ## The codes -/

theorem map7 : ∀ i : grid0.Coords, cc0_transform_9 i = ![0, (i 0).val] := by decide +kernel
theorem covers7 : (cfg0.win 7).Covers := by decide +kernel

theorem final7 (h : PreAt m c) (G : Vec Ideal S320x18432 .i8) (hG : (rdat m c).ArrAt 7 cfg0.N G) :
    G = Cert.ReferenceIdeal.Read.val_main_v73 (F := Ideal) (A2 m c) (A3 m c) (A4 m c) (A5 m c) (A6 m c) (A7 m c) (A8 m c) := by
  obtain ⟨X, hX, hA⟩ := hG.exists_exact
  rw [hA (Function.update (fun _ _ _ => Classical.arbitrary _) 7 X) fun u _ _ => by rw [Function.update_self]]
  refine Pipeline.Dat.arrAt_eq_of_covers _ 7 _ covers7 fun t hf y => ?_
  rw [Pipeline.RDat.withAfter_after, Function.update_self]
  obtain ⟨Y, -, hXt⟩ := hX t t.isLt hf
  have hXt' : X t = putCols Y (cCodes (grid0.coords t) (gPt m c t) (I2 m c t) (I3 m c t) (I4 m c t) (I5 m c t)) := hXt
  have h0 : (y 0).val < 320 := (y 0).isLt
  have h1 : (y 1).val < 512 := (y 1).isLt
  have ht : (grid0.coords t 0).val < 36 := (grid0.coords t 0).isLt
  obtain ⟨u, hu⟩ : ∃ u : Fin 18432, u.val = 512 * (grid0.coords t 0).val + (y 1).val := ⟨⟨_, by omega⟩, rfl⟩
  have e1 : (((cfg0.win 7).blk t).view.emb y : S320x18432.Idx) = ix2 (⟨(y 0).val, h0⟩ : Fin 320) u := funext fun a => Fin.ext (by
    match a with
    | ⟨0, _⟩ => change cc0_transform_9 (grid0.coords t) 0 * 320 + 1 * (y 0).val = (y 0).val; rw [map7]; change 0 * 320 + 1 * (y 0).val = _; omega
    | ⟨1, _⟩ => change cc0_transform_9 (grid0.coords t) 1 * 512 + 1 * (y 1).val = u.val; rw [map7]; change (grid0.coords t 0).val * 512 + 1 * (y 1).val = _; omega)
  have e2 : X t ((cfg0.win 7).xinj (cfg0.grid.coords t) y) = X t (ix2 (⟨(y 0).val, h0⟩ : Fin 320) (⟨(y 1).val, h1⟩ : Fin 512)) :=
    congrArg (X t) (funext fun a => match a with | ⟨0, _⟩ => rfl | ⟨1, _⟩ => rfl)
  have e3 := putCols_apply Y (cCodes (grid0.coords t) (gPt m c t) (I2 m c t) (I3 m c t) (I4 m c t) (I5 m c t)) (⟨(y 0).val, h0⟩ : Fin 320)
    (⟨(y 1).val / 128, by omega⟩ : Fin 4) (⟨(y 1).val % 128, Nat.mod_lt _ (by decide)⟩ : Fin 128) (⟨(y 1).val, h1⟩ : Fin 512)
    (by change (y 1).val = 128 * ((y 1).val / 128) + (y 1).val % 128; omega)
  have e4 := cCodes_eq h t (⟨(y 1).val / 128, by omega⟩ : Fin 4) (⟨(y 1).val % 128, Nat.mod_lt _ (by decide)⟩ : Fin 128) u
    (by rw [hu]; change _ = _ + 128 * ((y 1).val / 128) + (y 1).val % 128; omega) (⟨(y 0).val, h0⟩ : Fin 320)
  have e5 := r73 (A2 m c) (A3 m c) (A4 m c) (A5 m c) (A6 m c) (A7 m c) (A8 m c) u (⟨(y 0).val, h0⟩ : Fin 320)
  refine Eq.trans (e2.trans ((congrFun hXt' _).trans (e3.trans (e4.trans e5.symm)))) ?_
  exact (congrArg (Cert.ReferenceIdeal.Read.val_main_v73 (F := Ideal) (A2 m c) (A3 m c) (A4 m c) (A5 m c) (A6 m c) (A7 m c) (A8 m c)) e1).symm

end Cert.KernelIdeal.Hand
-- ==== Proof.GatherPre.lean ====
/-
  The precondition `rows_sorted` read at an element: every row of the list is in the table, and no row is below one before it.
-/
module

public import proofs.«01_k».proof.Proof.Gen.Pre_rows_sorted
public import Idealize.ShloMosaic.Lib.Pointwise
public import Idealize.ShloMosaic.Lib.Affine

@[expose] public section

noncomputable section

namespace Cert.PreRows

open Idealize.ShloMosaic
open Cert.Pre_rows_sorted

variable {F : FTy → Type} [FloatOps F] (a0 : IVec S18432 32) (a1 : IVec S1100000x320 8)

theorem and1 (x y : BitVec 1) : x &&& y = 1#1 ↔ x = 1#1 ∧ y = 1#1 := by revert x y; decide

theorem small (w : BitVec 32) (h0 : IntOp.cmpi .sge w 0#32 = 1#1) (h1 : IntOp.cmpi .slt w 1100000#32 = 1#1) : w.toNat < 1100000 := by
  rw [IntOp.cmpi_sge] at h0
  rw [IntOp.cmpi_slt] at h1
  have e : (1100000#32 : BitVec 32).toInt = 1100000 := by decide
  rw [e] at h1
  have h0' : (0 : ℤ) ≤ w.toInt := by simpa using h0
  rw [BitVec.toInt_eq_toNat_cond] at h0' h1
  split_ifs at h0' h1 <;> omega

theorem range (h : (fn (F := F) a0 a1).1 = fun _ => 1#1) (x : Fin 18432) : (a0 (ix1 x)).toNat < 1100000 := by
  have h' := congrFun h (ix1 x)
  simp only [fn] at h'
  change IntOp.cmpi .sge (a0 (ix1 x)) 0#32 &&& IntOp.cmpi .slt (a0 (ix1 x)) 1100000#32 = 1#1 at h'
  rw [and1] at h'
  exact small _ h'.1 h'.2

theorem slice0 (hs : S18432.Slices ![0] S18431) (x : Fin 18431) (y : Fin 18432) (hy : y.val = x.val) :
    extractStridedSlice S18431 ![0] a0 hs (ix1 x) = a0 (ix1 y) := by
  unfold extractStridedSlice
  refine congrArg a0 (funext fun d => Fin.ext ?_)
  match d with
  | ⟨0, _⟩ => change 0 + x.val = y.val; omega

theorem slice1 (hs : S18432.Slices ![1] S18431) (x : Fin 18431) (y : Fin 18432) (hy : y.val = x.val + 1) :
    extractStridedSlice S18431 ![1] a0 hs (ix1 x) = a0 (ix1 y) := by
  unfold extractStridedSlice
  refine congrArg a0 (funext fun d => Fin.ext ?_)
  match d with
  | ⟨0, _⟩ => change 1 + x.val = y.val; omega

theorem next (h : (fn (F := F) a0 a1).1 = fun _ => 1#1) (h2 : (fn (F := F) a0 a1).2 = fun _ => 1#1) (x y : Fin 18432) (hy : y.val = x.val + 1) :
    (a0 (ix1 x)).toNat ≤ (a0 (ix1 y)).toNat := by
  have h' := congrFun h2 (ix1 (⟨x.val, by omega⟩ : Fin 18431))
  simp only [fn] at h'
  change IntOp.cmpi .sle (extractStridedSlice S18431 ![0] a0 _ (ix1 (⟨x.val, by omega⟩ : Fin 18431))) (extractStridedSlice S18431 ![1] a0 _ (ix1 (⟨x.val, by omega⟩ : Fin 18431))) = 1#1 at h'
  rw [slice0 a0 _ _ x rfl, slice1 a0 _ _ y hy, IntOp.cmpi_sle] at h'
  have hx := range a0 a1 h x
  have hy := range a0 a1 h y
  rw [BitVec.toInt_eq_toNat_cond, BitVec.toInt_eq_toNat_cond, if_pos (by omega), if_pos (by omega)] at h'
  omega

theorem mono (h : (fn (F := F) a0 a1).1 = fun _ => 1#1) (h2 : (fn (F := F) a0 a1).2 = fun _ => 1#1) (x : Fin 18432) :
    ∀ (n : ℕ) (y : Fin 18432), y.val = x.val + n → (a0 (ix1 x)).toNat ≤ (a0 (ix1 y)).toNat
  | 0, y, hy => by rw [show x = y from Fin.ext (by omega)]
  | n + 1, y, hy => (mono h h2 x n ⟨x.val + n, by omega⟩ rfl).trans (next a0 a1 h h2 _ y (by change y.val = x.val + n + 1; omega))

end Cert.PreRows

end
-- ==== Proof.Gather.lean ====
/-
  One step of the gather over a tile of 128 rows: what it reads and what it leaves in the result.
-/
module

public import proofs.«01_k».proof.Proof.Gen.Gather.Launch
public import proofs.«01_k».proof.Proof.Gen.Gather.Skeleton
public import proofs.«01_k».proof.Proof.Gen.Gather.Loops
public import proofs.«01_k».proof.Proof.Gen.Gather.Points
public import Idealize.ShloMosaic.Lib.Pipeline.Frame
public import Idealize.ShloMosaic.Lib.Tactic
public import Idealize.ShloMosaic.Lib.Transfers
public import Idealize.ShloMosaic.Lib.VecWindow
public import proofs.«01_k».proof.Proof.Gen.GatherReference.Run
public import proofs.«01_k».proof.Proof.Gen.GatherReference.Read
public import proofs.«01_k».proof.Proof.Gen.Pre_rows_sorted

@[expose] public section

set_option maxRecDepth 16384

noncomputable section

namespace Cert.Gather.Hand

open Cert.Gather Cert.Gather.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable [∀ e, Nonempty (Elt F e)]

/-- A buffer held at contents that read as `d`. -/
theorem owns_of (c : Dev nD) {sp : Space} {S : Shape} {e : EltTy} (M : Memref sig .tc sp S e) (q : PosShare TreeShare)
    (f : M.view.ty.Contents (Elt F)) (d : Vec F S e) (h : M.view.read (Elt F) f = d) :
    (M.view.loc (c : Thread nD τ) ↦[M.view.set]{q} f : sProp 𝕄) ⊢ owns (c : Thread nD τ) M q d := by
  unfold owns; iintro H; iexists f
  isplitr; swap; · iexact H
  ipureintro; exact h

/-- The 32 by 128 block of codes that holds eight words (`k`) of 128 table rows (`b`) of the strip `s`. -/
def blk (d3 : Vec F S320x8192 .i8) (s : Fin k0_t1_loop.trips) (k : Fin 10) (b : Fin 8) : Vec F S32x128 .i8 :=
  match k with
  | 0 => View.ld (Val := Elt F) (e' := .i8) d3 (Rect.unit (s := S320x8192) (k0_off3 s (BitVec.ofNat 32 (128 * b.val))) S32x128.size (k0_off3_inb s b))
  | 1 => View.ld (Val := Elt F) (e' := .i8) d3 (Rect.unit (s := S320x8192) (k0_off4 s (BitVec.ofNat 32 (128 * b.val))) S32x128.size (k0_off4_inb s b))
  | 2 => View.ld (Val := Elt F) (e' := .i8) d3 (Rect.unit (s := S320x8192) (k0_off5 s (BitVec.ofNat 32 (128 * b.val))) S32x128.size (k0_off5_inb s b))
  | 3 => View.ld (Val := Elt F) (e' := .i8) d3 (Rect.unit (s := S320x8192) (k0_off6 s (BitVec.ofNat 32 (128 * b.val))) S32x128.size (k0_off6_inb s b))
  | 4 => View.ld (Val := Elt F) (e' := .i8) d3 (Rect.unit (s := S320x8192) (k0_off7 s (BitVec.ofNat 32 (128 * b.val))) S32x128.size (k0_off7_inb s b))
  | 5 => View.ld (Val := Elt F) (e' := .i8) d3 (Rect.unit (s := S320x8192) (k0_off8 s (BitVec.ofNat 32 (128 * b.val))) S32x128.size (k0_off8_inb s b))
  | 6 => View.ld (Val := Elt F) (e' := .i8) d3 (Rect.unit (s := S320x8192) (k0_off9 s (BitVec.ofNat 32 (128 * b.val))) S32x128.size (k0_off9_inb s b))
  | 7 => View.ld (Val := Elt F) (e' := .i8) d3 (Rect.unit (s := S320x8192) (k0_off10 s (BitVec.ofNat 32 (128 * b.val))) S32x128.size (k0_off10_inb s b))
  | 8 => View.ld (Val := Elt F) (e' := .i8) d3 (Rect.unit (s := S320x8192) (k0_off11 s (BitVec.ofNat 32 (128 * b.val))) S32x128.size (k0_off11_inb s b))
  | 9 => View.ld (Val := Elt F) (e' := .i8) d3 (Rect.unit (s := S320x8192) (k0_off12 s (BitVec.ofNat 32 (128 * b.val))) S32x128.size (k0_off12_inb s b))

/-- The lanes of `acc` whose row lies in block `b` of the strip take that row's words. -/
def sel (v9 : BitVec 32) (v20 : Vec F S1x128 .i32) (b : BitVec 32) (x : Vec F S32x128 .i8) (acc : IVec S8x128 32) : IVec S8x128 32 :=
  select (cmpi .eq (k0_pay4 v9 v20) (broadcast S8x128 b))
    (dynamicGather 1 (bitcast S8x128 32 (shapeCast S32x128 x shapeCasts_S32x128_S32x128) bitcasts_S32x128_w8_S8x128_w32)
      (shapeCast S8x128 (shapeCast S8x128x1 (select (cmpi .slt (k0_pay3 v20) (broadcast S8x128 0#32)) (addi (k0_pay3 v20) (broadcast S8x128 128#32)) (k0_pay3 v20))
        shapeCasts_S8x128_S8x128x1) shapeCasts_S8x128x1_S8x128)) acc

/-- Eight words of the tile's rows that lie in the strip, zero in the other lanes. -/
def accV (v9 : BitVec 32) (v20 : Vec F S1x128 .i32) (d3 : Vec F S320x8192 .i8) (s : Fin k0_t1_loop.trips) (k : Fin 10) : IVec S8x128 32 :=
  sel v9 v20 7#32 (blk d3 s k 7) (sel v9 v20 6#32 (blk d3 s k 6) (sel v9 v20 5#32 (blk d3 s k 5) (sel v9 v20 4#32 (blk d3 s k 4)
    (sel v9 v20 3#32 (blk d3 s k 3) (sel v9 v20 2#32 (blk d3 s k 2) (sel v9 v20 1#32 (blk d3 s k 1) (sel v9 v20 0#32 (blk d3 s k 0) (broadcast S8x128 0#32))))))))

def rowT (d2 : Vec F S144x128 .i32) (t : BitVec 32) (h2 : k0_chk2 t) : Vec F S1x128 .i32 :=
  View.ld (Val := Elt F) (e' := .i32) d2 (Rect.unit (s := S144x128) (k0_off2 t) S1x128.size (k0_off2_inb t h2))

def st0 (v9 : BitVec 32) (d2 : Vec F S144x128 .i32) (d3 : Vec F S320x8192 .i8) (s : Fin k0_t1_loop.trips) (t : BitVec 32) (h2 : k0_chk2 t) (X : Vec F S80x18432 .i32) : Vec F S80x18432 .i32 :=
  VecWindow.put (X) (k0_off13 t) S8x128.size
    (ori (shapeCast S8x128 (View.ld (Val := Elt F) (e' := .i32) (X) (Rect.unit (s := S80x18432) (k0_off13 t) S8x128.size (k0_off13_inb t h2))) shapeCasts_S8x128_S8x128) (accV v9 (rowT d2 t h2) d3 s 0))
def st1 (v9 : BitVec 32) (d2 : Vec F S144x128 .i32) (d3 : Vec F S320x8192 .i8) (s : Fin k0_t1_loop.trips) (t : BitVec 32) (h2 : k0_chk2 t) (X : Vec F S80x18432 .i32) : Vec F S80x18432 .i32 :=
  VecWindow.put (st0 v9 d2 d3 s t h2 X) (k0_off14 t) S8x128.size
    (ori (shapeCast S8x128 (View.ld (Val := Elt F) (e' := .i32) (st0 v9 d2 d3 s t h2 X) (Rect.unit (s := S80x18432) (k0_off14 t) S8x128.size (k0_off14_inb t h2))) shapeCasts_S8x128_S8x128) (accV v9 (rowT d2 t h2) d3 s 1))
def st2 (v9 : BitVec 32) (d2 : Vec F S144x128 .i32) (d3 : Vec F S320x8192 .i8) (s : Fin k0_t1_loop.trips) (t : BitVec 32) (h2 : k0_chk2 t) (X : Vec F S80x18432 .i32) : Vec F S80x18432 .i32 :=
  VecWindow.put (st1 v9 d2 d3 s t h2 X) (k0_off15 t) S8x128.size
    (ori (shapeCast S8x128 (View.ld (Val := Elt F) (e' := .i32) (st1 v9 d2 d3 s t h2 X) (Rect.unit (s := S80x18432) (k0_off15 t) S8x128.size (k0_off15_inb t h2))) shapeCasts_S8x128_S8x128) (accV v9 (rowT d2 t h2) d3 s 2))
def st3 (v9 : BitVec 32) (d2 : Vec F S144x128 .i32) (d3 : Vec F S320x8192 .i8) (s : Fin k0_t1_loop.trips) (t : BitVec 32) (h2 : k0_chk2 t) (X : Vec F S80x18432 .i32) : Vec F S80x18432 .i32 :=
  VecWindow.put (st2 v9 d2 d3 s t h2 X) (k0_off16 t) S8x128.size
    (ori (shapeCast S8x128 (View.ld (Val := Elt F) (e' := .i32) (st2 v9 d2 d3 s t h2 X) (Rect.unit (s := S80x18432) (k0_off16 t) S8x128.size (k0_off16_inb t h2))) shapeCasts_S8x128_S8x128) (accV v9 (rowT d2 t h2) d3 s 3))
def st4 (v9 : BitVec 32) (d2 : Vec F S144x128 .i32) (d3 : Vec F S320x8192 .i8) (s : Fin k0_t1_loop.trips) (t : BitVec 32) (h2 : k0_chk2 t) (X : Vec F S80x18432 .i32) : Vec F S80x18432 .i32 :=
  VecWindow.put (st3 v9 d2 d3 s t h2 X) (k0_off17 t) S8x128.size
    (ori (shapeCast S8x128 (View.ld (Val := Elt F) (e' := .i32) (st3 v9 d2 d3 s t h2 X) (Rect.unit (s := S80x18432) (k0_off17 t) S8x128.size (k0_off17_inb t h2))) shapeCasts_S8x128_S8x128) (accV v9 (rowT d2 t h2) d3 s 4))
def st5 (v9 : BitVec 32) (d2 : Vec F S144x128 .i32) (d3 : Vec F S320x8192 .i8) (s : Fin k0_t1_loop.trips) (t : BitVec 32) (h2 : k0_chk2 t) (X : Vec F S80x18432 .i32) : Vec F S80x18432 .i32 :=
  VecWindow.put (st4 v9 d2 d3 s t h2 X) (k0_off18 t) S8x128.size
    (ori (shapeCast S8x128 (View.ld (Val := Elt F) (e' := .i32) (st4 v9 d2 d3 s t h2 X) (Rect.unit (s := S80x18432) (k0_off18 t) S8x128.size (k0_off18_inb t h2))) shapeCasts_S8x128_S8x128) (accV v9 (rowT d2 t h2) d3 s 5))
def st6 (v9 : BitVec 32) (d2 : Vec F S144x128 .i32) (d3 : Vec F S320x8192 .i8) (s : Fin k0_t1_loop.trips) (t : BitVec 32) (h2 : k0_chk2 t) (X : Vec F S80x18432 .i32) : Vec F S80x18432 .i32 :=
  VecWindow.put (st5 v9 d2 d3 s t h2 X) (k0_off19 t) S8x128.size
    (ori (shapeCast S8x128 (View.ld (Val := Elt F) (e' := .i32) (st5 v9 d2 d3 s t h2 X) (Rect.unit (s := S80x18432) (k0_off19 t) S8x128.size (k0_off19_inb t h2))) shapeCasts_S8x128_S8x128) (accV v9 (rowT d2 t h2) d3 s 6))
def st7 (v9 : BitVec 32) (d2 : Vec F S144x128 .i32) (d3 : Vec F S320x8192 .i8) (s : Fin k0_t1_loop.trips) (t : BitVec 32) (h2 : k0_chk2 t) (X : Vec F S80x18432 .i32) : Vec F S80x18432 .i32 :=
  VecWindow.put (st6 v9 d2 d3 s t h2 X) (k0_off20 t) S8x128.size
    (ori (shapeCast S8x128 (View.ld (Val := Elt F) (e' := .i32) (st6 v9 d2 d3 s t h2 X) (Rect.unit (s := S80x18432) (k0_off20 t) S8x128.size (k0_off20_inb t h2))) shapeCasts_S8x128_S8x128) (accV v9 (rowT d2 t h2) d3 s 7))
def st8 (v9 : BitVec 32) (d2 : Vec F S144x128 .i32) (d3 : Vec F S320x8192 .i8) (s : Fin k0_t1_loop.trips) (t : BitVec 32) (h2 : k0_chk2 t) (X : Vec F S80x18432 .i32) : Vec F S80x18432 .i32 :=
  VecWindow.put (st7 v9 d2 d3 s t h2 X) (k0_off21 t) S8x128.size
    (ori (shapeCast S8x128 (View.ld (Val := Elt F) (e' := .i32) (st7 v9 d2 d3 s t h2 X) (Rect.unit (s := S80x18432) (k0_off21 t) S8x128.size (k0_off21_inb t h2))) shapeCasts_S8x128_S8x128) (accV v9 (rowT d2 t h2) d3 s 8))
def st9 (v9 : BitVec 32) (d2 : Vec F S144x128 .i32) (d3 : Vec F S320x8192 .i8) (s : Fin k0_t1_loop.trips) (t : BitVec 32) (h2 : k0_chk2 t) (X : Vec F S80x18432 .i32) : Vec F S80x18432 .i32 :=
  VecWindow.put (st8 v9 d2 d3 s t h2 X) (k0_off22 t) S8x128.size
    (ori (shapeCast S8x128 (View.ld (Val := Elt F) (e' := .i32) (st8 v9 d2 d3 s t h2 X) (Rect.unit (s := S80x18432) (k0_off22 t) S8x128.size (k0_off22_inb t h2))) shapeCasts_S8x128_S8x128) (accV v9 (rowT d2 t h2) d3 s 9))

def lastOf (d1 : Vec F S18432 .i32) (t : BitVec 32) (h2 : k0_chk2 t) : BitVec 32 :=
  View.ld (Val := Elt F) (e' := .i32) d1 (Rect.unit (s := S18432) (k0_off23 t) S1.size (k0_off23_inb t h2)) (Shape.Idx.first (numel1_S1.symm ▸ Nat.one_pos))

/-- The tile after `t`: the next one where the last row of `t` lies below the strip's end. -/
def nextT (v hi t : BitVec 32) : BitVec 32 := Scalar.select (Scalar.cmpi .slt v hi) (Scalar.addi t 1#32) t

theorem part30_run (c : Dev nD) (bd : Option ℕ) (i : grid0.Coords) (k0_t1 : Fin k0_t1_loop.trips) (arg7 : BitVec 32) (k0_hw1 : k0_chk1 arg7)
    (arg2 : Memref sig .tc .vmem S144x128 .i32) (harg2 : arg2.IsWhole) (arg3 : Memref sig .tc .vmem S320x8192 .i8) (harg3 : arg3.IsWhole)
    (arg4 : Memref sig .tc .vmem S80x18432 .i32) (harg4 : arg4.IsWhole) (arg1 : Memref sig .tc .smem S18432 .i32) (harg1 : arg1.IsWhole)
    (t : BitVec 32) (fl : BitVec 1) (arg6 v9 v10 : BitVec 32) (h2 : k0_chk2 t) (h3 : ∀ v, k0_chk3 i k0_t1 t v) (q1 q2 q3 : PosShare TreeShare)
    (f1 : arg1.view.ty.Contents (Elt F)) (f2 : arg2.view.ty.Contents (Elt F)) (f3 : arg3.view.ty.Contents (Elt F)) (f4 : arg4.view.ty.Contents (Elt F))
    (K : _ → sProp 𝕄) :
    iprop((arg1.view.loc (c : Thread nD τ) ↦[arg1.view.set]{q1} f1) ∗ (arg2.view.loc (c : Thread nD τ) ↦[arg2.view.set]{q2} f2)
      ∗ (arg3.view.loc (c : Thread nD τ) ↦[arg3.view.set]{q3} f3) ∗ (arg4.view.loc (c : Thread nD τ) ↦[arg4.view.set]{fullShare} f4)
      ∗ (∀ v : Elt F .i32, ∀ g4 : arg4.view.ty.Contents (Elt F), ∀ hc : k0_chk3 i k0_t1 t v, ⌜v = lastOf (arg1.view.read (Elt F) f1) t h2⌝ -∗ ⌜arg4.view.read (Elt F) g4 = st9 v9 (arg2.view.read (Elt F) f2) (arg3.view.read (Elt F) f3) k0_t1 t h2 (arg4.view.read (Elt F) f4)⌝
        -∗ (arg1.view.loc (c : Thread nD τ) ↦[arg1.view.set]{q1} f1) -∗ (arg2.view.loc (c : Thread nD τ) ↦[arg2.view.set]{q2} f2)
        -∗ (arg3.view.loc (c : Thread nD τ) ↦[arg3.view.set]{q3} f3) -∗ (arg4.view.loc (c : Thread nD τ) ↦[arg4.view.set]{fullShare} g4)
        -∗ K ⟨v, hc, Scalar.cmpi .slt v v10, nextT v v10 t, Scalar.minsi (nextT v v10 t) 143#32, Scalar.cmpi .slt (nextT v v10 t) 144#32⟩))
      ⊢ wp frame (wpE (defs₀ (F := F)) Variants.nat c bd) Set.univ (k0_part30 i k0_t1 arg7 k0_hw1 arg2 harg2 arg3 harg3 arg4 harg4 arg1 harg1 t fl arg6 v9 v10) K := by
  simp only [k0_part30_eq_skeleton]; unfold k0_part30_skel
  have h3' := h3
  iintro ⟨H1, H2, H3, H4, HK⟩
  sl_exec
  sl_step
  rw [show part30_run.sl.v1324 arg1 t v10 h2 f1 = Scalar.cmpi .slt (part30_run.sl.r arg1 t h2 f1) v10 from rfl,
    show part30_run.sl.v1326 arg1 t v10 h2 f1 = nextT (part30_run.sl.r arg1 t h2 f1) v10 t from rfl,
    show part30_run.sl.v1327 arg1 t v10 h2 f1 = Scalar.minsi (nextT (part30_run.sl.r arg1 t h2 f1) v10 t) 143#32 from rfl,
    show part30_run.sl.v1328 arg1 t v10 h2 f1 = Scalar.cmpi .slt (nextT (part30_run.sl.r arg1 t h2 f1) v10 t) 144#32 from rfl]
  iapply HK $$ %_ %_ %_ [] [] [H1] [H2] [H3] [H4]
  rotate_left 2
  · iexact H1
  · iexact H2
  · iexact H3
  · iexact H4
  · ipureintro; rfl
  · ipureintro
    have e0 : arg4.view.read (Elt F) (arg4.view.writes (Elt F) f4 (part30_run.sl.H4_1 k0_t1 arg2 arg3 arg4 t v9 h2 f2 f3 f4)) = st0 v9 (arg2.view.read (Elt F) f2) (arg3.view.read (Elt F) f3) k0_t1 t h2 (arg4.view.read (Elt F) f4) := by
      unfold part30_run.sl.H4_1; refine (View.read_writes_cons_put _ _ _ _ _ rfl).trans ?_
      unfold st0
      rw [View.writes_nil]; rfl
    have e1 : arg4.view.read (Elt F) (arg4.view.writes (Elt F) f4 (part30_run.sl.H4_2 k0_t1 arg2 arg3 arg4 t v9 h2 f2 f3 f4)) = st1 v9 (arg2.view.read (Elt F) f2) (arg3.view.read (Elt F) f3) k0_t1 t h2 (arg4.view.read (Elt F) f4) := by
      unfold part30_run.sl.H4_2; refine (View.read_writes_cons_put _ _ _ _ _ rfl).trans ?_
      unfold st1
      rw [← e0]; rfl
    have e2 : arg4.view.read (Elt F) (arg4.view.writes (Elt F) f4 (part30_run.sl.H4_3 k0_t1 arg2 arg3 arg4 t v9 h2 f2 f3 f4)) = st2 v9 (arg2.view.read (Elt F) f2) (arg3.view.read (Elt F) f3) k0_t1 t h2 (arg4.view.read (Elt F) f4) := by
      unfold part30_run.sl.H4_3; refine (View.read_writes_cons_put _ _ _ _ _ rfl).trans ?_
      unfold st2
      rw [← e1]; rfl
    have e3 : arg4.view.read (Elt F) (arg4.view.writes (Elt F) f4 (part30_run.sl.H4_4 k0_t1 arg2 arg3 arg4 t v9 h2 f2 f3 f4)) = st3 v9 (arg2.view.read (Elt F) f2) (arg3.view.read (Elt F) f3) k0_t1 t h2 (arg4.view.read (Elt F) f4) := by
      unfold part30_run.sl.H4_4; refine (View.read_writes_cons_put _ _ _ _ _ rfl).trans ?_
      unfold st3
      rw [← e2]; rfl
    have e4 : arg4.view.read (Elt F) (arg4.view.writes (Elt F) f4 (part30_run.sl.H4_5 k0_t1 arg2 arg3 arg4 t v9 h2 f2 f3 f4)) = st4 v9 (arg2.view.read (Elt F) f2) (arg3.view.read (Elt F) f3) k0_t1 t h2 (arg4.view.read (Elt F) f4) := by
      unfold part30_run.sl.H4_5; refine (View.read_writes_cons_put _ _ _ _ _ rfl).trans ?_
      unfold st4
      rw [← e3]; rfl
    have e5 : arg4.view.read (Elt F) (arg4.view.writes (Elt F) f4 (part30_run.sl.H4_6 k0_t1 arg2 arg3 arg4 t v9 h2 f2 f3 f4)) = st5 v9 (arg2.view.read (Elt F) f2) (arg3.view.read (Elt F) f3) k0_t1 t h2 (arg4.view.read (Elt F) f4) := by
      unfold part30_run.sl.H4_6; refine (View.read_writes_cons_put _ _ _ _ _ rfl).trans ?_
      unfold st5
      rw [← e4]; rfl
    have e6 : arg4.view.read (Elt F) (arg4.view.writes (Elt F) f4 (part30_run.sl.H4_7 k0_t1 arg2 arg3 arg4 t v9 h2 f2 f3 f4)) = st6 v9 (arg2.view.read (Elt F) f2) (arg3.view.read (Elt F) f3) k0_t1 t h2 (arg4.view.read (Elt F) f4) := by
      unfold part30_run.sl.H4_7; refine (View.read_writes_cons_put _ _ _ _ _ rfl).trans ?_
      unfold st6
      rw [← e5]; rfl
    have e7 : arg4.view.read (Elt F) (arg4.view.writes (Elt F) f4 (part30_run.sl.H4_8 k0_t1 arg2 arg3 arg4 t v9 h2 f2 f3 f4)) = st7 v9 (arg2.view.read (Elt F) f2) (arg3.view.read (Elt F) f3) k0_t1 t h2 (arg4.view.read (Elt F) f4) := by
      unfold part30_run.sl.H4_8; refine (View.read_writes_cons_put _ _ _ _ _ rfl).trans ?_
      unfold st7
      rw [← e6]; rfl
    have e8 : arg4.view.read (Elt F) (arg4.view.writes (Elt F) f4 (part30_run.sl.H4_9 k0_t1 arg2 arg3 arg4 t v9 h2 f2 f3 f4)) = st8 v9 (arg2.view.read (Elt F) f2) (arg3.view.read (Elt F) f3) k0_t1 t h2 (arg4.view.read (Elt F) f4) := by
      unfold part30_run.sl.H4_9; refine (View.read_writes_cons_put _ _ _ _ _ rfl).trans ?_
      unfold st8
      rw [← e7]; rfl
    refine (View.read_writes_cons_put _ _ _ _ _ rfl).trans ?_
    unfold st9
    rw [← e8]; rfl

end Cert.Gather.Hand

end
-- ==== Proof.GatherWhile.lean ====
/-
  The loop of the gather over the tiles of one strip, and over the strips of one point.
-/
module

public import proofs.«01_k».proof.Proof.Gen.Gather.Launch
public import proofs.«01_k».proof.Proof.Gen.Gather.Skeleton
public import proofs.«01_k».proof.Proof.Gen.Gather.Loops
public import proofs.«01_k».proof.Proof.Gen.Gather.Points
public import Idealize.ShloMosaic.Lib.Pipeline.Frame
public import Idealize.ShloMosaic.Lib.Tactic
public import Idealize.ShloMosaic.Lib.Transfers
public import Idealize.ShloMosaic.Lib.VecWindow
public import proofs.«01_k».proof.Proof.Gen.GatherReference.Run
public import proofs.«01_k».proof.Proof.Gen.GatherReference.Read
public import proofs.«01_k».proof.Proof.Gen.Pre_rows_sorted

public import proofs.«01_k».proof.Proof.Gather

@[expose] public section

set_option maxRecDepth 16384

noncomputable section

namespace Cert.Gather.Hand

open Cert.Gather Cert.Gather.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable [∀ e, Nonempty (Elt F e)]

/-! ## The side conditions -/

theorem chk1_all : ∀ n : Fin 145, k0_chk1 (BitVec.ofNat 32 n.val) := by decide +kernel
theorem chk2_all : ∀ n : Fin 144, k0_chk2 (BitVec.ofNat 32 n.val) := by decide +kernel

theorem chk1_of (t : BitVec 32) (h : t.toNat ≤ 144) : k0_chk1 t := by
  have := chk1_all ⟨t.toNat, by omega⟩
  rwa [show BitVec.ofNat 32 t.toNat = t from BitVec.eq_of_toNat_eq (by simp)] at this
theorem chk2_of (t : BitVec 32) (h : t.toNat < 144) : k0_chk2 t := by
  have := chk2_all ⟨t.toNat, by omega⟩
  rwa [show BitVec.ofNat 32 t.toNat = t from BitVec.eq_of_toNat_eq (by simp)] at this

theorem andi_left : ∀ (a b : BitVec 1), Scalar.andi a b = 1#1 → a = 1#1 := by decide
theorem andi_right : ∀ (a b : BitVec 1), Scalar.andi a b = 1#1 → b = 1#1 := by decide
theorem andi_one : ∀ (a b : BitVec 1), a = 1#1 → b = 1#1 → Scalar.andi a b = 1#1 := by decide

theorem nextT_cases (v hi t : BitVec 32) : (Scalar.cmpi .slt v hi = 1#1 ∧ nextT v hi t = t + 1#32) ∨ (Scalar.cmpi .slt v hi ≠ 1#1 ∧ nextT v hi t = t) := by
  unfold nextT Scalar.select
  by_cases h : Scalar.cmpi .slt v hi = 1#1
  · exact .inl ⟨h, if_pos h⟩
  · exact .inr ⟨h, if_neg h⟩

theorem toNat_next (t : BitVec 32) (h : t.toNat < 144) : (t + 1#32).toNat = t.toNat + 1 := by
  rw [BitVec.toNat_add]; change (t.toNat + 1) % 2 ^ 32 = _; omega

theorem nextT_le (v hi t : BitVec 32) (h : t.toNat < 144) : (nextT v hi t).toNat ≤ 144 := by
  rcases nextT_cases v hi t with ⟨-, e⟩ | ⟨-, e⟩
  · rw [e, toNat_next t h]; omega
  · rw [e]; omega

/-- The first table row of the strip and the first beyond it. -/
abbrev loW (i : grid0.Coords) (s : Fin k0_t1_loop.trips) : BitVec 32 :=
  Scalar.addi (Scalar.muli (BitVec.ofNat 32 (i 0).val) 8192#32) (Scalar.muli (Scf.iv 0#32 1#32 s) 1024#32)
abbrev hiW (i : grid0.Coords) (s : Fin k0_t1_loop.trips) : BitVec 32 := Scalar.addi (loW i s) 1024#32

theorem chk3_of (i : grid0.Coords) (s : Fin k0_t1_loop.trips) (t v : BitVec 32) (h : t.toNat < 144) : k0_chk3 i s t v :=
  chk1_of (nextT v (hiW i s) t) (nextT_le _ _ _ h)

/-- The first row of tile `t` (of the last tile beyond it). -/
def firstOf (d1 : Vec F S18432 .i32) (t : BitVec 32) (h1 : k0_chk1 t) : BitVec 32 :=
  View.ld (Val := Elt F) (e' := .i32) d1 (Rect.unit (s := S18432) (k0_off1 t) S1.size (k0_off1_inb t h1)) (Shape.Idx.first (numel1_S1.symm ▸ Nat.one_pos))

/-- Tile `t` is worked on: there is one, and its first row lies below the strip's end. -/
def flagOf (d1 : Vec F S18432 .i32) (hi t : BitVec 32) (h1 : k0_chk1 t) : BitVec 1 :=
  Scalar.andi (Scalar.cmpi .slt t 144#32) (Scalar.cmpi .slt (firstOf d1 t h1) hi)

/-- What holds around the steps of the loop over tiles: `P` before a step, `Q` after the last. -/
structure Steps (i : grid0.Coords) (s : Fin k0_t1_loop.trips) (d1 : Vec F S18432 .i32) (d2 : Vec F S144x128 .i32) (d3 : Vec F S320x8192 .i8)
    (P : BitVec 32 → BitVec 1 → Vec F S80x18432 .i32 → Prop) (Q : BitVec 32 → Vec F S80x18432 .i32 → Prop) : Prop where
  lt : ∀ t X, P t 1#1 X → t.toNat < 144
  step : ∀ t X (h2 : k0_chk2 t) (h1 : k0_chk1 (nextT (lastOf d1 t h2) (hiW i s) t)), P t 1#1 X →
    P (nextT (lastOf d1 t h2) (hiW i s) t)
      (Scalar.andi (Scalar.cmpi .slt (lastOf d1 t h2) (hiW i s)) (flagOf d1 (hiW i s) (nextT (lastOf d1 t h2) (hiW i s) t) h1))
      (st9 (loW i s) d2 d3 s t h2 X)
  done : ∀ t fl X, fl ≠ 1#1 → P t fl X → Q t X

theorem defs₀_while (i : grid0.Coords) (s : Fin k0_t1_loop.trips) (arg7 : BitVec 32) (k0_hw1 : k0_chk1 arg7)
    (arg2 : Memref sig .tc .vmem S144x128 .i32) (harg2 : arg2.IsWhole) (arg3 : Memref sig .tc .vmem S320x8192 .i8) (harg3 : arg3.IsWhole)
    (arg4 : Memref sig .tc .vmem S80x18432 .i32) (harg4 : arg4.IsWhole) (arg1 : Memref sig .tc .smem S18432 .i32) (harg1 : arg1.IsWhole) (t : BitVec 32) (fl : BitVec 1) :
    defs₀ (F := F) .tc (1 : (Λ₀ F).Label) ⟨i, s, arg7, k0_hw1, arg2, harg2, arg3, harg3, arg4, harg4, arg1, harg1, t, fl⟩
      = cc0_while1 i s arg7 k0_hw1 arg2 harg2 arg3 harg3 arg4 harg4 arg1 harg1 t fl := by
  unfold defs₀; rw [Defs.onTc_tc]

/-- A call of the loop runs its body at a variant below the caller's. -/
theorem call_while (c : Dev nD) (bd : Option ℕ) (v : ℕ) (hv : ∀ u ∈ bd, v < u) (i : grid0.Coords) (s : Fin k0_t1_loop.trips) (arg7 : BitVec 32) (k0_hw1 : k0_chk1 arg7)
    (arg2 : Memref sig .tc .vmem S144x128 .i32) (harg2 : arg2.IsWhole) (arg3 : Memref sig .tc .vmem S320x8192 .i8) (harg3 : arg3.IsWhole)
    (arg4 : Memref sig .tc .vmem S80x18432 .i32) (harg4 : arg4.IsWhole) (arg1 : Memref sig .tc .smem S18432 .i32) (harg1 : arg1.IsWhole) (t : BitVec 32) (fl : BitVec 1)
    {α : Type} (k : BitVec 32 × BitVec 1 → Prog (TpuEff nD τ sig (Elt F) (Λ₀ F) .tc) α) (Q : α → sProp 𝕄) :
    wp frame (wpE (defs₀ (F := F)) Variants.nat c (some v)) Set.univ (cc0_while1 i s arg7 k0_hw1 arg2 harg2 arg3 harg3 arg4 harg4 arg1 harg1 t fl)
        (fun x => wp frame (wpE (defs₀ (F := F)) Variants.nat c bd) Set.univ (k x) Q)
      ⊢ wp frame (wpE (defs₀ (F := F)) Variants.nat c bd) Set.univ
          (.op (.call (1 : (Λ₀ F).Label) ⟨i, s, arg7, k0_hw1, arg2, harg2, arg3, harg3, arg4, harg4, arg1, harg1, t, fl⟩) k) Q := by
  have h := wp_call (defs := defs₀ (F := F)) (Q := Q) (k := k) (Γ := PendingWaitsCtx.empty) Variants.nat (c : Thread nD τ) bd Set.univ (ℓ := (1 : (Λ₀ F).Label)) (a := ⟨i, s, arg7, k0_hw1, arg2, harg2, arg3, harg3, arg4, harg4, arg1, harg1, t, fl⟩) v hv
  rw [← defs₀_while]
  exact h

theorem while_run (c : Dev nD) (i : grid0.Coords) (s : Fin k0_t1_loop.trips) (arg7 : BitVec 32) (k0_hw1 : k0_chk1 arg7)
    (arg2 : Memref sig .tc .vmem S144x128 .i32) (harg2 : arg2.IsWhole) (arg3 : Memref sig .tc .vmem S320x8192 .i8) (harg3 : arg3.IsWhole)
    (arg4 : Memref sig .tc .vmem S80x18432 .i32) (harg4 : arg4.IsWhole) (arg1 : Memref sig .tc .smem S18432 .i32) (harg1 : arg1.IsWhole) (q1 q2 q3 : PosShare TreeShare)
    (f1 : arg1.view.ty.Contents (Elt F)) (f2 : arg2.view.ty.Contents (Elt F)) (f3 : arg3.view.ty.Contents (Elt F))
    (P : BitVec 32 → BitVec 1 → Vec F S80x18432 .i32 → Prop) (Q : BitVec 32 → Vec F S80x18432 .i32 → Prop)
    (hP : Steps i s (arg1.view.read (Elt F) f1) (arg2.view.read (Elt F) f2) (arg3.view.read (Elt F) f3) P Q) (n : ℕ) :
    ∀ (t : BitVec 32) (fl : BitVec 1) (f4 : arg4.view.ty.Contents (Elt F)) (K : _ → sProp 𝕄), P t fl (arg4.view.read (Elt F) f4) → (fl = 1#1 → 145 ≤ n + t.toNat) →
    iprop((arg1.view.loc (c : Thread nD τ) ↦[arg1.view.set]{q1} f1) ∗ (arg2.view.loc (c : Thread nD τ) ↦[arg2.view.set]{q2} f2)
      ∗ (arg3.view.loc (c : Thread nD τ) ↦[arg3.view.set]{q3} f3) ∗ (arg4.view.loc (c : Thread nD τ) ↦[arg4.view.set]{fullShare} f4)
      ∗ (∀ t' : BitVec 32, ∀ fl' : BitVec 1, ∀ g4 : arg4.view.ty.Contents (Elt F), ⌜Q t' (arg4.view.read (Elt F) g4)⌝
        -∗ (arg1.view.loc (c : Thread nD τ) ↦[arg1.view.set]{q1} f1) -∗ (arg2.view.loc (c : Thread nD τ) ↦[arg2.view.set]{q2} f2)
        -∗ (arg3.view.loc (c : Thread nD τ) ↦[arg3.view.set]{q3} f3) -∗ (arg4.view.loc (c : Thread nD τ) ↦[arg4.view.set]{fullShare} g4)
        -∗ K (t', fl')))
      ⊢ wp frame (wpE (defs₀ (F := F)) Variants.nat c (some n)) Set.univ (cc0_while1 i s arg7 k0_hw1 arg2 harg2 arg3 harg3 arg4 harg4 arg1 harg1 t fl) K := by
  induction n with
  | zero =>
    intro t fl f4 K h hn
    have hfl : fl ≠ 1#1 := fun e => by
      have h1 := hn e; subst e; have h2 := hP.lt t _ h; omega
    simp only [cc0_while1_eq_skeleton]; unfold cc0_while1_skel
    rw [if_neg hfl]
    iintro ⟨H1, H2, H3, H4, HK⟩
    sl_step
    iapply HK $$ %_ %_ %_ [] [H1] [H2] [H3]
    rotate_left 1
    · iexact H1
    · iexact H2
    · iexact H3
    · iexact H4
    · ipureintro; exact hP.done _ _ _ hfl h
  | succ n ih =>
    intro t fl f4 K h hn
    by_cases hfl : fl = 1#1
    · subst hfl
      have ht := hP.lt t _ h
      simp only [cc0_while1_eq_skeleton]; unfold cc0_while1_skel
      rw [if_pos rfl, wp_bind]
      iintro ⟨H1, H2, H3, H4, HK⟩
      iapply (part30_run c (some (n + 1)) i s arg7 k0_hw1 arg2 harg2 arg3 harg3 arg4 harg4 arg1 harg1 t 1#1 _ _ _ (chk2_of t ht) (fun v => chk3_of i s t v ht) q1 q2 q3 f1 f2 f3 f4 _)
      isplitl [H1]; · iexact H1
      isplitl [H2]; · iexact H2
      isplitl [H3]; · iexact H3
      isplitl [H4]; · iexact H4
      iintro %v %g4 %hc %ev %eg H1 H2 H3 H4
      subst ev
      have h1 := chk1_of (nextT (lastOf (arg1.view.read (Elt F) f1) t (chk2_of t ht)) (hiW i s) t) (nextT_le _ _ _ ht)
      have hs := hP.step t _ (chk2_of t ht) h1 h
      have eg' : arg4.view.read (Elt F) g4 = st9 (loW i s) (arg2.view.read (Elt F) f2) (arg3.view.read (Elt F) f3) s t (chk2_of t ht) (arg4.view.read (Elt F) f4) := eg
      rw [← eg'] at hs
      sl_exec
      have e34 : while_run.sl.v1334 i s arg1 f1 t ht hc
          = Scalar.andi (Scalar.cmpi .slt (lastOf (arg1.view.read (Elt F) f1) t (chk2_of t ht)) (hiW i s))
            (flagOf (arg1.view.read (Elt F) f1) (hiW i s) (nextT (lastOf (arg1.view.read (Elt F) f1) t (chk2_of t ht)) (hiW i s) t) h1) := rfl
      rw [e34]
      iapply (call_while c (some (n + 1)) n (fun u hu => by cases hu; exact Nat.lt_succ_self n) i s arg7 k0_hw1 arg2 harg2 arg3 harg3 arg4 harg4 arg1 harg1)
      iapply (ih _ _ g4 _ hs (fun hf => by
        have hf' := hn rfl
        rcases nextT_cases (lastOf (arg1.view.read (Elt F) f1) t (chk2_of t ht)) (hiW i s) t with ⟨hd, e⟩ | ⟨hd, e⟩
        · rw [e, toNat_next t ht]; omega
        · exact absurd (andi_left _ _ hf) hd))
      isplitl [H1]; · iexact H1
      isplitl [H2]; · iexact H2
      isplitl [H3]; · iexact H3
      isplitl [H4]; · iexact H4
      iintro %t' %fl' %g4' %hQ H1 H2 H3 H4
      sl_step
      iapply HK $$ %_ %_ %_ [] [H1] [H2] [H3]
      rotate_left 1
      · iexact H1
      · iexact H2
      · iexact H3
      · iexact H4
      · ipureintro; exact hQ
    · simp only [cc0_while1_eq_skeleton]; unfold cc0_while1_skel
      rw [if_neg hfl]
      iintro ⟨H1, H2, H3, H4, HK⟩
      sl_step
      iapply HK $$ %_ %_ %_ [] [H1] [H2] [H3]
      rotate_left 1
      · iexact H1
      · iexact H2
      · iexact H3
      · iexact H4
      · ipureintro; exact hP.done _ _ _ hfl h

/-- What holds around the strips of a point: `R k` before strip `k`, of the tile reached and the result. -/
structure Strips (i : grid0.Coords) (d1 : Vec F S18432 .i32) (d2 : Vec F S144x128 .i32) (d3 : Vec F S320x8192 .i8)
    (R : ℕ → BitVec 32 → Vec F S80x18432 .i32 → Prop) : Prop where
  le : ∀ k t X, R k t X → t.toNat ≤ 144
  strip : ∀ s : Fin k0_t1_loop.trips, ∃ (P : BitVec 32 → BitVec 1 → Vec F S80x18432 .i32 → Prop) (Q : BitVec 32 → Vec F S80x18432 .i32 → Prop), Steps i s d1 d2 d3 P Q
    ∧ (∀ t X h1, R s.val t X → P t (flagOf d1 (hiW i s) t h1) X) ∧ ∀ t X, Q t X → R (s.val + 1) t X

/-- What the strips hold: the three inputs as they are, the result at something that `R` allows. -/
def stripCtx (c : Dev nD) (arg1 : Memref sig .tc .smem S18432 .i32) (arg2 : Memref sig .tc .vmem S144x128 .i32) (arg3 : Memref sig .tc .vmem S320x8192 .i8)
    (arg4 : Memref sig .tc .vmem S80x18432 .i32) (q1 q2 q3 : PosShare TreeShare)
    (f1 : arg1.view.ty.Contents (Elt F)) (f2 : arg2.view.ty.Contents (Elt F)) (f3 : arg3.view.ty.Contents (Elt F))
    (R : ℕ → BitVec 32 → Vec F S80x18432 .i32 → Prop) (k : ℕ) (t : BitVec 32) : sProp 𝕄 :=
  iprop((arg1.view.loc (c : Thread nD τ) ↦[arg1.view.set]{q1} f1) ∗ (arg2.view.loc (c : Thread nD τ) ↦[arg2.view.set]{q2} f2)
      ∗ (arg3.view.loc (c : Thread nD τ) ↦[arg3.view.set]{q3} f3)
      ∗ (∃ g4, ⌜R k t (arg4.view.read (Elt F) g4)⌝ ∗ (arg4.view.loc (c : Thread nD τ) ↦[arg4.view.set]{fullShare} g4)))

theorem strip_run (c : Dev nD) (i : grid0.Coords) (arg1 : Memref sig .tc .smem S18432 .i32) (harg1 : arg1.IsWhole) (arg2 : Memref sig .tc .vmem S144x128 .i32) (harg2 : arg2.IsWhole)
    (arg3 : Memref sig .tc .vmem S320x8192 .i8) (harg3 : arg3.IsWhole) (arg4 : Memref sig .tc .vmem S80x18432 .i32) (harg4 : arg4.IsWhole)
    (arg5 : Memref sig .tc .smem S1 .i32) (harg5 : arg5.IsWhole) (q1 q2 q3 : PosShare TreeShare)
    (f1 : arg1.view.ty.Contents (Elt F)) (f2 : arg2.view.ty.Contents (Elt F)) (f3 : arg3.view.ty.Contents (Elt F))
    (R : ℕ → BitVec 32 → Vec F S80x18432 .i32 → Prop)
    (hR : Strips i (arg1.view.read (Elt F) f1) (arg2.view.read (Elt F) f2) (arg3.view.read (Elt F) f3) R) (s : Fin k0_t1_loop.trips) (t : BitVec 32) :
    stripCtx c arg1 arg2 arg3 arg4 q1 q2 q3 f1 f2 f3 R s.val t
      ⊢ wp frame (wpE (defs₀ (F := F)) Variants.nat c none) Set.univ
          (k0_t1_body i arg1 harg1 arg2 harg2 arg3 harg3 arg4 harg4 arg5 harg5 (BitVec.ofNat 32 (i 0).val) s t)
          (fun t' => stripCtx c arg1 arg2 arg3 arg4 q1 q2 q3 f1 f2 f3 R (s.val + 1) t') := by
  unfold stripCtx k0_t1_body
  iintro ⟨H1, H2, H3, ⟨%g4, %hX, H4⟩⟩
  have h1 : k0_chk1 t := chk1_of t (hR.le _ _ _ hX)
  obtain ⟨P, Q, hP, hin, hout⟩ := hR.strip s
  sl_exec
  have e17 : strip_run.sl.v17 i arg1 f1 s t h1 = flagOf (arg1.view.read (Elt F) f1) (hiW i s) t h1 := rfl
  rw [e17]
  iapply (call_while c none 145 (fun u hu => by cases hu) i s t h1 arg2 harg2 arg3 harg3 arg4 harg4 arg1 harg1)
  iapply (while_run c i s t h1 arg2 harg2 arg3 harg3 arg4 harg4 arg1 harg1 q1 q2 q3 f1 f2 f3 P Q hP 145 t _ g4 _ (hin t _ h1 hX) (fun _ => by omega))
  isplitl [H1]; · iexact H1
  isplitl [H2]; · iexact H2
  isplitl [H3]; · iexact H3
  isplitl [H4]; · iexact H4
  iintro %t' %fl' %g4' %hQ H1 H2 H3 H4
  dsimp only
  sl_step
  isplitl [H1]; · iexact H1
  isplitl [H2]; · iexact H2
  isplitl [H3]; · iexact H3
  iexists g4'
  isplitr; swap; · iexact H4
  ipureintro; exact hout _ _ hQ

/-- The first point starts the pointer and the result at zero. -/
abbrev firstW (i : grid0.Coords) : Prop :=
  Scalar.cmpi .ne (Scalar.extui (Scalar.cmpi .eq (BitVec.ofNat 32 (i 0).val) 0#32) : BitVec 32) 0#32 = 1#1

theorem gather_body_run (c : Dev nD) (i : grid0.Coords) (arg1 : Memref sig .tc .smem S18432 .i32) (harg1 : arg1.IsWhole) (arg2 : Memref sig .tc .vmem S144x128 .i32) (harg2 : arg2.IsWhole)
    (arg3 : Memref sig .tc .vmem S320x8192 .i8) (harg3 : arg3.IsWhole) (arg4 : Memref sig .tc .vmem S80x18432 .i32) (harg4 : arg4.IsWhole)
    (arg5 : Memref sig .tc .smem S1 .i32) (harg5 : arg5.IsWhole) (q1 q2 q3 : PosShare TreeShare)
    (d1 : Vec F S18432 .i32) (d2 : Vec F S144x128 .i32) (d3 : Vec F S320x8192 .i8) (d4 : Vec F S80x18432 .i32) (p : BitVec 32)
    (R : ℕ → BitVec 32 → Vec F S80x18432 .i32 → Prop) (hR : Strips i d1 d2 d3 R)
    (h0 : firstW i → R 0 0#32 (fun _ => 0#32)) (hs : ¬ firstW i → R 0 p d4) (K : _ → sProp 𝕄) :
    iprop(owns (c : Thread nD τ) arg1 q1 d1 ∗ owns (c : Thread nD τ) arg2 q2 d2 ∗ owns (c : Thread nD τ) arg3 q3 d3
      ∗ owns (c : Thread nD τ) arg4 fullShare d4 ∗ owns (c : Thread nD τ) arg5 fullShare (fun _ => p : Vec F S1 .i32)
      ∗ (∀ r, ∀ p' : BitVec 32, ∀ X : Vec F S80x18432 .i32, ⌜R k0_t1_loop.trips p' X⌝ -∗ owns (c : Thread nD τ) arg1 q1 d1 -∗ owns (c : Thread nD τ) arg2 q2 d2
        -∗ owns (c : Thread nD τ) arg3 q3 d3 -∗ owns (c : Thread nD τ) arg4 fullShare X
        -∗ owns (c : Thread nD τ) arg5 fullShare (fun _ => p' : Vec F S1 .i32) -∗ K r))
      ⊢ wp frame (wpE (defs₀ (F := F)) Variants.nat c none) Set.univ (cc0_tc_gather i arg1 harg1 arg2 harg2 arg3 harg3 arg4 harg4 arg5 harg5) K := by
  simp only [cc0_tc_gather_eq_skeleton]; unfold cc0_tc_gather_skel
  have o1 := @owns_of F _ _ c _ _ _ arg1 q1
  have o2 := @owns_of F _ _ c _ _ _ arg2 q2
  have o3 := @owns_of F _ _ c _ _ _ arg3 q3
  have o4 := @owns_of F _ _ c _ _ _ arg4 fullShare
  have o5 := @owns_of F _ _ c _ _ _ arg5 fullShare
  unfold owns at *
  iintro ⟨⟨%f1, %h1, H1⟩, ⟨%f2, %h2, H2⟩, ⟨%f3, %h3, H3⟩, ⟨%f4, %h4, H4⟩, ⟨%f5, %h5, H5⟩, Hk⟩
  subst h1 h2 h3 h4
  by_cases hf : firstW i
  · rw [dif_pos hf]
    sl_exec
    sl_for (fun k t => stripCtx c arg1 arg2 arg3 arg4 q1 q2 q3 f1 f2 f3 R k t) $$ [H1 H2 H3 H4]
    · exact fun k t => strip_run c i arg1 harg1 arg2 harg2 arg3 harg3 arg4 harg4 arg5 harg5 q1 q2 q3 f1 f2 f3 R hR k t
    · unfold stripCtx
      isplitl [H1]; · iexact H1
      isplitl [H2]; · iexact H2
      isplitl [H3]; · iexact H3
      iexists _
      isplitr; swap; · iexact H4
      ipureintro
      have e : arg4.view.read (Elt F) (arg4.view.writes (Elt F) arg4.view.junk (gather_body_run.sl.H4_1 (F := F))) = fun _ => 0#32 := by
        unfold gather_body_run.sl.H4_1; exact (View.read_writes_full _ _ _ _ _).trans (by unfold k0_pay1; rfl)
      rw [e]; exact h0 hf
    iintro %acc HL
    unfold stripCtx
    icases HL with ⟨H1, H2, H3, ⟨%g4, %hX, H4⟩⟩
    sl_exec
    sl_step
    iapply Hk $$ %_ %acc %(arg4.view.read (Elt F) g4) [] [H1] [H2] [H3] [H4]
    · ipureintro; exact hX
    · iapply (o1 _ _ rfl) $$ H1
    · iapply (o2 _ _ rfl) $$ H2
    · iapply (o3 _ _ rfl) $$ H3
    · iapply (o4 _ _ rfl) $$ H4
    iapply (o5 _ _ ?_) $$ H5
    exact View.read_writes_full _ _ _ _ _
  · rw [dif_neg hf]
    sl_exec
    sl_for (fun k t => stripCtx c arg1 arg2 arg3 arg4 q1 q2 q3 f1 f2 f3 R k t) $$ [H1 H2 H3 H4]
    · exact fun k t => strip_run c i arg1 harg1 arg2 harg2 arg3 harg3 arg4 harg4 arg5 harg5 q1 q2 q3 f1 f2 f3 R hR k t
    · unfold stripCtx
      isplitl [H1]; · iexact H1
      isplitl [H2]; · iexact H2
      isplitl [H3]; · iexact H3
      iexists _
      isplitr; swap; · iexact H4
      ipureintro
      have e : gather_body_run.sl.r_1 c arg5 f5 = p := congrFun h5 _
      rw [e]; exact hs hf
    iintro %acc HL
    unfold stripCtx
    icases HL with ⟨H1, H2, H3, ⟨%g4, %hX, H4⟩⟩
    sl_exec
    sl_step
    iapply Hk $$ %_ %acc %(arg4.view.read (Elt F) g4) [] [H1] [H2] [H3] [H4]
    · ipureintro; exact hX
    · iapply (o1 _ _ rfl) $$ H1
    · iapply (o2 _ _ rfl) $$ H2
    · iapply (o3 _ _ rfl) $$ H3
    · iapply (o4 _ _ rfl) $$ H4
    iapply (o5 _ _ ?_) $$ H5
    exact View.read_writes_full _ _ _ _ _

end Cert.Gather.Hand

end
-- ==== Proof.GatherVals.lean ====
/-
  The value of one step of the gather, read at an element.
-/
module

public import proofs.«01_k».proof.Proof.Gather
public import proofs.«01_k».proof.Proof.GatherWhile
public import Idealize.ShloMosaic.Lib.Pointwise
public import Idealize.ShloMosaic.Lib.BitcastFour
public import Idealize.ShloMosaic.Lib.WordCmp
public import Idealize.ShloMosaic.Lib.Affine

@[expose] public section

set_option maxRecDepth 16384

noncomputable section

namespace Cert.Gather.Hand

open Cert.Gather Cert.Gather.Gen
open Idealize.ShloMosaic Idealize.ShloMosaic.TcCoe Idealize.ShloMosaic.Tactic

variable {F : FTy → Type} [FloatOps F]

/-! ## Words -/

/-- The lane of a row within its block of 128. -/
theorem and_127 (u : BitVec 32) : (u &&& 127#32).toNat = u.toNat % 128 := by
  rw [BitVec.toNat_and]; exact Nat.and_two_pow_sub_one_eq_mod u.toNat 7

theorem toNat_sshr7 (u : BitVec 32) (h : u.toNat < 2 ^ 31) : (u.sshiftRight 7).toNat = u.toNat / 128 := by
  have hm : u.msb = false := by rw [BitVec.msb_eq_false_iff_two_mul_lt]; omega
  rw [BitVec.sshiftRight_eq_of_msb_false hm, BitVec.toNat_ushiftRight, Nat.shiftRight_eq_div_pow]

/-- A row lies in block `b` of a strip when its block number, counted from the strip's first, is `b`. -/
theorem block_iff (u lo : BitVec 32) (b : ℕ) (hu : u.toNat < 2 ^ 31) (hl : lo.toNat < 2 ^ 31) (hb : b < 8) :
    (u.sshiftRight 7 - lo.sshiftRight 7 = BitVec.ofNat 32 b) ↔ u.toNat / 128 = lo.toNat / 128 + b := by
  have e1 := toNat_sshr7 u hu
  have e2 := toNat_sshr7 lo hl
  rw [← BitVec.toNat_inj, BitVec.toNat_sub, BitVec.toNat_ofNat, e1, e2]
  omega

/-! ## Eight words of the tile -/

theorem pay2_apply (v20 : Vec F S1x128 .i32) (r : Fin 8) (l : Fin 128) : k0_pay2 v20 (ix2 r l) = v20 (ix2 (0 : Fin 1) l) := by
  pointwise [k0_pay2]

theorem pay3_apply (v20 : Vec F S1x128 .i32) (r : Fin 8) (l : Fin 128) : k0_pay3 v20 (ix2 r l) = v20 (ix2 (0 : Fin 1) l) &&& 127#32 := by
  pointwise [k0_pay3, k0_pay2]
  rfl

theorem pay4_apply (v9 : BitVec 32) (v20 : Vec F S1x128 .i32) (r : Fin 8) (l : Fin 128) :
    k0_pay4 v9 v20 (ix2 r l) = (v20 (ix2 (0 : Fin 1) l)).sshiftRight 7 - v9.sshiftRight 7 := by
  pointwise [k0_pay4, k0_pay2]
  rfl

theorem toInt_small' (w : BitVec 32) (h : w.toNat < 2 ^ 31) : w.toInt = (w.toNat : ℤ) := by
  rw [BitVec.toInt_eq_toNat_cond, if_pos (by omega)]

/-- A comparison of two words below `2 ^ 31`. -/
theorem slt_iff (a b : BitVec 32) (ha : a.toNat < 2 ^ 31) (hb : b.toNat < 2 ^ 31) : Scalar.cmpi .slt a b = 1#1 ↔ a.toNat < b.toNat := by
  change IntOp.cmpi .slt a b = 1#1 ↔ _
  rw [IntOp.cmpi_slt, toInt_small' a ha, toInt_small' b hb]; omega

theorem slt_zero' (w : BitVec 32) (h : w.toNat < 2 ^ 31) : ¬ Scalar.cmpi .slt w 0#32 = 1#1 := by
  rw [slt_iff w 0#32 h (by decide)]; exact Nat.not_lt_zero _

theorem sel_apply (v9 : BitVec 32) (v20 : Vec F S1x128 .i32) (b : BitVec 32) (x : Vec F S32x128 .i8) (acc : IVec S8x128 32) (r : Fin 8) (l : Fin 128) :
    sel v9 v20 b x acc (ix2 r l)
      = if (v20 (ix2 (0 : Fin 1) l)).sshiftRight 7 - v9.sshiftRight 7 = b
        then bitcast S8x128 32 x bitcasts_S32x128_w8_S8x128_w32 (ix2 r (⟨(v20 (ix2 (0 : Fin 1) l)).toNat % 128, Nat.mod_lt _ (by decide)⟩ : Fin 128))
        else acc (ix2 r l) := by
  unfold sel
  have hidx : ∀ j : S8x128.Idx, shapeCast S8x128 (shapeCast S8x128x1 (select (cmpi .slt (k0_pay3 v20) (broadcast S8x128 0#32)) (addi (k0_pay3 v20) (broadcast S8x128 128#32)) (k0_pay3 v20))
        shapeCasts_S8x128_S8x128x1) shapeCasts_S8x128x1_S8x128 j = k0_pay3 v20 j := by
    intro j
    rw [shapeCast_comp, shapeCast_id]
    change Scalar.select (Scalar.cmpi .slt (k0_pay3 v20 j) 0#32) (Scalar.addi (k0_pay3 v20 j) 128#32) (k0_pay3 v20 j) = _
    have hj : j = ix2 (⟨(j 0).val, (j 0).isLt⟩ : Fin 8) (⟨(j 1).val, (j 1).isLt⟩ : Fin 128) := by
      funext a
      match a with
      | ⟨0, _⟩ => rfl
      | ⟨1, _⟩ => rfl
    have hn : (k0_pay3 v20 j).toNat < 128 := by
      rw [hj, pay3_apply, and_127]; exact Nat.mod_lt _ (by decide)
    unfold Scalar.select
    rw [if_neg]; exact slt_zero' _ (by omega)
  have hx : shapeCast S32x128 x shapeCasts_S32x128_S32x128 = x := shapeCast_id _ _
  rw [hx]
  generalize bitcast S8x128 32 x bitcasts_S32x128_w8_S8x128_w32 = B
  generalize hI : shapeCast S8x128 (shapeCast S8x128x1 (select (cmpi .slt (k0_pay3 v20) (broadcast S8x128 0#32)) (addi (k0_pay3 v20) (broadcast S8x128 128#32)) (k0_pay3 v20))
        shapeCasts_S8x128_S8x128x1) shapeCasts_S8x128x1_S8x128 = I at hidx ⊢
  have hg : dynamicGather 1 B I (ix2 r l) = B (ix2 r (⟨(v20 (ix2 (0 : Fin 1) l)).toNat % 128, Nat.mod_lt _ (by decide)⟩ : Fin 128)) := by
    refine (dynamicGather_apply _ _ _ _).trans (congrArg B (funext fun a => ?_))
    match a with
    | ⟨0, _⟩ => rfl
    | ⟨1, _⟩ => exact Fin.ext (by
        change (I (ix2 r l)).toNat % 128 = _
        rw [hidx, pay3_apply, and_127]; exact Nat.mod_mod _ _)
  rw [← hg, ← pay4_apply v9 v20 r l]
  change Scalar.select (Scalar.cmpi .eq (k0_pay4 v9 v20 (ix2 r l)) b) (dynamicGather 1 B I (ix2 r l)) (acc (ix2 r l)) = _
  unfold Scalar.select
  by_cases h : k0_pay4 v9 v20 (ix2 r l) = b
  · rw [if_pos h, if_pos]; exact IntOp.cmpi_eq.mpr h
  · rw [if_neg h, if_neg]; exact fun h' => h (IntOp.cmpi_eq.mp h')

/-! ## Where the steps read and write -/

theorem trips_eq : k0_t1_loop.trips = 8 := by decide +kernel

theorem off3_eq : ∀ (s : Fin k0_t1_loop.trips) (b : Fin 8), k0_off3 s (BitVec.ofNat 32 (128 * b.val)) = ![0, 1024 * s.val + 128 * b.val] := by decide +kernel
theorem off4_eq : ∀ (s : Fin k0_t1_loop.trips) (b : Fin 8), k0_off4 s (BitVec.ofNat 32 (128 * b.val)) = ![32, 1024 * s.val + 128 * b.val] := by decide +kernel
theorem off5_eq : ∀ (s : Fin k0_t1_loop.trips) (b : Fin 8), k0_off5 s (BitVec.ofNat 32 (128 * b.val)) = ![64, 1024 * s.val + 128 * b.val] := by decide +kernel
theorem off6_eq : ∀ (s : Fin k0_t1_loop.trips) (b : Fin 8), k0_off6 s (BitVec.ofNat 32 (128 * b.val)) = ![96, 1024 * s.val + 128 * b.val] := by decide +kernel
theorem off7_eq : ∀ (s : Fin k0_t1_loop.trips) (b : Fin 8), k0_off7 s (BitVec.ofNat 32 (128 * b.val)) = ![128, 1024 * s.val + 128 * b.val] := by decide +kernel
theorem off8_eq : ∀ (s : Fin k0_t1_loop.trips) (b : Fin 8), k0_off8 s (BitVec.ofNat 32 (128 * b.val)) = ![160, 1024 * s.val + 128 * b.val] := by decide +kernel
theorem off9_eq : ∀ (s : Fin k0_t1_loop.trips) (b : Fin 8), k0_off9 s (BitVec.ofNat 32 (128 * b.val)) = ![192, 1024 * s.val + 128 * b.val] := by decide +kernel
theorem off10_eq : ∀ (s : Fin k0_t1_loop.trips) (b : Fin 8), k0_off10 s (BitVec.ofNat 32 (128 * b.val)) = ![224, 1024 * s.val + 128 * b.val] := by decide +kernel
theorem off11_eq : ∀ (s : Fin k0_t1_loop.trips) (b : Fin 8), k0_off11 s (BitVec.ofNat 32 (128 * b.val)) = ![256, 1024 * s.val + 128 * b.val] := by decide +kernel
theorem off12_eq : ∀ (s : Fin k0_t1_loop.trips) (b : Fin 8), k0_off12 s (BitVec.ofNat 32 (128 * b.val)) = ![288, 1024 * s.val + 128 * b.val] := by decide +kernel
theorem off13_all : ∀ t : Fin 144, k0_off13 (BitVec.ofNat 32 t.val) = ![0, 128 * t.val] := by decide +kernel
theorem off14_all : ∀ t : Fin 144, k0_off14 (BitVec.ofNat 32 t.val) = ![8, 128 * t.val] := by decide +kernel
theorem off15_all : ∀ t : Fin 144, k0_off15 (BitVec.ofNat 32 t.val) = ![16, 128 * t.val] := by decide +kernel
theorem off16_all : ∀ t : Fin 144, k0_off16 (BitVec.ofNat 32 t.val) = ![24, 128 * t.val] := by decide +kernel
theorem off17_all : ∀ t : Fin 144, k0_off17 (BitVec.ofNat 32 t.val) = ![32, 128 * t.val] := by decide +kernel
theorem off18_all : ∀ t : Fin 144, k0_off18 (BitVec.ofNat 32 t.val) = ![40, 128 * t.val] := by decide +kernel
theorem off19_all : ∀ t : Fin 144, k0_off19 (BitVec.ofNat 32 t.val) = ![48, 128 * t.val] := by decide +kernel
theorem off20_all : ∀ t : Fin 144, k0_off20 (BitVec.ofNat 32 t.val) = ![56, 128 * t.val] := by decide +kernel
theorem off21_all : ∀ t : Fin 144, k0_off21 (BitVec.ofNat 32 t.val) = ![64, 128 * t.val] := by decide +kernel
theorem off22_all : ∀ t : Fin 144, k0_off22 (BitVec.ofNat 32 t.val) = ![72, 128 * t.val] := by decide +kernel
theorem off2_all : ∀ t : Fin 144, k0_off2 (BitVec.ofNat 32 t.val) = ![t.val, 0] := by decide +kernel
theorem off23_all : ∀ t : Fin 144, k0_off23 (BitVec.ofNat 32 t.val) = ![128 * t.val + 127] := by decide +kernel
theorem off1_all : ∀ t : Fin 144, k0_off1 (BitVec.ofNat 32 t.val) = ![128 * t.val] := by decide +kernel

theorem blk_apply (d3 : Vec F S320x8192 .i8) (s : Fin k0_t1_loop.trips) (k : Fin 10) (b : Fin 8) (p : Fin 32) (j : Fin 128) (R : Fin 320) (C : Fin 8192)
    (hR : R.val = 32 * k.val + p.val) (hC : C.val = 1024 * s.val + 128 * b.val + j.val) :
    blk d3 s k b (ix2 p j) = d3 (ix2 R C) := by
  have key : ∀ (off : Fin 2 → ℕ) (hinb : ∀ a, off a + S32x128.size a ≤ S320x8192.size a), off = ![32 * k.val, 1024 * s.val + 128 * b.val] →
      View.ld (Val := Elt F) (e' := .i8) d3 (Rect.unit (s := S320x8192) off S32x128.size hinb) (ix2 p j) = d3 (ix2 R C) := by
    intro off hinb ho
    subst ho
    refine congrArg d3 (funext fun a => Fin.ext ?_)
    match a with
    | ⟨0, _⟩ => change 32 * k.val + 1 * p.val = R.val; omega
    | ⟨1, _⟩ => change 1024 * s.val + 128 * b.val + 1 * j.val = C.val; omega
  match k with
  | 0 => exact key _ (k0_off3_inb s b) (off3_eq s b)
  | 1 => exact key _ (k0_off4_inb s b) (off4_eq s b)
  | 2 => exact key _ (k0_off5_inb s b) (off5_eq s b)
  | 3 => exact key _ (k0_off6_inb s b) (off6_eq s b)
  | 4 => exact key _ (k0_off7_inb s b) (off7_eq s b)
  | 5 => exact key _ (k0_off8_inb s b) (off8_eq s b)
  | 6 => exact key _ (k0_off9_inb s b) (off9_eq s b)
  | 7 => exact key _ (k0_off10_inb s b) (off10_eq s b)
  | 8 => exact key _ (k0_off11_inb s b) (off11_eq s b)
  | 9 => exact key _ (k0_off12_inb s b) (off12_eq s b)

/-- Row `R`, lane `x` of the result before and after the step of tile `t`, for the eight words `k`. -/
theorem put_or (X : Vec F S80x18432 .i32) (off : Fin 2 → ℕ) (hinb : ∀ a, off a + S8x128.size a ≤ S80x18432.size a) (k t : ℕ) (ho : off = ![8 * k, 128 * t])
    (A : IVec S8x128 32) (R : Fin 80) (x : Fin 18432) :
    VecWindow.put X off S8x128.size (ori (shapeCast S8x128 (View.ld (Val := Elt F) (e' := .i32) X (Rect.unit (s := S80x18432) off S8x128.size hinb)) shapeCasts_S8x128_S8x128) A) (ix2 R x)
      = if R.val / 8 = k ∧ x.val / 128 = t
        then X (ix2 R x) ||| A (ix2 (⟨R.val % 8, Nat.mod_lt _ (by decide)⟩ : Fin 8) (⟨x.val % 128, Nat.mod_lt _ (by decide)⟩ : Fin 128))
        else X (ix2 R x) := by
  subst ho
  have hc : ∀ L : IVec S8x128 32, shapeCast S8x128 L shapeCasts_S8x128_S8x128 = L := fun L => shapeCast_id L _
  refine Eq.trans (congrArg (fun L : IVec S8x128 32 => VecWindow.put X (![8 * k, 128 * t] : Fin 2 → ℕ) S8x128.size (ori L A) (ix2 R x)) (hc _)) ?_
  dsimp only
  by_cases h : R.val / 8 = k ∧ x.val / 128 = t
  · have hin : ∀ a, (![8 * k, 128 * t] : Fin 2 → ℕ) a ≤ (ix2 R x a).val ∧ (ix2 R x a).val < (![8 * k, 128 * t] : Fin 2 → ℕ) a + S8x128.size a := fun a => by
      match a with
      | ⟨0, _⟩ => change 8 * k ≤ R.val ∧ R.val < 8 * k + 8; omega
      | ⟨1, _⟩ => change 128 * t ≤ x.val ∧ x.val < 128 * t + 128; omega
    rw [if_pos h, VecWindow.put, dif_pos hin]
    have e : Rect.unitLocal (ix2 R x) hin = ix2 (⟨R.val % 8, Nat.mod_lt _ (by decide)⟩ : Fin 8) (⟨x.val % 128, Nat.mod_lt _ (by decide)⟩ : Fin 128) := by
      funext a
      match a with
      | ⟨0, _⟩ => exact Fin.ext (by change R.val - 8 * k = R.val % 8; omega)
      | ⟨1, _⟩ => exact Fin.ext (by change x.val - 128 * t = x.val % 128; omega)
    rw [e]
    refine congrArg (· ||| A _) (congrArg X (funext fun a => Fin.ext ?_))
    match a with
    | ⟨0, _⟩ => change 8 * k + 1 * (R.val % 8) = R.val; omega
    | ⟨1, _⟩ => change 128 * t + 1 * (x.val % 128) = x.val; omega
  · rw [if_neg h, VecWindow.put, dif_neg]
    intro hc
    have h0 : 8 * k ≤ R.val ∧ R.val < 8 * k + 8 := hc 0
    have h1 : 128 * t ≤ x.val ∧ x.val < 128 * t + 128 := hc 1
    exact h (by omega)

theorem ofNat_toNat (t : BitVec 32) : BitVec.ofNat 32 t.toNat = t := BitVec.eq_of_toNat_eq (by simp)

/-- One more group of eight words. -/
theorem st_succ (X Y : Vec F S80x18432 .i32) (A : Fin 10 → IVec S8x128 32) (off : Fin 2 → ℕ) (hinb : ∀ a, off a + S8x128.size a ≤ S80x18432.size a) (t : ℕ) (k : Fin 10)
    (ho : off = ![8 * k.val, 128 * t])
    (hY : ∀ (R : Fin 80) (x : Fin 18432), Y (ix2 R x) = if R.val / 8 < k.val ∧ x.val / 128 = t
        then X (ix2 R x) ||| A ⟨R.val / 8, by omega⟩ (ix2 (⟨R.val % 8, Nat.mod_lt _ (by decide)⟩ : Fin 8) (⟨x.val % 128, Nat.mod_lt _ (by decide)⟩ : Fin 128)) else X (ix2 R x))
    (R : Fin 80) (x : Fin 18432) :
    VecWindow.put Y off S8x128.size (ori (shapeCast S8x128 (View.ld (Val := Elt F) (e' := .i32) Y (Rect.unit (s := S80x18432) off S8x128.size hinb)) shapeCasts_S8x128_S8x128) (A k)) (ix2 R x)
      = if R.val / 8 < k.val + 1 ∧ x.val / 128 = t
        then X (ix2 R x) ||| A ⟨R.val / 8, by omega⟩ (ix2 (⟨R.val % 8, Nat.mod_lt _ (by decide)⟩ : Fin 8) (⟨x.val % 128, Nat.mod_lt _ (by decide)⟩ : Fin 128)) else X (ix2 R x) := by
  rw [put_or Y off hinb k.val t ho, hY]
  by_cases h : R.val / 8 = k.val ∧ x.val / 128 = t
  · rw [if_pos h, if_neg (by omega), if_pos (by omega)]
    rw [show (⟨R.val / 8, by omega⟩ : Fin 10) = k from Fin.ext h.1]
  · rw [if_neg h]
    by_cases h' : R.val / 8 < k.val ∧ x.val / 128 = t
    · rw [if_pos h', if_pos (by omega)]
    · rw [if_neg h', if_neg (by omega)]

theorem st9_apply (v9 : BitVec 32) (d2 : Vec F S144x128 .i32) (d3 : Vec F S320x8192 .i8) (s : Fin k0_t1_loop.trips) (t : BitVec 32) (ht : t.toNat < 144) (h2 : k0_chk2 t)
    (X : Vec F S80x18432 .i32) (R : Fin 80) (x : Fin 18432) :
    st9 v9 d2 d3 s t h2 X (ix2 R x) = if x.val / 128 = t.toNat
      then X (ix2 R x) ||| accV v9 (rowT d2 t h2) d3 s ⟨R.val / 8, by omega⟩ (ix2 (⟨R.val % 8, Nat.mod_lt _ (by decide)⟩ : Fin 8) (⟨x.val % 128, Nat.mod_lt _ (by decide)⟩ : Fin 128))
      else X (ix2 R x) := by
  have o0 := off13_all ⟨t.toNat, ht⟩
  rw [ofNat_toNat] at o0
  have o1 := off14_all ⟨t.toNat, ht⟩
  rw [ofNat_toNat] at o1
  have o2 := off15_all ⟨t.toNat, ht⟩
  rw [ofNat_toNat] at o2
  have o3 := off16_all ⟨t.toNat, ht⟩
  rw [ofNat_toNat] at o3
  have o4 := off17_all ⟨t.toNat, ht⟩
  rw [ofNat_toNat] at o4
  have o5 := off18_all ⟨t.toNat, ht⟩
  rw [ofNat_toNat] at o5
  have o6 := off19_all ⟨t.toNat, ht⟩
  rw [ofNat_toNat] at o6
  have o7 := off20_all ⟨t.toNat, ht⟩
  rw [ofNat_toNat] at o7
  have o8 := off21_all ⟨t.toNat, ht⟩
  rw [ofNat_toNat] at o8
  have o9 := off22_all ⟨t.toNat, ht⟩
  rw [ofNat_toNat] at o9
  have e0 := st_succ X (X) (accV v9 (rowT d2 t h2) d3 s) (k0_off13 t) (k0_off13_inb t h2) t.toNat 0 o0 (fun R x => by rw [if_neg (by omega)])
  have e1 := st_succ X (st0 v9 d2 d3 s t h2 X) (accV v9 (rowT d2 t h2) d3 s) (k0_off14 t) (k0_off14_inb t h2) t.toNat 1 o1 e0
  have e2 := st_succ X (st1 v9 d2 d3 s t h2 X) (accV v9 (rowT d2 t h2) d3 s) (k0_off15 t) (k0_off15_inb t h2) t.toNat 2 o2 e1
  have e3 := st_succ X (st2 v9 d2 d3 s t h2 X) (accV v9 (rowT d2 t h2) d3 s) (k0_off16 t) (k0_off16_inb t h2) t.toNat 3 o3 e2
  have e4 := st_succ X (st3 v9 d2 d3 s t h2 X) (accV v9 (rowT d2 t h2) d3 s) (k0_off17 t) (k0_off17_inb t h2) t.toNat 4 o4 e3
  have e5 := st_succ X (st4 v9 d2 d3 s t h2 X) (accV v9 (rowT d2 t h2) d3 s) (k0_off18 t) (k0_off18_inb t h2) t.toNat 5 o5 e4
  have e6 := st_succ X (st5 v9 d2 d3 s t h2 X) (accV v9 (rowT d2 t h2) d3 s) (k0_off19 t) (k0_off19_inb t h2) t.toNat 6 o6 e5
  have e7 := st_succ X (st6 v9 d2 d3 s t h2 X) (accV v9 (rowT d2 t h2) d3 s) (k0_off20 t) (k0_off20_inb t h2) t.toNat 7 o7 e6
  have e8 := st_succ X (st7 v9 d2 d3 s t h2 X) (accV v9 (rowT d2 t h2) d3 s) (k0_off21 t) (k0_off21_inb t h2) t.toNat 8 o8 e7
  have e9 := st_succ X (st8 v9 d2 d3 s t h2 X) (accV v9 (rowT d2 t h2) d3 s) (k0_off22 t) (k0_off22_inb t h2) t.toNat 9 o9 e8
  refine (e9 R x).trans ?_
  by_cases h : x.val / 128 = t.toNat
  · rw [if_pos h, if_pos ⟨by have := R.isLt; change R.val / 8 < 9 + 1; omega, h⟩]
  · rw [if_neg h, if_neg (fun h' => h h'.2)]

theorem rowT_apply (d2 : Vec F S144x128 .i32) (t : BitVec 32) (ht : t.toNat < 144) (h2 : k0_chk2 t) (l : Fin 128) :
    rowT d2 t h2 (ix2 (0 : Fin 1) l) = d2 (ix2 (⟨t.toNat, ht⟩ : Fin 144) l) := by
  have o := off2_all ⟨t.toNat, ht⟩
  rw [ofNat_toNat] at o
  unfold rowT
  refine congrArg d2 (funext fun a => Fin.ext ?_)
  match a with
  | ⟨0, _⟩ => change k0_off2 t 0 + 0 * 1 = t.toNat; rw [o]; rfl
  | ⟨1, _⟩ => change k0_off2 t 1 + 1 * l.val = l.val; rw [o]; change 0 + 1 * l.val = l.val; omega

theorem lastOf_apply (d1 : Vec F S18432 .i32) (t : BitVec 32) (ht : t.toNat < 144) (h2 : k0_chk2 t) :
    lastOf d1 t h2 = d1 (ix1 (⟨128 * t.toNat + 127, by omega⟩ : Fin 18432)) := by
  have o := off23_all ⟨t.toNat, ht⟩
  rw [ofNat_toNat] at o
  unfold lastOf
  refine congrArg d1 (funext fun a => Fin.ext ?_)
  match a with
  | ⟨0, _⟩ => change k0_off23 t 0 + 0 * 1 = 128 * t.toNat + 127; rw [o]; rfl

theorem firstOf_apply (d1 : Vec F S18432 .i32) (t : BitVec 32) (ht : t.toNat < 144) (h1 : k0_chk1 t) :
    firstOf d1 t h1 = d1 (ix1 (⟨128 * t.toNat, by omega⟩ : Fin 18432)) := by
  have o := off1_all ⟨t.toNat, ht⟩
  rw [ofNat_toNat] at o
  unfold firstOf
  refine congrArg d1 (funext fun a => Fin.ext ?_)
  match a with
  | ⟨0, _⟩ => change k0_off1 t 0 + 0 * 1 = 128 * t.toNat; rw [o]; rfl

/-- Eight words of the tile: the table row's words where the row lies in the strip, zero elsewhere. -/
theorem accV_apply (v9 : BitVec 32) (v20 : Vec F S1x128 .i32) (d3 : Vec F S320x8192 .i8) (s : Fin k0_t1_loop.trips) (k : Fin 10) (r : Fin 8) (l : Fin 128) (i : ℕ)
    (u : BitVec 32) (hu : v20 (ix2 (0 : Fin 1) l) = u) (hub : u.toNat < 2 ^ 31) (h9 : v9.toNat = 8192 * i + 1024 * s.val) (h9b : v9.toNat < 2 ^ 31)
    (w : BitVec 32) (hw : v9.toNat ≤ u.toNat → u.toNat < v9.toNat + 1024 → ∀ (C : Fin 8192), 8192 * i + C.val = u.toNat → ∀ q, (hq : q < 32) →
      (d3 (ix2 (⟨32 * k.val + 4 * r.val + q / 8, by omega⟩ : Fin 320) C)).getLsbD (q % 8) = w.getLsbD q) :
    accV v9 v20 d3 s k (ix2 r l) = if v9.toNat ≤ u.toNat ∧ u.toNat < v9.toNat + 1024 then w else 0#32 := by
  have hs : s.val < 8 := lt_of_lt_of_eq s.isLt trips_eq
  have hb : ∀ b : Fin 8, u.toNat / 128 = v9.toNat / 128 + b.val →
      bitcast S8x128 32 (blk d3 s k b) bitcasts_S32x128_w8_S8x128_w32 (ix2 r (⟨u.toNat % 128, Nat.mod_lt _ (by decide)⟩ : Fin 128)) = w := by
    intro b hb
    have hbv := b.isLt
    apply BitVec.eq_of_getLsbD_eq
    intro q hq
    refine (bitcast_8_32_getLsbD_ix2 (blk d3 s k b) bitcasts_S32x128_w8_S8x128_w32 r _ q hq (⟨4 * r.val + q / 8, by omega⟩ : Fin 32) rfl).trans ?_
    rw [show ValueIdx.ix2 (⟨4 * r.val + q / 8, by omega⟩ : Fin 32) (⟨u.toNat % 128, Nat.mod_lt _ (by decide)⟩ : Fin 128) = (ix2 (⟨4 * r.val + q / 8, by omega⟩ : Fin 32) (⟨u.toNat % 128, Nat.mod_lt _ (by decide)⟩ : Fin 128)) from
      funext fun d => match d with | ⟨0, _⟩ => rfl | ⟨1, _⟩ => rfl]
    rw [blk_apply d3 s k b _ _ (⟨32 * k.val + 4 * r.val + q / 8, by omega⟩ : Fin 320) (⟨u.toNat - 8192 * i, by omega⟩ : Fin 8192) (by change 32 * k.val + 4 * r.val + q / 8 = 32 * k.val + (4 * r.val + q / 8); omega)
      (by change u.toNat - 8192 * i = 1024 * s.val + 128 * b.val + u.toNat % 128; omega)]
    exact hw (by omega) (by omega) _ (by change 8192 * i + (u.toNat - 8192 * i) = u.toNat; omega) q hq
  unfold accV
  simp only [sel_apply, hu]
  have hc : ∀ b : ℕ, b < 8 → ((u.sshiftRight 7 - v9.sshiftRight 7 = BitVec.ofNat 32 b) ↔ u.toNat / 128 = v9.toNat / 128 + b) := fun b h => block_iff u v9 b hub h9b h
  by_cases c7 : u.toNat / 128 = v9.toNat / 128 + 7
  · rw [if_pos ((hc 7 (by omega)).mpr c7), hb 7 c7, if_pos (by omega)]
  rw [if_neg (fun h => c7 ((hc 7 (by omega)).mp h))]
  by_cases c6 : u.toNat / 128 = v9.toNat / 128 + 6
  · rw [if_pos ((hc 6 (by omega)).mpr c6), hb 6 c6, if_pos (by omega)]
  rw [if_neg (fun h => c6 ((hc 6 (by omega)).mp h))]
  by_cases c5 : u.toNat / 128 = v9.toNat / 128 + 5
  · rw [if_pos ((hc 5 (by omega)).mpr c5), hb 5 c5, if_pos (by omega)]
  rw [if_neg (fun h => c5 ((hc 5 (by omega)).mp h))]
  by_cases c4 : u.toNat / 128 = v9.toNat / 128 + 4
  · rw [if_pos ((hc 4 (by omega)).mpr c4), hb 4 c4, if_pos (by omega)]
  rw [if_neg (fun h => c4 ((hc 4 (by omega)).mp h))]
  by_cases c3 : u.toNat / 128 = v9.toNat / 128 + 3
  · rw [if_pos ((hc 3 (by omega)).mpr c3), hb 3 c3, if_pos (by omega)]
  rw [if_neg (fun h => c3 ((hc 3 (by omega)).mp h))]
  by_cases c2 : u.toNat / 128 = v9.toNat / 128 + 2
  · rw [if_pos ((hc 2 (by omega)).mpr c2), hb 2 c2, if_pos (by omega)]
  rw [if_neg (fun h => c2 ((hc 2 (by omega)).mp h))]
  by_cases c1 : u.toNat / 128 = v9.toNat / 128 + 1
  · rw [if_pos ((hc 1 (by omega)).mpr c1), hb 1 c1, if_pos (by omega)]
  rw [if_neg (fun h => c1 ((hc 1 (by omega)).mp h))]
  by_cases c0 : u.toNat / 128 = v9.toNat / 128 + 0
  · rw [if_pos ((hc 0 (by omega)).mpr c0), hb 0 c0, if_pos (by omega)]
  rw [if_neg (fun h => c0 ((hc 0 (by omega)).mp h))]
  rw [if_neg (by omega)]
  rfl

end Cert.Gather.Hand

end
-- ==== Proof.GatherSteps.lean ====
/-
  The gather over the strips of a point: after each strip every row below its end has its words, and no other row has any.
-/
module

public import proofs.«01_k».proof.Proof.GatherVals

@[expose] public section

set_option maxRecDepth 16384

noncomputable section

namespace Cert.Gather.Hand

open Cert.Gather Cert.Gather.Gen
open Idealize.ShloMosaic Idealize.ShloMosaic.TcCoe Idealize.ShloMosaic.Tactic

variable {F : FTy → Type} [FloatOps F]

/-- What a point's inputs hold where `S` does: the sorted rows `ur`, in the list and in the tiles, and in the block of the table the
    words `W` of every row that lies in it. -/
structure Data (S : Prop) (n : ℕ) (d1 : Vec F S18432 .i32) (d2 : Vec F S144x128 .i32) (d3 : Vec F S320x8192 .i8)
    (ur : Fin 18432 → BitVec 32) (W : Fin 80 → Fin 18432 → BitVec 32) : Prop where
  list : S → ∀ x, d1 (ix1 x) = ur x
  tiles : S → ∀ (t : Fin 144) (l : Fin 128), d2 (ix2 t l) = ur ⟨128 * t.val + l.val, by omega⟩
  lt : S → ∀ x, (ur x).toNat < 1100000
  mono : S → ∀ x y : Fin 18432, x.val ≤ y.val → (ur x).toNat ≤ (ur y).toNat
  words : S → ∀ (R : Fin 80) (x : Fin 18432) (C : Fin 8192), 8192 * n + C.val = (ur x).toNat → ∀ q, (hq : q < 32) →
    (d3 (ix2 (⟨4 * R.val + q / 8, by omega⟩ : Fin 320) C)).getLsbD (q % 8) = (W R x).getLsbD q

/-- Every row below `L` has its words, the others none; the tiles before `t` lie below `L`. -/
def Inv (S : Prop) (ur : Fin 18432 → BitVec 32) (W : Fin 80 → Fin 18432 → BitVec 32) (L : ℕ) (t : BitVec 32) (X : Vec F S80x18432 .i32) : Prop :=
  t.toNat ≤ 144 ∧ (S → (∀ x : Fin 18432, x.val < 128 * t.toNat → (ur x).toNat < L)
    ∧ ∀ (R : Fin 80) (x : Fin 18432), X (ix2 R x) = if (ur x).toNat < L then W R x else 0#32)

/-- Within a strip: the tiles before `t` have their words up to the strip's end `hi`, the others up to its start `lo`; when the loop is
    over, all up to its end. -/
def Mid (S : Prop) (ur : Fin 18432 → BitVec 32) (W : Fin 80 → Fin 18432 → BitVec 32) (lo hi : ℕ) (t : BitVec 32) (fl : BitVec 1) (X : Vec F S80x18432 .i32) : Prop :=
  t.toNat ≤ 144 ∧ (fl = 1#1 → t.toNat < 144) ∧ (S → (∀ x : Fin 18432, x.val < 128 * t.toNat → (ur x).toNat < hi)
    ∧ (fl = 1#1 → ∀ (R : Fin 80) (x : Fin 18432), X (ix2 R x) = if x.val < 128 * t.toNat ∨ (ur x).toNat < lo then W R x else 0#32)
    ∧ (fl ≠ 1#1 → ∀ (R : Fin 80) (x : Fin 18432), X (ix2 R x) = if (ur x).toNat < hi then W R x else 0#32))

theorem lo_toNat (i : grid0.Coords) (s : Fin k0_t1_loop.trips) : (loW i s).toNat = 8192 * (i 0).val + 1024 * s.val := by
  have hs : s.val < 8 := lt_of_lt_of_eq s.isLt trips_eq
  have hi : (i 0).val < 135 := (i 0).isLt
  change (BitVec.ofNat 32 (i 0).val * 8192#32 + (0#32 + BitVec.ofNat 32 s.val * 1#32) * 1024#32).toNat = _
  simp only [BitVec.toNat_add, BitVec.toNat_mul, BitVec.toNat_ofNat]
  omega

theorem hi_toNat (i : grid0.Coords) (s : Fin k0_t1_loop.trips) : (hiW i s).toNat = 8192 * (i 0).val + 1024 * s.val + 1024 := by
  have hs : s.val < 8 := lt_of_lt_of_eq s.isLt trips_eq
  have hi : (i 0).val < 135 := (i 0).isLt
  have h := lo_toNat i s
  change (loW i s + 1024#32).toNat = _
  rw [BitVec.toNat_add, h]
  simp only [BitVec.toNat_ofNat]
  omega

section
variable {S : Prop} {i : grid0.Coords} {d1 : Vec F S18432 .i32} {d2 : Vec F S144x128 .i32} {d3 : Vec F S320x8192 .i8}
  {ur : Fin 18432 → BitVec 32} {W : Fin 80 → Fin 18432 → BitVec 32} (D : Data S (i 0).val d1 d2 d3 ur W) (s : Fin k0_t1_loop.trips)
include D

/-- The flag: a tile is worked on only if there is one. -/
theorem flag_lt (t : BitVec 32) (ht : t.toNat ≤ 144) (h1 : k0_chk1 t) (hf : flagOf d1 (hiW i s) t h1 = 1#1) : t.toNat < 144 := by
  have h := andi_left _ _ hf
  rw [slt_iff t 144#32 (by omega) (by decide)] at h
  exact h

/-- If the flag is down the rows from the tile on lie beyond the strip. -/
theorem flag_down (hS : S) (t : BitVec 32) (ht : t.toNat ≤ 144) (h1 : k0_chk1 t) (hf : flagOf d1 (hiW i s) t h1 ≠ 1#1) (x : Fin 18432)
    (hx : 128 * t.toNat ≤ x.val) : 8192 * (i 0).val + 1024 * s.val + 1024 ≤ (ur x).toNat := by
  have hs : s.val < 8 := lt_of_lt_of_eq s.isLt trips_eq
  have hi : (i 0).val < 135 := (i 0).isLt
  have hxl := x.isLt
  have htt : t.toNat < 144 := by omega
  by_contra hc
  have hm := D.mono hS (⟨128 * t.toNat, by omega⟩ : Fin 18432) x hx
  have hl := D.lt hS (⟨128 * t.toNat, by omega⟩ : Fin 18432)
  have hh := hi_toNat i s
  refine hf (andi_one _ _ ((slt_iff t 144#32 (by omega) (by decide)).mpr htt) ?_)
  rw [firstOf_apply d1 t htt h1, D.list hS, slt_iff (ur (⟨128 * t.toNat, by omega⟩ : Fin 18432)) (hiW i s) (by omega) (by omega), hh]
  omega

/-- The result after the step of tile `t`. -/
theorem step_apply (hS : S) (t : BitVec 32) (ht : t.toNat < 144) (h2 : k0_chk2 t) (X : Vec F S80x18432 .i32) (R : Fin 80) (x : Fin 18432) :
    st9 (loW i s) d2 d3 s t h2 X (ix2 R x) = if x.val / 128 = t.toNat
      then X (ix2 R x) ||| (if 8192 * (i 0).val + 1024 * s.val ≤ (ur x).toNat ∧ (ur x).toNat < 8192 * (i 0).val + 1024 * s.val + 1024 then W R x else 0#32)
      else X (ix2 R x) := by
  rw [st9_apply (loW i s) d2 d3 s t ht h2 X R x]
  by_cases hx : x.val / 128 = t.toNat
  · rw [if_pos hx, if_pos hx]
    have hs : s.val < 8 := lt_of_lt_of_eq s.isLt trips_eq
    have hi : (i 0).val < 135 := (i 0).isLt
    have hlo := lo_toNat i s
    have hl := D.lt hS x
    rw [accV_apply (loW i s) (rowT d2 t h2) d3 s ⟨R.val / 8, by omega⟩ (⟨R.val % 8, Nat.mod_lt _ (by decide)⟩ : Fin 8) (⟨x.val % 128, Nat.mod_lt _ (by decide)⟩ : Fin 128)
      (i 0).val (ur x) (by
        rw [rowT_apply d2 t ht h2, D.tiles hS]
        exact congrArg ur (Fin.ext (by change 128 * t.toNat + x.val % 128 = x.val; omega))) (by omega) hlo (by omega) (W R x) (fun _ _ C hC q hq => by
        have := D.words hS R x C hC q hq
        rw [← this]
        refine congrArg (fun a : Fin 320 => (d3 (ix2 a C)).getLsbD (q % 8)) (Fin.ext ?_)
        change 32 * (R.val / 8) + 4 * (R.val % 8) + q / 8 = 4 * R.val + q / 8
        omega), hlo]
  · rw [if_neg hx, if_neg hx]

theorem steps : Steps i s d1 d2 d3 (Mid S ur W (8192 * (i 0).val + 1024 * s.val) (8192 * (i 0).val + 1024 * s.val + 1024))
    (Inv S ur W (8192 * (i 0).val + 1024 * (s.val + 1))) where
  lt t X h := h.2.1 rfl
  done t fl X hf h := ⟨h.1, fun hS => by
    have h' := h.2.2 hS
    rw [show 8192 * (i 0).val + 1024 * (s.val + 1) = 8192 * (i 0).val + 1024 * s.val + 1024 by omega]
    exact ⟨h'.1, h'.2.2 hf⟩⟩
  step t X h2 h1 h := by
    have hs : s.val < 8 := lt_of_lt_of_eq s.isLt trips_eq
    have hi : (i 0).val < 135 := (i 0).isLt
    have ht := h.2.1 rfl
    have htle := nextT_le (lastOf d1 t h2) (hiW i s) t ht
    refine ⟨htle, fun hf => flag_lt D s _ htle h1 (andi_right _ _ hf), fun hS => ?_⟩
    obtain ⟨hb, hX, -⟩ := h.2.2 hS
    have hX := hX rfl
    have hh := hi_toNat i s
    have ev : lastOf d1 t h2 = ur (⟨128 * t.toNat + 127, by omega⟩ : Fin 18432) := by rw [lastOf_apply d1 t ht h2, D.list hS]
    have hvl := D.lt hS (⟨128 * t.toNat + 127, by omega⟩ : Fin 18432)
    have hst := step_apply D s hS t ht h2 X
    have hm1 : ∀ x : Fin 18432, x.val ≤ 128 * t.toNat + 127 → (ur x).toNat ≤ (ur (⟨128 * t.toNat + 127, by omega⟩ : Fin 18432)).toNat := fun x hx => D.mono hS x _ hx
    have hm2 : ∀ x : Fin 18432, 128 * t.toNat + 127 ≤ x.val → (ur (⟨128 * t.toNat + 127, by omega⟩ : Fin 18432)).toNat ≤ (ur x).toNat := fun x hx => D.mono hS _ x hx
    -- the result after the step, whatever the flag
    have hval : ∀ (R : Fin 80) (x : Fin 18432), st9 (loW i s) d2 d3 s t h2 X (ix2 R x)
        = if x.val < 128 * t.toNat ∨ (ur x).toNat < 8192 * (i 0).val + 1024 * s.val ∨ (x.val / 128 = t.toNat ∧ (ur x).toNat < 8192 * (i 0).val + 1024 * s.val + 1024) then W R x else 0#32 := by
      intro R x
      rw [hst, hX]
      by_cases c1 : x.val / 128 = t.toNat
      · rw [if_pos c1]
        by_cases c2 : (ur x).toNat < 8192 * (i 0).val + 1024 * s.val
        · rw [if_pos (Or.inr c2), if_neg (by omega), if_pos (Or.inr (Or.inl c2)), BitVec.or_zero]
        · by_cases c3 : (ur x).toNat < 8192 * (i 0).val + 1024 * s.val + 1024
          · rw [if_neg (by omega), if_pos (by omega), if_pos (Or.inr (Or.inr ⟨c1, c3⟩)), BitVec.zero_or]
          · rw [if_neg (by omega), if_neg (by omega), if_neg (by omega), BitVec.zero_or]
      · rw [if_neg c1]
        by_cases c2 : x.val < 128 * t.toNat ∨ (ur x).toNat < 8192 * (i 0).val + 1024 * s.val
        · rw [if_pos c2, if_pos (by omega)]
        · rw [if_neg c2, if_neg (by omega)]
    have hlt : Scalar.cmpi .slt (lastOf d1 t h2) (hiW i s) = 1#1
        ↔ (ur (⟨128 * t.toNat + 127, by omega⟩ : Fin 18432)).toNat < 8192 * (i 0).val + 1024 * s.val + 1024 := by
      rw [slt_iff (lastOf d1 t h2) (hiW i s) (by rw [ev]; omega) (by omega), ev, hh]
    generalize hV : (ur (⟨128 * t.toNat + 127, by omega⟩ : Fin 18432)).toNat = V at *
    rcases nextT_cases (lastOf d1 t h2) (hiW i s) t with ⟨hd, e⟩ | ⟨hd, e⟩
    · have hd' : V < 8192 * (i 0).val + 1024 * s.val + 1024 := hlt.mp hd
      have e' : (nextT (lastOf d1 t h2) (hiW i s) t).toNat = t.toNat + 1 := by rw [e, toNat_next t ht]
      refine ⟨fun x hx => ?_, fun hf R x => ?_, fun hf R x => ?_⟩
      · rw [e'] at hx
        have := hm1 x (by omega)
        omega
      · rw [hval, e']
        have := hm1 x
        by_cases c : x.val < 128 * (t.toNat + 1) ∨ (ur x).toNat < 8192 * (i 0).val + 1024 * s.val
        · rw [if_pos c, if_pos (by omega)]
        · rw [if_neg c, if_neg (by omega)]
      · rw [hval]
        have hfd : flagOf d1 (hiW i s) (nextT (lastOf d1 t h2) (hiW i s) t) h1 ≠ 1#1 := fun hf' => hf (andi_one _ _ hd hf')
        have hfx := flag_down D s hS _ htle h1 hfd x
        rw [e'] at hfx
        have := hm1 x
        have hbx := hb x
        by_cases c : (ur x).toNat < 8192 * (i 0).val + 1024 * s.val + 1024
        · rw [if_pos c, if_pos (by omega)]
        · rw [if_neg c, if_neg (by omega)]
    · have hd' : 8192 * (i 0).val + 1024 * s.val + 1024 ≤ V := Nat.le_of_not_lt fun h => hd (hlt.mpr h)
      have hnf : Scalar.andi (Scalar.cmpi .slt (lastOf d1 t h2) (hiW i s)) (flagOf d1 (hiW i s) (nextT (lastOf d1 t h2) (hiW i s) t) h1) ≠ 1#1 :=
        fun hf => hd (andi_left _ _ hf)
      refine ⟨fun x hx => ?_, fun hf => absurd hf hnf, fun hf R x => ?_⟩
      · rw [e] at hx; exact hb x hx
      · rw [hval]
        have := hm2 x
        have hbx := hb x
        by_cases c : (ur x).toNat < 8192 * (i 0).val + 1024 * s.val + 1024
        · rw [if_pos c, if_pos (by omega)]
        · rw [if_neg c, if_neg (by omega)]

theorem strips : Strips i d1 d2 d3 (fun k => Inv S ur W (8192 * (i 0).val + 1024 * k)) where
  le k t X h := h.1
  strip s := ⟨_, _, steps D s, fun t X h1 h => by
    have hh := hi_toNat i s
    refine ⟨h.1, fun hf => flag_lt D s t h.1 h1 hf, fun hS => ?_⟩
    obtain ⟨hb, hX⟩ := h.2 hS
    refine ⟨fun x hx => by have := hb x hx; omega, fun hf R x => ?_, fun hf R x => ?_⟩
    · rw [hX]
      have := hb x
      by_cases c : (ur x).toNat < 8192 * (i 0).val + 1024 * s.val
      · rw [if_pos c, if_pos (Or.inr c)]
      · rw [if_neg c, if_neg (by omega)]
    · rw [hX]
      have := hb x
      have hfx := flag_down D s hS t h.1 h1 hf x
      by_cases c : (ur x).toNat < 8192 * (i 0).val + 1024 * s.val
      · rw [if_pos c, if_pos (by omega)]
      · rw [if_neg c, if_neg (by omega)], fun _ _ h => h⟩
end

end Cert.Gather.Hand

end
-- ==== Proof.GatherRef.lean ====
/-
  The reference of the gather at a bit: bit `q` of word `R` of the row at place `x` is bit `q % 8` of code `4 R + q / 8` of that row.
-/
module

public import proofs.«01_k».proof.Proof.Gen.GatherReference.Run
public import proofs.«01_k».proof.Proof.Gen.GatherReference.Read
public import Idealize.ShloMosaic.Lib.BitcastConvert
public import Idealize.ShloMosaic.Lib.ValueIdxCore
public import Idealize.ShloMosaic.Lib.Pointwise
public import Idealize.ShloMosaic.Lib.Affine

@[expose] public section

set_option maxRecDepth 16384

noncomputable section

namespace Cert.GatherReference.Hand

open Cert.GatherReference Cert.GatherReference.Gen Cert.GatherReference.Read
open Idealize.ShloMosaic

variable {F : FTy → Type} [FloatOps F]

/-- The rows asked for, at an entry: the start is inside the table, so nothing is clamped. -/
theorem rows_apply (x : S1100000x320.Idx → BitVec 8) (idx : IVec S18432x1 32) (j : Fin 18432) (r : Fin 320) (n : ℕ) (hn : n < 1100000)
    (h : (idx (ix2 j (0 : Fin 1))).toInt = (n : ℤ)) :
    Host.gather gather_S1100000x320_S18432x1_S18432x320_1_0_n_n_0_1_1320 x idx (ix2 j r) = x (ix2 (⟨n, hn⟩ : Fin 1100000) r) := by
  unfold Host.gather
  congr 1
  funext a
  refine Fin.ext ?_
  show (gather_S1100000x320_S18432x1_S18432x320_1_0_n_n_0_1_1320).start (ix2 j r) idx a + (gather_S1100000x320_S18432x1_S18432x320_1_0_n_n_0_1_1320).batchCoord (ix2 j r) a
      + (gather_S1100000x320_S18432x1_S18432x320_1_0_n_n_0_1_1320).offCoord (ix2 j r) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (gather_S1100000x320_S18432x1_S18432x320_1_0_n_n_0_1_1320).startIndexMap from List.mem_singleton.mpr rfl)]
    have hsi : (gather_S1100000x320_S18432x1_S18432x320_1_0_n_n_0_1_1320).siIdx (ix2 j r) ⟨List.idxOf (0 : Fin 2) (gather_S1100000x320_S18432x1_S18432x320_1_0_n_n_0_1_1320).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi, h]
    change min n (1100000 - 1) = n
    omega
  · unfold GatherDims.start GatherDims.offCoord
    rw [dif_neg (by decide), dif_pos (by decide)]
    exact Nat.zero_add _

theorem slt_zero (w : BitVec 32) (h : w.toNat < 1100000) : IntOp.cmpi .slt w 0#32 = 0#1 := by
  have e : ¬ IntOp.cmpi .slt w 0#32 = 1#1 := by
    rw [IntOp.cmpi_slt, BitVec.toInt_eq_toNat_cond, if_pos (by omega)]
    simp
  rcases BitVec.eq_zero_or_eq_one (IntOp.cmpi .slt w 0#32) with h | h
  · exact h
  · exact absurd h e

theorem start_apply (x0 : IVec S18432 32) (x : Fin 18432) (n : ℕ) (hn : n < 1100000) (h : (x0 (ix1 x)).toNat = n) :
    (val_main_v5 (F := F) x0 (ix2 x (0 : Fin 1))).toInt = (n : ℤ) := by
  rw [val_main_v5_apply, val_main_v4_apply, val_main_v1_apply, val_main_v0_apply, val_main_c_apply]
  have ei : idx_main_v5 (ix2 x (0 : Fin 1)) = ix1 x := funext fun a => match a with | ⟨0, _⟩ => rfl
  rw [ei, slt_zero _ (by omega)]
  change (x0 (ix1 x)).toInt = (n : ℤ)
  rw [BitVec.toInt_eq_toNat_cond, if_pos (by omega), h]

/-- Bit `q` of word `R` of the row `n` at place `x`: bit `q % 8` of code `4 R + q / 8` of row `n`. -/
theorem bits (x0 : IVec S18432 32) (x1 : IVec S1100000x320 8) (R : Fin 80) (x : Fin 18432) (n : ℕ) (hn : n < 1100000) (h : (x0 (ix1 x)).toNat = n)
    (q : ℕ) (hq : q < 32) :
    (val_main_v9 (F := F) x0 x1 (ix2 R x)).getLsbD q = (x1 (ix2 (⟨n, hn⟩ : Fin 1100000) (⟨4 * R.val + q / 8, by omega⟩ : Fin 320))).getLsbD (q % 8) := by
  rw [val_main_v9_apply]
  unfold val_main_v8
  rw [Host.bitcastConvertWiden_getLsbD _ _ _ _ _ q hq]
  have hR := R.isLt
  have hx := x.isLt
  rw [val_main_v7_apply]
  unfold val_main_v6
  refine congrArg (fun b : BitVec 8 => b.getLsbD (q % 8)) ?_
  refine Eq.trans (congrArg _ ?_) (rows_apply x1 (val_main_v5 (F := F) x0) x ⟨4 * R.val + q / 8, by omega⟩ n hn (start_apply x0 x n hn h))
  funext a
  refine Fin.ext ?_
  match a with
  | ⟨0, _⟩ => change ((x.val * 80 + R.val) * 4 + q / 8) / 320 = x.val; omega
  | ⟨1, _⟩ => change ((x.val * 80 + R.val) * 4 + q / 8) % 320 = 4 * R.val + q / 8; omega

end Cert.GatherReference.Hand

end
-- ==== Proof.GatherBlocks.lean ====
/-
  What the gather reads at a point, as elements of its arguments: the list, the list in tiles and the table's columns.
-/
module

public import proofs.«01_k».proof.Proof.GatherSteps
public import proofs.«01_k».proof.Proof.GatherRef

@[expose] public section

set_option maxRecDepth 16384

noncomputable section

namespace Cert.Gather.Hand

open Cert.Gather Cert.Gather.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable [∀ e, Nonempty (Elt F e)]
variable (m : (ℓ : Loc nD τ sig) → Buf (Elt F) ℓ) (ρ : Dev nD → PrngReg)

/-! ## The arrays when the region is entered -/

/-- Core `c`'s buffers after the list's reshape and the table's transpose. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The block of window `w`'s array at point `t`. -/
abbrev iblk (c : Dev nD) (w : Fin (cfg0 (F := F)).W) (t : Fin (cfg0 (F := F)).N) :=
  (((cfg0 (F := F)).win w).blk t).view.read (Elt F) (V m c (Pipeline.arrRef spec0 w))

/-! ## The list, the table and the words they ask for -/

/-- The list of rows and the table of codes as core `c` holds them. -/
abbrev B0 (c : Dev nD) : IVec S18432 32 := m (c.tc.loc main_arg0)
abbrev B1 (c : Dev nD) : IVec S1100000x320 8 := m (c.tc.loc main_arg1)

/-- Row `x` of the list. -/
def ur (c : Dev nD) (x : Fin 18432) : BitVec 32 := B0 m c (ix1 x)

/-- Word `R` of the row at place `x` of the list: what the reference holds. -/
def wd (c : Dev nD) (R : Fin 80) (x : Fin 18432) : BitVec 32 :=
  Cert.GatherReference.Read.val_main_v9 (F := F) (B0 m c) (B1 m c) (ix2 R x)

/-- The list is in range and in order. -/
def Sorted (c : Dev nD) : Prop :=
  (∀ x, (ur m c x).toNat < 1100000) ∧ ∀ x y : Fin 18432, x.val ≤ y.val → (ur m c x).toNat ≤ (ur m c y).toNat

/-- Every row below `L` has its words, the others none. -/
def Upto (c : Dev nD) (L : ℕ) (X : Vec F S80x18432 .i32) : Prop :=
  Sorted m c → ∀ (R : Fin 80) (x : Fin 18432), X (ix2 R x) = if (ur m c x).toNat < L then wd m c R x else 0#32

/-! ## The blocks -/

theorem coords0 : ∀ t : Fin grid0.N, (grid0.coords t 0).val = t.val := by decide +kernel
theorem first_iff : ∀ t : Fin grid0.N, firstW (grid0.coords t) ↔ t.val = 0 := by decide +kernel
theorem map0 : ∀ i : grid0.Coords, cc0_transform_0 i = ![0] := by decide +kernel
theorem map1 : ∀ i : grid0.Coords, cc0_transform_1 i = ![0, 0] := by decide +kernel
theorem map2 : ∀ i : grid0.Coords, cc0_transform_2 i = ![0, (i 0).val] := by decide +kernel

theorem V_v0 (c : Dev nD) : (V m c main_v0 : IVec S144x128 32) = shapeCast S144x128 (B0 m c) shapeCasts_S18432_S144x128 := rfl
theorem V_v1 (c : Dev nD) : (V m c main_v1 : IVec S320x1100000 8) = transpose S320x1100000 [1, 0] (B1 m c) transposes_S1100000x320_S320x1100000_1_0 := rfl

theorem blk0 (c : Dev nD) (t : Fin (cfg0 (F := F)).N) (x : Fin 18432) : (iblk m c 0 t : Vec F S18432 .i32) (ix1 x) = ur m c x := by
  unfold iblk ur
  refine Eq.trans ?_ (congrFun (V_main_arg0 m c) _)
  refine congrArg (V m c main_arg0 : IVec S18432 32) (funext fun a => Fin.ext ?_)
  match a with
  | ⟨0, _⟩ =>
    change cc0_transform_0 (grid0.coords t) 0 * 18432 + 1 * x.val = x.val
    rw [map0]; change 0 * 18432 + 1 * x.val = _; omega

theorem blk1 (c : Dev nD) (t : Fin (cfg0 (F := F)).N) (r : Fin 144) (l : Fin 128) :
    (iblk m c 1 t : Vec F S144x128 .i32) (ix2 r l) = ur m c ⟨128 * r.val + l.val, by omega⟩ := by
  have e : (iblk m c 1 t : Vec F S144x128 .i32) (ix2 r l) = (V m c main_v0 : IVec S144x128 32) (ix2 r l) := by
    unfold iblk
    refine congrArg (V m c main_v0 : IVec S144x128 32) (funext fun a => Fin.ext ?_)
    match a with
    | ⟨0, _⟩ =>
      change cc0_transform_1 (grid0.coords t) 0 * 144 + 1 * r.val = r.val
      rw [map1]; change 0 * 144 + 1 * r.val = _; omega
    | ⟨1, _⟩ =>
      change cc0_transform_1 (grid0.coords t) 1 * 128 + 1 * l.val = l.val
      rw [map1]; change 0 * 128 + 1 * l.val = _; omega
  rw [e, V_v0]
  unfold ur
  refine shapeCast_apply _ _ _ _ ?_
  rw [Shape.rowMajor_val_one, Shape.rowMajor_val_two]
  simp only [ix1_0, ix2_0, ix2_1]
  change 128 * r.val + l.val = r.val * 128 + l.val
  omega

/-- Inside the table the third window holds the table's columns, whatever was there before. -/
theorem blk2 (c : Dev nD) (t : Fin (cfg0 (F := F)).N) (d : ((cfg0 (F := F)).win 2).block.Idx → Elt F ((cfg0 (F := F)).win 2).elt) (r : Fin 320) (C : Fin 8192) (u : Fin 1100000)
    (hu : 8192 * (grid0.coords t 0).val + C.val = u.val) :
    (((cfg0 (F := F)).win 2).fill ((cfg0 (F := F)).grid.coords t) d (iblk m c 2 t) : Vec F S320x8192 .i8) (ix2 r C) = B1 m c (ix2 u r) := by
  have hx : ∀ a, ((ix2 r C : S320x8192.Idx) a).val < ((cfg0 (F := F)).win 2).xsize ((cfg0 (F := F)).grid.coords t) a := fun a => by
    match a with
    | ⟨0, _⟩ =>
      change r.val < (Pipeline.Clip.of (cc0_transform_2 (grid0.coords t) 0) 320 320).extent 320
      rw [map2]; exact r.isLt
    | ⟨1, _⟩ =>
      change C.val < (Pipeline.Clip.of (cc0_transform_2 (grid0.coords t) 1) 8192 1100000).extent 8192
      rw [map2]; change C.val < (Pipeline.Clip.of (grid0.coords t 0).val 8192 1100000).extent 8192
      unfold Pipeline.Clip.of
      have := u.isLt
      split
      · exact C.isLt
      · change C.val < 1100000 - (grid0.coords t 0).val * 8192; omega
  have hm := (((cfg0 (F := F)).win 2).moved_iff ((cfg0 (F := F)).grid.coords t) (ix2 r C : S320x8192.Idx)).mpr hx
  have e : (((cfg0 (F := F)).win 2).fill ((cfg0 (F := F)).grid.coords t) d (iblk m c 2 t) : Vec F S320x8192 .i8) (ix2 r C) = (V m c main_v1 : IVec S320x1100000 8) (ix2 r u) := by
    unfold Pipeline.Window.fill
    refine (dif_pos hm).trans ?_
    unfold iblk
    refine congrArg (V m c main_v1 : IVec S320x1100000 8) (funext fun a => Fin.ext ?_)
    match a with
    | ⟨0, _⟩ =>
      change cc0_transform_2 (grid0.coords t) 0 * 320 + 1 * r.val = r.val
      rw [map2]; change 0 * 320 + 1 * r.val = _; omega
    | ⟨1, _⟩ =>
      change cc0_transform_2 (grid0.coords t) 1 * 8192 + 1 * C.val = u.val
      rw [map2]; change (grid0.coords t 0).val * 8192 + 1 * C.val = u.val; omega
  rw [e, V_v1]
  exact transpose_apply [1, 0] _ transposes_S1100000x320_S320x1100000_1_0 _ (ix2 u r) (fun b => match b with
    | ⟨0, _⟩ => rfl
    | ⟨1, _⟩ => rfl)

end Cert.Gather.Hand

end
-- ==== Proof.GatherRun.lean ====
/-
  The run of the gather: the proof data (what each point leaves, the pointer between points), the body obligation, the launch, the
  arguments unchanged and the result the reference's.
-/
module

public import proofs.«01_k».proof.Proof.GatherBlocks
public import Idealize.ShloMosaic.Lib.Pipeline.ArrRel

@[expose] public section

set_option maxRecDepth 16384

noncomputable section

namespace Cert.Gather.Hand

open Cert.Gather Cert.Gather.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable [∀ e, Nonempty (Elt F e)]
variable (m : (ℓ : Loc nD τ sig) → Buf (Elt F) ℓ) (ρ : Dev nD → PrngReg)

/-! ## The proof data -/

abbrev sc0 : Memref sig .tc .smem S1 .i32 := Memref.whole cc0_scratch0

abbrev osem0 : Fin 0 → SemLoc sig := fun j => j.elim0
theorem ownSemFacts0 : Pipeline.OwnSemFacts spec0 osem0 := by decide
theorem H0_sub : (∅ : Finset (Ref sig .tc)) ⊆ Pipeline.restRefs sig spec0 := by decide

theorem PhiD0_eq (c : Dev nD) :
    (Pipeline.ΦD osem0 spec0 ∅ (V m) c : sProp 𝕄)
      = iprop((∃ d, owns (c : Thread nD τ) sc0 fullShare d) ∗ (∃ r, prngReg c r)
          ∗ (Pipeline.ownSems0 (Ix := Unit) (Name := ℕ) (U := Pipeline.UD sig nD τ) (Lvl := ℕ) (Val := Elt F) (τ := τ) osem0 c : sProp 𝕄)
          ∗ (bigSep (∅ : Finset (Ref sig .tc)) (fun b => ((c : Thread nD τ).loc b) ↦{fullShare} V m c b) : sProp 𝕄)) := by
  rw [Pipeline.ΦD_eq, scopedRest0_eq]; simp only [owns_whole]; try rfl

/-- Between points: the pointer, once the first point has run at most the number of tiles, the tiles before it below what was streamed. -/
def PhiT (c : Dev nD) (n : ℕ) : sProp 𝕄 :=
  iprop((∃ p : BitVec 32, ⌜n ≠ 0 → p.toNat ≤ 144 ∧ (Sorted m c → ∀ x : Fin 18432, x.val < 128 * p.toNat → (ur m c x).toNat < 8192 * n)⌝
            ∗ owns (c : Thread nD τ) sc0 fullShare (fun _ => p : Vec F S1 .i32)) ∗ (∃ r, prngReg c r)
          ∗ (Pipeline.ownSems0 (Ix := Unit) (Name := ℕ) (U := Pipeline.UD sig nD τ) (Lvl := ℕ) (Val := Elt F) (τ := τ) osem0 c : sProp 𝕄)
          ∗ (bigSep (∅ : Finset (Ref sig .tc)) (fun b => ((c : Thread nD τ).loc b) ↦{fullShare} V m c b) : sProp 𝕄))

/-- What point `t` leaves in each window: an input as it was, the result up to what was streamed. -/
def aft (c : Dev nD) : (w : Fin 4) → Fin (cfg0 (F := F)).N → (Y X : ((cfg0 (F := F)).win w).block.Idx → Elt F ((cfg0 (F := F)).win w).elt) → Prop
  | 0 => fun _ Y X => X = Y | 1 => fun _ Y X => X = Y | 2 => fun _ Y X => X = Y
  | 3 => fun t _ X => Upto m c (8192 * (t.val + 1)) X

def rdat (c : Dev nD) : Pipeline.RDat τ (Elt F) Unit ℕ (Pipeline.UD sig nD τ) ℕ (cfg0 (F := F)) c where
  A w := V m c (Pipeline.arrRef spec0 w)
  after := aft m c
  Φ t := PhiT m c t.val
  q _ := fullShare
  owed _ := 0

/-! ## What the body finds -/

theorem finds0 (c : Dev nD) (t : Fin (cfg0 (F := F)).N) (Y) (h : (rdat m c).Finds 0 t Y) : Y = iblk m c 0 t := by
  obtain ⟨d, hd⟩ := Pipeline.RDat.finds_in_eq_fetched (rdat m c) 0 rfl (fun _ _ _ => rfl) (fun _ _ _ h => h) t Y h
  exact hd.trans rfl
theorem finds1 (c : Dev nD) (t : Fin (cfg0 (F := F)).N) (Y) (h : (rdat m c).Finds 1 t Y) : Y = iblk m c 1 t := by
  obtain ⟨d, hd⟩ := Pipeline.RDat.finds_in_eq_fetched (rdat m c) 1 rfl (fun _ _ _ => rfl) (fun _ _ _ h => h) t Y h
  exact hd.trans rfl
theorem finds2 (c : Dev nD) (t : Fin (cfg0 (F := F)).N) (Y) (h : (rdat m c).Finds 2 t Y) :
    ∃ d, Y = ((cfg0 (F := F)).win 2).fill ((cfg0 (F := F)).grid.coords t) d (iblk m c 2 t) :=
  Pipeline.RDat.finds_in_eq_fetched (rdat m c) 2 rfl
    (fun t t' h => funext fun a => congrArg (fun n => Pipeline.Clip.of n (((cfg0 (F := F)).win 2).size a) (((cfg0 (F := F)).win 2).shape.size a)) (congrFun h a)) (fun _ _ _ h => h) t Y h

theorem no_fetch3 : ∀ t : Fin (cfg0 (F := F)).N, ((cfg0 (F := F)).win 3).fetch t = false := fun _ => rfl
theorem whole3_win : ∀ t : Fin grid0.N, t.val = 134 → win0_3.WholeAt t := by decide +kernel
theorem whole3 (t : Fin (cfg0 (F := F)).N) (h : t.val = 134) : ((cfg0 (F := F)).win 3).WholeAt t := whole3_win t h
theorem last_lt : 134 < (cfg0 (F := F)).N := show 134 < grid0.N by decide

theorem finds3 (c : Dev nD) (t : Fin (cfg0 (F := F)).N) (Y) (h : (rdat m c).Finds 3 t Y) (ht : t.val ≠ 0) : Upto m c (8192 * t.val) Y := by
  have := ((rdat m c).finds_of_pos (no_fetch3 t) ht Y).mp h
  have htl : t.val < 135 := t.isLt
  obtain ⟨Y', -, hX⟩ := this.resolve_left fun hfl => by
    have e := (whole3 ⟨134, last_lt⟩ rfl).2.1 _ hfl
    have := congrArg Fin.val e
    change t.val - 1 = 134 at this
    omega
  have hX' : Upto m c (8192 * (t.val - 1 + 1)) Y := hX
  rwa [show t.val - 1 + 1 = t.val from by omega] at hX'

/-! ## The body obligation -/

/-- What the gather of a point reads is the list, the list and the table's columns. -/
theorem data (c : Dev nD) (t : Fin (cfg0 (F := F)).N) (d : ((cfg0 (F := F)).win 2).block.Idx → Elt F ((cfg0 (F := F)).win 2).elt) :
    Data (Sorted m c) (grid0.coords t 0).val (iblk m c 0 t : Vec F S18432 .i32) (iblk m c 1 t : Vec F S144x128 .i32)
      (((cfg0 (F := F)).win 2).fill ((cfg0 (F := F)).grid.coords t) d (iblk m c 2 t) : Vec F S320x8192 .i8) (ur m c) (wd m c) where
  list _ x := blk0 m c t x
  tiles _ r l := blk1 m c t r l
  lt h := h.1
  mono h := h.2
  words h R x C hC q hq := by
    have hb := Cert.GatherReference.Hand.bits (F := F) (B0 m c) (B1 m c) R x (ur m c x).toNat (h.1 x) rfl q hq
    rw [blk2 m c t d _ C ⟨(ur m c x).toNat, h.1 x⟩ hC]
    exact hb.symm

theorem defs₀_row (t : Fin (cfg0 (F := F)).N) : defs₀ (F := F) .tc (cfg0 (F := F)).body (cfg0.bodyArgs t (cfg0.slots t)) = bodyAt0 t := by
  unfold defs₀; rw [Defs.onTc_tc]

theorem body_obligation (c : Dev nD) : (rdat m c).BodyObligation (defs₀ (F := F)) Variants.nat () Set.univ := fun t Y hY => by
  rw [bigSep_W0, bigSep_W0, defs₀_row]
  unfold bodyAt0
  rw [show (rdat m c).Φ t.succ = PhiT m c (t.val + 1) from rfl, show (rdat m c).Φ t.castSucc = PhiT m c t.val from rfl]
  unfold PhiT
  unfold Pipeline.RDat.owesAt Pipeline.owesWithin
  rw [show (rdat m c).owed t.castSucc = 0 from rfl, show (rdat m c).owed t.succ = 0 from rfl]
  have e0 := finds0 m c t _ (hY 0)
  have e1 := finds1 m c t _ (hY 1)
  obtain ⟨d, e2⟩ := finds2 m c t _ (hY 2)
  have e3 := finds3 m c t _ (hY 3)
  have hc := coords0 t
  have D : Data (Sorted m c) (grid0.coords t 0).val (Y 0 : Vec F S18432 .i32) (Y 1 : Vec F S144x128 .i32) (Y 2 : Vec F S320x8192 .i8) (ur m c) (wd m c) := by
    rw [e0, e1, e2]; exact data m c t d
  iintro ⟨⟨⟨%p, %hp, HS⟩, Hg, Hq, HH⟩, HO, H0, H1, H2, H3⟩
  iapply (gather_body_run c (grid0.coords t) _ (hstage0_0 _) _ (hstage0_1 _) _ (hstage0_2 _) _ (hstage0_3 _) _ (Memref.isWhole_whole _)
    fullShare fullShare fullShare (Y 0) (Y 1) (Y 2) (Y 3) p
    (fun k => Inv (Sorted m c) (ur m c) (wd m c) (8192 * (grid0.coords t 0).val + 1024 * k)) (strips D)
    (fun hf => ⟨by decide, fun _ => ⟨fun x hx => absurd hx (by simp), fun R x => by
      have h0 := (first_iff t).mp hf
      rw [if_neg (by rw [hc, h0]; simp)]⟩⟩)
    (fun hf => by
      have h0 : t.val ≠ 0 := fun h => hf ((first_iff t).mpr h)
      refine ⟨(hp h0).1, fun hS => ⟨fun x hx => ?_, fun R x => ?_⟩⟩
      · have := (hp h0).2 hS x hx
        rw [hc]; exact this
      · rw [hc]; exact e3 h0 hS R x) _)
  isplitl [H0]; · iexact H0
  isplitl [H1]; · iexact H1
  isplitl [H2]; · iexact H2
  isplitl [H3]; · iexact H3
  isplitl [HS]; · iexact HS
  iintro %r %p' %X %hR H0 H1 H2 H3 HS
  have hL : 8192 * (grid0.coords t 0).val + 1024 * k0_t1_loop.trips = 8192 * (t.val + 1) := by rw [hc, trips_eq]; omega
  rw [hL] at hR
  isplitl [HS Hg Hq HH]
  · isplitl [HS]
    · iexists p'; isplitr; swap; · iexact HS
      ipureintro; exact fun _ => ⟨hR.1, fun hS => (hR.2 hS).1⟩
    isplitl [Hg]; · iexact Hg
    isplitl [Hq]; · iexact Hq
    iexact HH
  isplitl [HO]; · iexact HO
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  · iexists _; isplitr; swap; · iexact H3
    ipureintro; exact fun hS => (hR.2 hS).2

/-! ## The launch -/

theorem hin (c : Dev nD) : (Pipeline.ΦD osem0 spec0 ∅ (V m) c : sProp 𝕄) ⊢ (rdat m c).Φ 0 := by
  rw [PhiD0_eq, show (rdat m c).Φ 0 = PhiT m c 0 from rfl]; unfold PhiT
  iintro ⟨⟨%d, HS⟩, HR⟩
  isplitl [HS]
  · iexists (d (ix1 (0 : Fin 1)) : BitVec 32)
    have hd : (fun _ => d (ix1 (0 : Fin 1)) : Vec F S1 .i32) = d := funext fun i => congrArg d (funext fun a => match a with | ⟨0, _⟩ => Subsingleton.elim (α := Fin 1) _ _)
    rw [hd]
    isplitr; swap; · iexact HS
    ipureintro; exact fun h => absurd rfl h
  iexact HR

theorem hout (c : Dev nD) : (rdat m c).Φ (Fin.last (cfg0 (F := F)).N) ⊢ (Pipeline.ΦD osem0 spec0 ∅ (V m) c : sProp 𝕄) := by
  rw [PhiD0_eq, show (rdat m c).Φ (Fin.last (cfg0 (F := F)).N) = PhiT m c (cfg0 (F := F)).N from rfl]; unfold PhiT
  iintro ⟨⟨%d, %h, HS⟩, HR⟩
  isplitl [HS]
  · iexists _; iexact HS
  iexact HR

set_option backward.isDefEq.respectTransparency.types false in
/-- From any memory with zero counters every weakly fair execution terminates; the arrays end as the proof data allow, every other
    unscoped buffer as the region found it, every counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_dma (Q' := _) cfgs (0 : Fin 1) launch0 osem0 defs₀ Variants.nat (rdat m) ownSemFacts0 ∅ H0_sub m ρ main
    (hbody := body_obligation m) (hshare := fun c w => by unfold Pipeline.RDat.share; split <;> rfl)
    (howed := fun _ _ => rfl) (V := V m) (hmain := hmainD m Variants.nat) (hA := fun _ _ => rfl)
    (hin := hin m) (hout := hout m)

variable {m ρ}

theorem arg1_rest : main_arg1 ∈ Pipeline.restRefs sig spec0 := by decide

theorem final_args {r : PUnit × MemSt nD τ sig (Elt F)} (h : Pipeline.RDat.FramePost (cfgs 0) (rdat (F := F) m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((Pipeline.RDat.ArrAt_in (rdat m c) 0 rfl _ ▸ (h c).1 0 :)).trans (V_main_arg0 m c),
   ((h c).2 main_arg1 arg1_rest).trans (V_main_arg1 m c)⟩

/-- The result at the end, the list in range and in order: the reference's. -/
theorem final3 (c : Dev nD) (h : Sorted m c) (G : Vec F S80x18432 .i32) (hG : (rdat m c).ArrAt 3 (cfg0 (F := F)).N G) :
    G = Cert.GatherReference.Read.val_main_v9 (F := F) (B0 m c) (B1 m c) := by
  obtain ⟨t₀, ht₀⟩ : ∃ t : Fin (cfg0 (F := F)).N, t.val = 134 := ⟨⟨134, last_lt⟩, rfl⟩
  obtain ⟨X, ⟨Y, -, hX⟩, hj⟩ := Pipeline.RDat.ArrAt.emb_eq_of_wholeAt hG (whole3 t₀ ht₀)
  have hX' : Upto m c (8192 * (t₀.val + 1)) X := hX
  funext i
  have h0 : (i 0).val < 80 := (i 0).isLt
  have h1 : (i 1).val < 18432 := (i 1).isLt
  have hi : X (fun a => ⟨i a, (whole3 t₀ ht₀).lt_size i a⟩) = X (ix2 (⟨(i 0).val, h0⟩ : Fin 80) (⟨(i 1).val, h1⟩ : Fin 18432)) :=
    congrArg X (funext fun a => match a with | ⟨0, _⟩ => rfl | ⟨1, _⟩ => rfl)
  have hw := hX' h ⟨(i 0).val, h0⟩ ⟨(i 1).val, h1⟩
  have hlt := h.1 ⟨(i 1).val, h1⟩
  rw [if_pos (by rw [ht₀]; omega)] at hw
  refine (hj i).trans (hi.trans (hw.trans ?_))
  unfold wd
  exact congrArg _ (funext fun a => match a with | ⟨0, _⟩ => rfl | ⟨1, _⟩ => rfl)

end Cert.Gather.Hand

end
-- ==== Proof.lean ====
/-
  The claims: the program and its idealization run and leave their arguments as they were, and so does the reference; the
  idealization's results are the reference's. The gather and its reference run and leave their arguments as they were, and where the
  list of rows is in range and in order the two leave the same bits.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tables_of_occurrences
public import proofs.«01_k».proof.Proof.Gen.ReferenceIdeal.Run
public import proofs.«01_k».proof.Proof.Gen.ReferenceIdeal.Read
public import proofs.«01_k».proof.Proof.Run
public import proofs.«01_k».proof.Proof.RunBits
public import proofs.«01_k».proof.Proof.Windows
public import proofs.«01_k».proof.Proof.Gen.Gather
public import proofs.«01_k».proof.Proof.Gen.GatherReference
public import proofs.«01_k».proof.Proof.Gen.Pre_rows_sorted
public import proofs.«01_k».proof.Proof.GatherPre
public import proofs.«01_k».proof.Proof.GatherRun
public import Idealize.ShloMosaic.Adequacy
public import Idealize.ShloMosaic.Init

@[expose] public section

noncomputable section

namespace Cert.Proof

open Idealize.ShloMosaic Idealize.ShloMosaic.TcCoe

theorem frame_kernel : Cert.quiescent_Kernel (hKernel := Cert.Kernel.Gen.facts) := fun m g _ =>
  (θ_run _ _ _).mono (fun r (h : _ ∧ _) => ⟨fun c => Cert.Kernel.Hand.final_args h.1 c, h.2⟩) (Cert.Kernel.Hand.run_main (F := Bits) m g)

theorem frame_ideal : Cert.quiescent_KernelIdeal (hKernelIdeal := Cert.KernelIdeal.Gen.facts) := fun m g _ =>
  (θ_run _ _ _).mono (fun r (h : _ ∧ _) => ⟨fun c => Cert.KernelIdeal.Hand.final_args h.1 c, h.2⟩) (Cert.KernelIdeal.Hand.run_main (F := Ideal) m g)

/-- The reference declares no semaphore, so every counter is at zero. -/
theorem sem_reference (f : Thread Cert.ReferenceIdeal.nD Cert.ReferenceIdeal.τ × SemLoc Cert.ReferenceIdeal.sig → Int) : f = fun _ => 0 :=
  funext fun ⟨_, s⟩ => by rcases s with i | i <;> exact i.elim0

theorem frame_reference : Cert.quiescent_ReferenceIdeal (hReferenceIdeal := Cert.ReferenceIdeal.Gen.facts) := fun m g _ =>
  (θ_run _ _ _).mono (fun r h => ⟨fun c => (h c).2.2.2.2, sem_reference r.2.sem⟩) (Cert.ReferenceIdeal.Value.run (F := Ideal) m g)

theorem algebraic : Cert.algebraic_KernelIdeal_ReferenceIdeal_pre_tables_of_occurrences (hKernelIdeal := Cert.KernelIdeal.Gen.facts)
    (hReferenceIdeal := Cert.ReferenceIdeal.Gen.facts) (hPre_tables_of_occurrences := Cert.Pre_tables_of_occurrences.Gen.facts) := by
  intro m g m' g' hpre hargs
  have hP : ∀ c, Cert.KernelIdeal.Hand.PreAt m c := fun c => hpre c
  refine ⟨fun c => Cert.ReferenceIdeal.Read.val_main_v73 (F := Ideal) (Cert.KernelIdeal.Hand.A2 m c) (Cert.KernelIdeal.Hand.A3 m c) (Cert.KernelIdeal.Hand.A4 m c)
      (Cert.KernelIdeal.Hand.A5 m c) (Cert.KernelIdeal.Hand.A6 m c) (Cert.KernelIdeal.Hand.A7 m c) (Cert.KernelIdeal.Hand.A8 m c),
    fun c => Cert.ReferenceIdeal.Read.val_main_v74 (F := Ideal) (Cert.KernelIdeal.Hand.A2 m c) (Cert.KernelIdeal.Hand.A3 m c) (Cert.KernelIdeal.Hand.A4 m c)
      (Cert.KernelIdeal.Hand.A5 m c) (Cert.KernelIdeal.Hand.A6 m c) (Cert.KernelIdeal.Hand.A7 m c) (Cert.KernelIdeal.Hand.A8 m c),
    fun c => Cert.ReferenceIdeal.Read.val_main_v75 (F := Ideal) (Cert.KernelIdeal.Hand.A2 m c) (Cert.KernelIdeal.Hand.A3 m c) (Cert.KernelIdeal.Hand.A4 m c)
      (Cert.KernelIdeal.Hand.A5 m c) (Cert.KernelIdeal.Hand.A6 m c) (Cert.KernelIdeal.Hand.A7 m c) (Cert.KernelIdeal.Hand.A8 m c),
    fun c => Cert.ReferenceIdeal.Read.val_main_v76 (F := Ideal) (Cert.KernelIdeal.Hand.A5 m c) (Cert.KernelIdeal.Hand.A6 m c) (Cert.KernelIdeal.Hand.A7 m c)
      (Cert.KernelIdeal.Hand.A8 m c), ?_, ?_⟩
  · refine (θ_run _ _ _).mono (fun r (h : _ ∧ _) c => ?_) (Cert.KernelIdeal.Hand.run_main (F := Ideal) m g)
    exact ⟨Cert.KernelIdeal.Hand.final7 (hP c) _ ((h.1 c).1 7), Cert.KernelIdeal.Hand.final8 (hP c) _ ((h.1 c).1 8),
      Cert.KernelIdeal.Hand.final9 (hP c) _ ((h.1 c).1 9), Cert.KernelIdeal.Hand.final10 (hP c) _ ((h.1 c).1 10),
      Cert.KernelIdeal.Hand.final_args h.1 c⟩
  · refine (θ_run _ _ _).mono (fun r h c => ?_) (Cert.ReferenceIdeal.Value.run (F := Ideal) m' g')
    obtain ⟨r0, r1, r2, r3, rest⟩ := h c
    obtain ⟨-, -, a2, a3, a4, a5, a6, a7, a8⟩ := hargs c
    rw [Cert.ReferenceIdeal.Read.val_main_v73_eq, a2, a3, a4, a5, a6, a7, a8] at r0
    rw [Cert.ReferenceIdeal.Read.val_main_v74_eq, a2, a3, a4, a5, a6, a7, a8] at r1
    rw [Cert.ReferenceIdeal.Read.val_main_v75_eq, a2, a3, a4, a5, a6, a7, a8] at r2
    have r3' := r3.trans (Cert.ReferenceIdeal.Read.val_main_v76_eq _ _ _ _)
    rw [a5, a6, a7, a8] at r3'
    exact ⟨r0, r1, r2, r3', rest⟩

theorem frame_gather : Cert.quiescent_Gather (hGather := Cert.Gather.Gen.facts) := fun m g _ =>
  (θ_run _ _ _).mono (fun r (h : _ ∧ _) => ⟨fun c => Cert.Gather.Hand.final_args h.1 c, h.2⟩) (Cert.Gather.Hand.run_main (F := Bits) m g)

/-- The gather's reference declares no semaphore, so every counter is at zero. -/
theorem sem_gather_reference (f : Thread Cert.GatherReference.nD Cert.GatherReference.τ × SemLoc Cert.GatherReference.sig → Int) : f = fun _ => 0 :=
  funext fun ⟨_, s⟩ => by rcases s with i | i <;> exact i.elim0

theorem frame_gather_reference : Cert.quiescent_GatherReference (hGatherReference := Cert.GatherReference.Gen.facts) := fun m g _ =>
  (θ_run _ _ _).mono (fun r h => ⟨fun c => (h c).2, sem_gather_reference r.2.sem⟩) (Cert.GatherReference.Value.run (F := Bits) m g)

theorem bitexact_gather : Cert.bitexact_Gather_GatherReference_pre_rows_sorted (hGather := Cert.Gather.Gen.facts)
    (hGatherReference := Cert.GatherReference.Gen.facts) (hPre_rows_sorted := Cert.Pre_rows_sorted.Gen.facts) := by
  intro m g m' g' hpre hargs
  have hS : ∀ c, Cert.Gather.Hand.Sorted m c := fun c =>
    ⟨fun x => Cert.PreRows.range _ _ (hpre c).1 x,
     fun x y hxy => Cert.PreRows.mono _ _ (hpre c).1 (hpre c).2 x (y.val - x.val) y (by omega)⟩
  refine ⟨fun c => Cert.GatherReference.Read.val_main_v9 (F := Bits) (Cert.Gather.Hand.B0 m c) (Cert.Gather.Hand.B1 m c), ?_, ?_⟩
  · refine (θ_run _ _ _).mono (fun r (h : _ ∧ _) c => ?_) (Cert.Gather.Hand.run_main (F := Bits) m g)
    exact ⟨Cert.Gather.Hand.final3 c (hS c) _ ((h.1 c).1 3), Cert.Gather.Hand.final_args h.1 c⟩
  · refine (θ_run _ _ _).mono (fun r h c => ?_) (Cert.GatherReference.Value.run (F := Bits) m' g')
    obtain ⟨r0, rest⟩ := h c
    obtain ⟨a0, a1⟩ := hargs c
    rw [Cert.GatherReference.Read.val_main_v9_eq, a0, a1] at r0
    exact ⟨r0, rest⟩

theorem claim : Cert.Claim :=
  ⟨Cert.Kernel.Gen.facts, Cert.KernelIdeal.Gen.facts, Cert.ReferenceIdeal.Gen.facts, Cert.Gather.Gen.facts, Cert.GatherReference.Gen.facts,
    Cert.Pre_tables_of_occurrences.Gen.facts, Cert.Pre_rows_sorted.Gen.facts,
    frame_kernel, frame_ideal, fun m g _ => frame_ideal m g trivial, frame_reference, fun m g _ => frame_reference m g trivial,
    frame_gather, fun m g _ => frame_gather m g trivial, frame_gather_reference, fun m g _ => frame_gather_reference m g trivial, trivial,
    algebraic, bitexact_gather⟩

end Cert.Proof

end
